-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_v29) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x6144x5120 : Shape := ⟨3, ![4, 6144, 5120]⟩
abbrev S5120 : Shape := ⟨1, ![5120]⟩
abbrev S5120x1792 : Shape := ⟨2, ![5120, 1792]⟩
abbrev S40x14 : Shape := ⟨2, ![40, 14]⟩
abbrev S4 : Shape := ⟨1, ![4]⟩
abbrev S_ : Shape := ⟨0, ![]⟩

class Facts : Prop where
  bitsLt_bf16_f32 : FTy.bits .bf16 < FTy.bits .f32
  bcast_S_S5120 : S_.BroadcastsInDim S5120 (![] : Fin 0 → Fin S5120.rank)
  reducesTo_S5120_S_d0 : S5120.ReducesTo [0] S_
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : FVec F S4x6144x5120 .bf16) (main_arg1 : FVec F S5120 .bf16) (main_arg2 : FVec F S5120x1792 .fp8e4m3) (main_arg3 : FVec F S40x14 .f32) (main_arg4 : IVec S4 32) : IVec S_ 1 :=
  let main_v0 : FVec F S5120 .f32 := (extf .f32 · bitsLt_bf16_f32) main_arg1
  let main_v1 : FVec F S5120 .f32 := Host.absf main_v0
  let main_cst : FVec F S_ .f32 := constant S_ .f32 0x7F7F0000#32
  let main_v2 : FVec F S5120 .f32 := broadcastInDim S5120 ![] bcast_S_S5120 main_cst
  let main_v3 : IVec S5120 1 := cmpf .ole main_v1 main_v2
  let main_c : IVec S_ 1 := constantI S_ 1 1#1
  let main_v4 : IVec S_ 1 := (fun x v => Host.reduce IntOp.andi x v reducesTo_S5120_S_d0 h_S_) main_v3 main_c
  let main_c_0 : IVec S_ 32 := constantI S_ 32 2147477504#32
  let main_v5 : IVec S4 32 := broadcastInDim S4 ![] bcast_S_S4 main_c_0
  let main_v6 : IVec S4 1 := cmpi .sle main_arg4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v4 main_v7
  main_v8
-- ==== Kernel.lean ====
abbrev S4x6144x5120 : Shape := ⟨3, ![4, 6144, 5120]⟩
abbrev S5120 : Shape := ⟨1, ![5120]⟩
abbrev S5120x1792 : Shape := ⟨2, ![5120, 1792]⟩
abbrev S40x14 : Shape := ⟨2, ![40, 14]⟩
abbrev S4 : Shape := ⟨1, ![4]⟩
abbrev S128 : Shape := ⟨1, ![128]⟩
abbrev S1x128 : Shape := ⟨2, ![1, 128]⟩
abbrev S1x5120 : Shape := ⟨2, ![1, 5120]⟩
abbrev S4x6144x10x128 : Shape := ⟨4, ![4, 6144, 10, 128]⟩
abbrev S4x6144x2x128 : Shape := ⟨4, ![4, 6144, 2, 128]⟩
abbrev S4x6144x40 : Shape := ⟨3, ![4, 6144, 40]⟩
abbrev S1x256x5120 : Shape := ⟨3, ![1, 256, 5120]⟩
abbrev S1x256x10x128 : Shape := ⟨4, ![1, 256, 10, 128]⟩
abbrev S1x256x2x128 : Shape := ⟨4, ![1, 256, 2, 128]⟩
abbrev S1x256x40 : Shape := ⟨3, ![1, 256, 40]⟩
abbrev S2x256x5120 : Shape := ⟨3, ![2, 256, 5120]⟩
abbrev S2x256x128 : Shape := ⟨3, ![2, 256, 128]⟩
abbrev S1x1 : Shape := ⟨2, ![1, 1]⟩
abbrev S128x128 : Shape := ⟨2, ![128, 128]⟩
abbrev S256x128 : Shape := ⟨2, ![256, 128]⟩
abbrev S1x256x128 : Shape := ⟨3, ![1, 256, 128]⟩
abbrev S1x32x5120 : Shape := ⟨3, ![1, 32, 5120]⟩
abbrev S32x5120 : Shape := ⟨2, ![32, 5120]⟩
abbrev S32 : Shape := ⟨1, ![32]⟩
abbrev S32x1 : Shape := ⟨2, ![32, 1]⟩
abbrev S32x128 : Shape := ⟨2, ![32, 128]⟩
abbrev S1x32x128 : Shape := ⟨3, ![1, 32, 128]⟩
abbrev S32x40 : Shape := ⟨2, ![32, 40]⟩
abbrev S1x32x40 : Shape := ⟨3, ![1, 32, 40]⟩
abbrev S1 : Shape := ⟨1, ![1]⟩
abbrev S8x128 : Shape := ⟨2, ![8, 128]⟩
abbrev S256x5120 : Shape := ⟨2, ![256, 5120]⟩
abbrev S256x1792 : Shape := ⟨2, ![256, 1792]⟩
abbrev S1x256x1x128 : Shape := ⟨4, ![1, 256, 1, 128]⟩

abbrev nBuf : Space → Nat
  | .hbm => 13
  | .vmem => 18
  | .smem => 2
  | _ => 0

abbrev bufTy : (tb : Table) → Fin (tcTables nBuf tb) → BufTy
  | .hbm, ⟨0, _⟩ => ⟨S4x6144x5120, .bf16⟩
  | .hbm, ⟨1, _⟩ => ⟨S5120, .bf16⟩
  | .hbm, ⟨2, _⟩ => ⟨S5120x1792, .fp8e4m3⟩
  | .hbm, ⟨3, _⟩ => ⟨S40x14, .f32⟩
  | .hbm, ⟨4, _⟩ => ⟨S128, .f32⟩
  | .hbm, ⟨5, _⟩ => ⟨S1x128, .f32⟩
  | .hbm, ⟨6, _⟩ => ⟨S5120, .f32⟩
  | .hbm, ⟨7, _⟩ => ⟨S1x5120, .f32⟩
  | .hbm, ⟨8, _⟩ => ⟨S4x6144x10x128, .bf16⟩
  | .hbm, ⟨9, _⟩ => ⟨S4x6144x2x128, .bf16⟩
  | .hbm, ⟨10, _⟩ => ⟨S4x6144x2x128, .bf16⟩
  | .hbm, ⟨11, _⟩ => ⟨S4x6144x5120, .fp8e4m3⟩
  | .hbm, ⟨12, _⟩ => ⟨S4x6144x40, .f32⟩
  | .local _ .vmem, ⟨0, _⟩ => ⟨S1x256x5120, .bf16⟩
  | .local _ .vmem, ⟨1, _⟩ => ⟨S1x256x5120, .bf16⟩
  | .local _ .vmem, ⟨2, _⟩ => ⟨S1x5120, .f32⟩
  | .local _ .vmem, ⟨3, _⟩ => ⟨S5120x1792, .fp8e4m3⟩
  | .local _ .vmem, ⟨4, _⟩ => ⟨S1x128, .f32⟩
  | .local _ .vmem, ⟨5, _⟩ => ⟨S1x256x10x128, .bf16⟩
  | .local _ .vmem, ⟨6, _⟩ => ⟨S1x256x10x128, .bf16⟩
  | .local _ .vmem, ⟨7, _⟩ => ⟨S1x256x2x128, .bf16⟩
  | .local _ .vmem, ⟨8, _⟩ => ⟨S1x256x2x128, .bf16⟩
  | .local _ .vmem, ⟨9, _⟩ => ⟨S1x256x2x128, .bf16⟩
  | .local _ .vmem, ⟨10, _⟩ => ⟨S1x256x2x128, .bf16⟩
  | .local _ .vmem, ⟨11, _⟩ => ⟨S1x256x5120, .fp8e4m3⟩
  | .local _ .vmem, ⟨12, _⟩ => ⟨S1x256x5120, .fp8e4m3⟩
  | .local _ .vmem, ⟨13, _⟩ => ⟨S1x256x40, .f32⟩
  | .local _ .vmem, ⟨14, _⟩ => ⟨S1x256x40, .f32⟩
  | .local _ .vmem, ⟨15, _⟩ => ⟨S5120x1792, .bf16⟩
  | .local _ .vmem, ⟨16, _⟩ => ⟨S2x256x5120, .bf16⟩
  | .local _ .vmem, ⟨17, _⟩ => ⟨S2x256x128, .f32⟩
  | .local _ .smem, ⟨0, _⟩ => ⟨S4, .i32⟩
  | .local _ .smem, ⟨1, _⟩ => ⟨S40x14, .f32⟩
  | _, _ => ⟨S4x6144x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_stg3_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![97], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_5 : BitVec 32 := 0#32
  let c40_i32 : BitVec 32 := 40#32
  let v11 : BitVec 32 := Scalar.addi c0_i32_5 c40_i32
  let c1_i32 : BitVec 32 := 1#32
  ⟨c0_i32_5, v11, c1_i32⟩
def k0_mult1 (k0_t1 : Fin k0_t1_loop.trips) : BitVec 32 :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let c128_i32 : BitVec 32 := 128#32
  let v29 : BitVec 32 := Scalar.muli v28 c128_i32
  v29
def k0_off1 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let v31 : Index := Scalar.indexCast v28
  let c0_18 : Index := 0#32
  ![v31.toNat, 0]
def k0_off2 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let c128_i32 : BitVec 32 := 128#32
  let v29 : BitVec 32 := Scalar.muli v28 c128_i32
  let v30 : BitVec 32 := v29
  let v34 : Index := Scalar.indexCast v30
  let c0_19 : Index := 0#32
  ![v34.toNat, 0]
def k0_off3 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let v43 : Index := Scalar.indexCast v28
  let c1_21 : Index := 1#32
  ![v43.toNat, 1]
def k0_off4 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let c128_i32 : BitVec 32 := 128#32
  let v29 : BitVec 32 := Scalar.muli v28 c128_i32
  let v30 : BitVec 32 := v29
  let v46 : Index := Scalar.indexCast v30
  let c128 : Index := 128#32
  ![v46.toNat, 128]
def k0_off5 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let v55 : Index := Scalar.indexCast v28
  let c2 : Index := 2#32
  ![v55.toNat, 2]
def k0_off6 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let c128_i32 : BitVec 32 := 128#32
  let v29 : BitVec 32 := Scalar.muli v28 c128_i32
  let v30 : BitVec 32 := v29
  let v58 : Index := Scalar.indexCast v30
  let c256 : Index := 256#32
  ![v58.toNat, 256]
def k0_off7 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let v67 : Index := Scalar.indexCast v28
  let c3 : Index := 3#32
  ![v67.toNat, 3]
def k0_off8 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let c128_i32 : BitVec 32 := 128#32
  let v29 : BitVec 32 := Scalar.muli v28 c128_i32
  let v30 : BitVec 32 := v29
  let v70 : Index := Scalar.indexCast v30
  let c384 : Index := 384#32
  ![v70.toNat, 384]
def k0_off9 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let v79 : Index := Scalar.indexCast v28
  let c4 : Index := 4#32
  ![v79.toNat, 4]
def k0_off10 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let c128_i32 : BitVec 32 := 128#32
  let v29 : BitVec 32 := Scalar.muli v28 c128_i32
  let v30 : BitVec 32 := v29
  let v82 : Index := Scalar.indexCast v30
  let c512 : Index := 512#32
  ![v82.toNat, 512]
def k0_off11 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let v91 : Index := Scalar.indexCast v28
  let c5 : Index := 5#32
  ![v91.toNat, 5]
def k0_off12 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let c128_i32 : BitVec 32 := 128#32
  let v29 : BitVec 32 := Scalar.muli v28 c128_i32
  let v30 : BitVec 32 := v29
  let v94 : Index := Scalar.indexCast v30
  let c640 : Index := 640#32
  ![v94.toNat, 640]
def k0_off13 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let v103 : Index := Scalar.indexCast v28
  let c6 : Index := 6#32
  ![v103.toNat, 6]
def k0_off14 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let c128_i32 : BitVec 32 := 128#32
  let v29 : BitVec 32 := Scalar.muli v28 c128_i32
  let v30 : BitVec 32 := v29
  let v106 : Index := Scalar.indexCast v30
  let c768 : Index := 768#32
  ![v106.toNat, 768]
def k0_off15 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let v115 : Index := Scalar.indexCast v28
  let c7 : Index := 7#32
  ![v115.toNat, 7]
def k0_off16 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let c128_i32 : BitVec 32 := 128#32
  let v29 : BitVec 32 := Scalar.muli v28 c128_i32
  let v30 : BitVec 32 := v29
  let v118 : Index := Scalar.indexCast v30
  let c896 : Index := 896#32
  ![v118.toNat, 896]
def k0_off17 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let v127 : Index := Scalar.indexCast v28
  let c8 : Index := 8#32
  ![v127.toNat, 8]
def k0_off18 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let c128_i32 : BitVec 32 := 128#32
  let v29 : BitVec 32 := Scalar.muli v28 c128_i32
  let v30 : BitVec 32 := v29
  let v130 : Index := Scalar.indexCast v30
  let c1024 : Index := 1024#32
  ![v130.toNat, 1024]
def k0_off19 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let v139 : Index := Scalar.indexCast v28
  let c9 : Index := 9#32
  ![v139.toNat, 9]
def k0_off20 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let c128_i32 : BitVec 32 := 128#32
  let v29 : BitVec 32 := Scalar.muli v28 c128_i32
  let v30 : BitVec 32 := v29
  let v142 : Index := Scalar.indexCast v30
  let c1152 : Index := 1152#32
  ![v142.toNat, 1152]
def k0_off21 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let v151 : Index := Scalar.indexCast v28
  let c10 : Index := 10#32
  ![v151.toNat, 10]
def k0_off22 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let c128_i32 : BitVec 32 := 128#32
  let v29 : BitVec 32 := Scalar.muli v28 c128_i32
  let v30 : BitVec 32 := v29
  let v154 : Index := Scalar.indexCast v30
  let c1280 : Index := 1280#32
  ![v154.toNat, 1280]
def k0_off23 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let v163 : Index := Scalar.indexCast v28
  let c11 : Index := 11#32
  ![v163.toNat, 11]
def k0_off24 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let c128_i32 : BitVec 32 := 128#32
  let v29 : BitVec 32 := Scalar.muli v28 c128_i32
  let v30 : BitVec 32 := v29
  let v166 : Index := Scalar.indexCast v30
  let c1408 : Index := 1408#32
  ![v166.toNat, 1408]
def k0_off25 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let v175 : Index := Scalar.indexCast v28
  let c12 : Index := 12#32
  ![v175.toNat, 12]
def k0_off26 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let c128_i32 : BitVec 32 := 128#32
  let v29 : BitVec 32 := Scalar.muli v28 c128_i32
  let v30 : BitVec 32 := v29
  let v178 : Index := Scalar.indexCast v30
  let c1536 : Index := 1536#32
  ![v178.toNat, 1536]
def k0_off27 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let v187 : Index := Scalar.indexCast v28
  let c13 : Index := 13#32
  ![v187.toNat, 13]
def k0_off28 (k0_t1 : Fin k0_t1_loop.trips) : Fin 2 → Nat :=
  let c0_i32_17 : BitVec 32 := 0#32
  let c0_i32_5 : BitVec 32 := 0#32
  let c1_i32 : BitVec 32 := 1#32
  let arg15 : BitVec 32 := Scf.iv c0_i32_5 c1_i32 k0_t1
  let c1_i32_16 : BitVec 32 := 1#32
  let v27 : BitVec 32 := Scalar.muli arg15 c1_i32_16
  let v28 : BitVec 32 := Scalar.addi c0_i32_17 v27
  let c128_i32 : BitVec 32 := 128#32
  let v29 : BitVec 32 := Scalar.muli v28 c128_i32
  let v30 : BitVec 32 := v29
  let v190 : Index := Scalar.indexCast v30
  let c1664 : Index := 1664#32
  ![v190.toNat, 1664]
@[reducible] def k0_t2_loop : Scf.Loop 32 :=
  let c0_i32_13 : BitVec 32 := 0#32
  let c8_i32 : BitVec 32 := 8#32
  let v26 : BitVec 32 := Scalar.addi c0_i32_13 c8_i32
  let c1_i32_14 : BitVec 32 := 1#32
  ⟨c0_i32_13, v26, c1_i32_14⟩
def k0_mult2 (k0_t2 : Fin k0_t2_loop.trips) : BitVec 32 :=
  let c0_i32_17 : BitVec 32 := 0#32
  let c0_i32_13 : BitVec 32 := 0#32
  let c1_i32_14 : BitVec 32 := 1#32
  let arg15 : BitVec 32 := Scf.iv c0_i32_13 c1_i32_14 k0_t2
  let c1_i32_16 : BitVec 32 := 1#32
  let v27 : BitVec 32 := Scalar.muli arg15 c1_i32_16
  let v28 : BitVec 32 := Scalar.addi c0_i32_17 v27
  let c32_i32 : BitVec 32 := 32#32
  let v29 : BitVec 32 := Scalar.muli v28 c32_i32
  v29
def k0_off29 (k0_t2 : Fin k0_t2_loop.trips) : Fin 3 → Nat :=
  let c0_18 : Index := 0#32
  let c0_i32_17 : BitVec 32 := 0#32
  let c0_i32_13 : BitVec 32 := 0#32
  let c1_i32_14 : BitVec 32 := 1#32
  let arg15 : BitVec 32 := Scf.iv c0_i32_13 c1_i32_14 k0_t2
  let c1_i32_16 : BitVec 32 := 1#32
  let v27 : BitVec 32 := Scalar.muli arg15 c1_i32_16
  let v28 : BitVec 32 := Scalar.addi c0_i32_17 v27
  let c32_i32 : BitVec 32 := 32#32
  let v29 : BitVec 32 := Scalar.muli v28 c32_i32
  let v30 : BitVec 32 := v29
  let v31 : Index := Scalar.indexCast v30
  let c0_19 : Index := 0#32
  ![0, v31.toNat, 0]
@[reducible] def k0_t3_loop : Scf.Loop 32 :=
  let c0_i32_23 : BitVec 32 := 0#32
  let c40_i32_24 : BitVec 32 := 40#32
  let v45 : BitVec 32 := Scalar.addi c0_i32_23 c40_i32_24
  let c1_i32_25 : BitVec 32 := 1#32
  ⟨c0_i32_23, v45, c1_i32_25⟩
def k0_mult3 (k0_t3 : Fin k0_t3_loop.trips) : BitVec 32 :=
  let c0_i32_23 : BitVec 32 := 0#32
  let c1_i32_25 : BitVec 32 := 1#32
  let arg16 : BitVec 32 := Scf.iv c0_i32_23 c1_i32_25 k0_t3
  let c128_i32 : BitVec 32 := 128#32
  let v52 : BitVec 32 := Scalar.muli arg16 c128_i32
  v52
def k0_off30 (k0_t2 : Fin k0_t2_loop.trips) (k0_t3 : Fin k0_t3_loop.trips) : Fin 3 → Nat :=
  let c0_29 : Index := 0#32
  let c0_i32_17 : BitVec 32 := 0#32
  let c0_i32_13 : BitVec 32 := 0#32
  let c1_i32_14 : BitVec 32 := 1#32
  let arg15 : BitVec 32 := Scf.iv c0_i32_13 c1_i32_14 k0_t2
  let c1_i32_16 : BitVec 32 := 1#32
  let v27 : BitVec 32 := Scalar.muli arg15 c1_i32_16
  let v28 : BitVec 32 := Scalar.addi c0_i32_17 v27
  let c32_i32 : BitVec 32 := 32#32
  let v29 : BitVec 32 := Scalar.muli v28 c32_i32
  let v30 : BitVec 32 := v29
  let v54 : Index := Scalar.indexCast v30
  let c0_i32_23 : BitVec 32 := 0#32
  let c1_i32_25 : BitVec 32 := 1#32
  let arg16 : BitVec 32 := Scf.iv c0_i32_23 c1_i32_25 k0_t3
  let c128_i32 : BitVec 32 := 128#32
  let v52 : BitVec 32 := Scalar.muli arg16 c128_i32
  let v53 : BitVec 32 := v52
  let v55 : Index := Scalar.indexCast v53
  ![0, v54.toNat, v55.toNat]
def k0_off31 (k0_t3 : Fin k0_t3_loop.trips) : Fin 2 → Nat :=
  let c0_30 : Index := 0#32
  let c0_i32_23 : BitVec 32 := 0#32
  let c1_i32_25 : BitVec 32 := 1#32
  let arg16 : BitVec 32 := Scf.iv c0_i32_23 c1_i32_25 k0_t3
  let c128_i32 : BitVec 32 := 128#32
  let v52 : BitVec 32 := Scalar.muli arg16 c128_i32
  let v53 : BitVec 32 := v52
  let v61 : Index := Scalar.indexCast v53
  ![0, v61.toNat]
def k0_off32 (i : grid0.Coords) (k0_t2 : Fin k0_t2_loop.trips) (k0_t3 : Fin k0_t3_loop.trips) : Fin 3 → Nat :=
  let arg0 : BitVec 32 := BitVec.ofNat 32 (i 0).val
  let c2_i32 : BitVec 32 := 2#32
  let v25 : BitVec 32 := Scalar.remsi arg0 c2_i32
  let v140 : Index := Scalar.indexCast v25
  let c0_i32_17 : BitVec 32 := 0#32
  let c0_i32_13 : BitVec 32 := 0#32
  let c1_i32_14 : BitVec 32 := 1#32
  let arg15 : BitVec 32 := Scf.iv c0_i32_13 c1_i32_14 k0_t2
  let c1_i32_16 : BitVec 32 := 1#32
  let v27 : BitVec 32 := Scalar.muli arg15 c1_i32_16
  let v28 : BitVec 32 := Scalar.addi c0_i32_17 v27
  let c32_i32 : BitVec 32 := 32#32
  let v29 : BitVec 32 := Scalar.muli v28 c32_i32
  let v30 : BitVec 32 := v29
  let v141 : Index := Scalar.indexCast v30
  let c0_i32_23 : BitVec 32 := 0#32
  let c1_i32_25 : BitVec 32 := 1#32
  let arg16 : BitVec 32 := Scf.iv c0_i32_23 c1_i32_25 k0_t3
  let c128_i32 : BitVec 32 := 128#32
  let v52 : BitVec 32 := Scalar.muli arg16 c128_i32
  let v53 : BitVec 32 := v52
  let v142 : Index := Scalar.indexCast v53
  ![v140.toNat, v141.toNat, v142.toNat]
def k0_off33 (k0_t2 : Fin k0_t2_loop.trips) : Fin 3 → Nat :=
  let c0_27 : Index := 0#32
  let c0_i32_17 : BitVec 32 := 0#32
  let c0_i32_13 : BitVec 32 := 0#32
  let c1_i32_14 : BitVec 32 := 1#32
  let arg15 : BitVec 32 := Scf.iv c0_i32_13 c1_i32_14 k0_t2
  let c1_i32_16 : BitVec 32 := 1#32
  let v27 : BitVec 32 := Scalar.muli arg15 c1_i32_16
  let v28 : BitVec 32 := Scalar.addi c0_i32_17 v27
  let c32_i32 : BitVec 32 := 32#32
  let v29 : BitVec 32 := Scalar.muli v28 c32_i32
  let v30 : BitVec 32 := v29
  let v48 : Index := Scalar.indexCast v30
  let c0_28 : Index := 0#32
  ![0, v48.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c96_i32 : BitVec 32 := 96#32
  let v4 : BitVec 1 := Scalar.cmpi .slt arg0 c96_i32
  let v5 : BitVec 1 := Scalar.andi v3 v4
  let v6 : BitVec 32 := Scalar.extui v5
  let c0_i32_2 : BitVec 32 := 0#32
  let v7 : BitVec 1 := Scalar.cmpi .ne v6 c0_i32_2
  v7

@[reducible] def k0_t4_loop : Scf.Loop 32 :=
  let c0_i32_5 : BitVec 32 := 0#32
  let c8_i32 : BitVec 32 := 8#32
  let v12 : BitVec 32 := Scalar.addi c0_i32_5 c8_i32
  let c1_i32 : BitVec 32 := 1#32
  ⟨c0_i32_5, v12, c1_i32⟩
def k0_mult4 (k0_t4 : Fin k0_t4_loop.trips) : BitVec 32 :=
  let c0_i32_83 : BitVec 32 := 0#32
  let c0_i32_5 : BitVec 32 := 0#32
  let c1_i32 : BitVec 32 := 1#32
  let arg15 : BitVec 32 := Scf.iv c0_i32_5 c1_i32 k0_t4
  let c1_i32_82 : BitVec 32 := 1#32
  let v176 : BitVec 32 := Scalar.muli arg15 c1_i32_82
  let v177 : BitVec 32 := Scalar.addi c0_i32_83 v176
  let c32_i32 : BitVec 32 := 32#32
  let v178 : BitVec 32 := Scalar.muli v177 c32_i32
  v178
def k0_off34 (k0_t4 : Fin k0_t4_loop.trips) : Fin 3 → Nat :=
  let c0_84 : Index := 0#32
  let c0_i32_83 : BitVec 32 := 0#32
  let c0_i32_5 : BitVec 32 := 0#32
  let c1_i32 : BitVec 32 := 1#32
  let arg15 : BitVec 32 := Scf.iv c0_i32_5 c1_i32 k0_t4
  let c1_i32_82 : BitVec 32 := 1#32
  let v176 : BitVec 32 := Scalar.muli arg15 c1_i32_82
  let v177 : BitVec 32 := Scalar.addi c0_i32_83 v176
  let c32_i32 : BitVec 32 := 32#32
  let v178 : BitVec 32 := Scalar.muli v177 c32_i32
  let v179 : BitVec 32 := v178
  let v180 : Index := Scalar.indexCast v179
  let c0_85 : Index := 0#32
  ![0, v180.toNat, 0]
@[reducible] def k0_t5_loop : Scf.Loop 32 :=
  let c0_i32_90 : BitVec 32 := 0#32
  let c40_i32 : BitVec 32 := 40#32
  let v194 : BitVec 32 := Scalar.addi c0_i32_90 c40_i32
  let c1_i32_91 : BitVec 32 := 1#32
  ⟨c0_i32_90, v194, c1_i32_91⟩
def k0_mult5 (k0_t5 : Fin k0_t5_loop.trips) : BitVec 32 :=
  let c0_i32_90 : BitVec 32 := 0#32
  let c1_i32_91 : BitVec 32 := 1#32
  let arg16 : BitVec 32 := Scf.iv c0_i32_90 c1_i32_91 k0_t5
  let c128_i32 : BitVec 32 := 128#32
  let v201 : BitVec 32 := Scalar.muli arg16 c128_i32
  v201
def k0_off35 (k0_t4 : Fin k0_t4_loop.trips) (k0_t5 : Fin k0_t5_loop.trips) : Fin 3 → Nat :=
  let c0_95 : Index := 0#32
  let c0_i32_83 : BitVec 32 := 0#32
  let c0_i32_5 : BitVec 32 := 0#32
  let c1_i32 : BitVec 32 := 1#32
  let arg15 : BitVec 32 := Scf.iv c0_i32_5 c1_i32 k0_t4
  let c1_i32_82 : BitVec 32 := 1#32
  let v176 : BitVec 32 := Scalar.muli arg15 c1_i32_82
  let v177 : BitVec 32 := Scalar.addi c0_i32_83 v176
  let c32_i32 : BitVec 32 := 32#32
  let v178 : BitVec 32 := Scalar.muli v177 c32_i32
  let v179 : BitVec 32 := v178
  let v203 : Index := Scalar.indexCast v179
  let c0_i32_90 : BitVec 32 := 0#32
  let c1_i32_91 : BitVec 32 := 1#32
  let arg16 : BitVec 32 := Scf.iv c0_i32_90 c1_i32_91 k0_t5
  let c128_i32 : BitVec 32 := 128#32
  let v201 : BitVec 32 := Scalar.muli arg16 c128_i32
  let v202 : BitVec 32 := v201
  let v204 : Index := Scalar.indexCast v202
  ![0, v203.toNat, v204.toNat]
def k0_off36 (k0_t5 : Fin k0_t5_loop.trips) : Fin 2 → Nat :=
  let c0_96 : Index := 0#32
  let c0_i32_90 : BitVec 32 := 0#32
  let c1_i32_91 : BitVec 32 := 1#32
  let arg16 : BitVec 32 := Scf.iv c0_i32_90 c1_i32_91 k0_t5
  let c128_i32 : BitVec 32 := 128#32
  let v201 : BitVec 32 := Scalar.muli arg16 c128_i32
  let v202 : BitVec 32 := v201
  let v210 : Index := Scalar.indexCast v202
  ![0, v210.toNat]
def k0_off37 (i : grid0.Coords) (k0_t4 : Fin k0_t4_loop.trips) (k0_t5 : Fin k0_t5_loop.trips) : Fin 3 → Nat :=
  let arg0 : BitVec 32 := BitVec.ofNat 32 (i 0).val
  let c2_i32 : BitVec 32 := 2#32
  let v11 : BitVec 32 := Scalar.remsi arg0 c2_i32
  let v289 : Index := Scalar.indexCast v11
  let c0_i32_83 : BitVec 32 := 0#32
  let c0_i32_5 : BitVec 32 := 0#32
  let c1_i32 : BitVec 32 := 1#32
  let arg15 : BitVec 32 := Scf.iv c0_i32_5 c1_i32 k0_t4
  let c1_i32_82 : BitVec 32 := 1#32
  let v176 : BitVec 32 := Scalar.muli arg15 c1_i32_82
  let v177 : BitVec 32 := Scalar.addi c0_i32_83 v176
  let c32_i32 : BitVec 32 := 32#32
  let v178 : BitVec 32 := Scalar.muli v177 c32_i32
  let v179 : BitVec 32 := v178
  let v290 : Index := Scalar.indexCast v179
  let c0_i32_90 : BitVec 32 := 0#32
  let c1_i32_91 : BitVec 32 := 1#32
  let arg16 : BitVec 32 := Scf.iv c0_i32_90 c1_i32_91 k0_t5
  let c128_i32 : BitVec 32 := 128#32
  let v201 : BitVec 32 := Scalar.muli arg16 c128_i32
  let v202 : BitVec 32 := v201
  let v291 : Index := Scalar.indexCast v202
  ![v289.toNat, v290.toNat, v291.toNat]
def k0_off38 (k0_t4 : Fin k0_t4_loop.trips) : Fin 3 → Nat :=
  let c0_93 : Index := 0#32
  let c0_i32_83 : BitVec 32 := 0#32
  let c0_i32_5 : BitVec 32 := 0#32
  let c1_i32 : BitVec 32 := 1#32
  let arg15 : BitVec 32 := Scf.iv c0_i32_5 c1_i32 k0_t4
  let c1_i32_82 : BitVec 32 := 1#32
  let v176 : BitVec 32 := Scalar.muli arg15 c1_i32_82
  let v177 : BitVec 32 := Scalar.addi c0_i32_83 v176
  let c32_i32 : BitVec 32 := 32#32
  let v178 : BitVec 32 := Scalar.muli v177 c32_i32
  let v179 : BitVec 32 := v178
  let v197 : Index := Scalar.indexCast v179
  let c0_94 : Index := 0#32
  ![0, v197.toNat, 0]
def k0_off39 (i : grid0.Coords) : Fin 1 → Nat :=
  let arg0 : BitVec 32 := BitVec.ofNat 32 (i 0).val
  let c1_i32_7 : BitVec 32 := 1#32
  let v13 : BitVec 32 := Scalar.subi arg0 c1_i32_7
  let c24_i32 : BitVec 32 := 24#32
  let v15 : BitVec 32 := Scalar.divsi v13 c24_i32
  let v17 : Index := Scalar.indexCast v15
  ![v17.toNat]
def k0_off40 (i : grid0.Coords) : Fin 3 → Nat :=
  let arg0 : BitVec 32 := BitVec.ofNat 32 (i 0).val
  let c1_i32_7 : BitVec 32 := 1#32
  let v13 : BitVec 32 := Scalar.subi arg0 c1_i32_7
  let c2_i32_8 : BitVec 32 := 2#32
  let v14 : BitVec 32 := Scalar.remsi v13 c2_i32_8
  let v53 : Index := Scalar.indexCast v14
  let c0_17 : Index := 0#32
  let c0_18 : Index := 0#32
  ![v53.toNat, 0, 0]
def k0_cond3 (i : grid0.Coords) : BitVec 1 :=
  let arg0 : BitVec 32 := BitVec.ofNat 32 (i 0).val
  let c96_i32_3 : BitVec 32 := 96#32
  let v8 : BitVec 1 := Scalar.cmpi .eq arg0 c96_i32_3
  let v9 : BitVec 32 := Scalar.extui v8
  let c0_i32_4 : BitVec 32 := 0#32
  let v10 : BitVec 1 := Scalar.cmpi .ne v9 c0_i32_4
  v10

def k0_off41 (i : grid0.Coords) : Fin 1 → Nat :=
  let arg0 : BitVec 32 := BitVec.ofNat 32 (i 0).val
  let c1_i32 : BitVec 32 := 1#32
  let v11 : BitVec 32 := Scalar.subi arg0 c1_i32
  let c24_i32 : BitVec 32 := 24#32
  let v13 : BitVec 32 := Scalar.divsi v11 c24_i32
  let v15 : Index := Scalar.indexCast v13
  ![v15.toNat]
def k0_off42 (i : grid0.Coords) : Fin 3 → Nat :=
  let arg0 : BitVec 32 := BitVec.ofNat 32 (i 0).val
  let c1_i32 : BitVec 32 := 1#32
  let v11 : BitVec 32 := Scalar.subi arg0 c1_i32
  let c2_i32 : BitVec 32 := 2#32
  let v12 : BitVec 32 := Scalar.remsi v11 c2_i32
  let v51 : Index := Scalar.indexCast v12
  let c0_13 : Index := 0#32
  let c0_14 : Index := 0#32
  ![v51.toNat, 0, 0]
def cc0_transform_0 (i : grid0.Coords) : Fin 3 → Nat :=
  let arg0 : BitVec 32 := BitVec.ofNat 32 (i 0).val
  let c95_i32 : BitVec 32 := 95#32
  let v0 : BitVec 32 := Scalar.minsi arg0 c95_i32
  let c24_i32 : BitVec 32 := 24#32
  let v1 : BitVec 32 := Scalar.divsi v0 c24_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c24_i32 c0_i32_1
  let v8 : BitVec 32 := Scalar.extui v7
  let c0_i32_2 : BitVec 32 := 0#32
  let v9 : BitVec 1 := Scalar.cmpi .slt c24_i32 c0_i32_2
  let v10 : BitVec 32 := Scalar.extui v9
  let v11 : BitVec 32 := Scalar.subi v8 v10
  let v12 : BitVec 1 := Scalar.cmpi .ne v6 v11
  let v13 : BitVec 32 := Scalar.remsi v0 c24_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c24_i32_4 : BitVec 32 := 24#32
  let c0_i32_5 : BitVec 32 := 0#32
  let v18 : BitVec 1 := Scalar.cmpi .eq c24_i32_4 c0_i32_5
  let c1_i32_6 : BitVec 32 := 1#32
  let v19 : BitVec 32 := Scalar.select v18 c1_i32_6 c24_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c24_i32 : BitVec 32 := 24#32
  let v2 : BitVec 32 := Scalar.divsi v1 c24_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c24_i32 c0_i32_2
  let v9 : BitVec 32 := Scalar.extui v8
  let c0_i32_3 : BitVec 32 := 0#32
  let v10 : BitVec 1 := Scalar.cmpi .slt c24_i32 c0_i32_3
  let v11 : BitVec 32 := Scalar.extui v10
  let v12 : BitVec 32 := Scalar.subi v9 v11
  let v13 : BitVec 1 := Scalar.cmpi .ne v7 v12
  let v14 : BitVec 32 := Scalar.remsi v1 c24_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c24_i32_6 : BitVec 32 := 24#32
  let c0_i32_7 : BitVec 32 := 0#32
  let v19 : BitVec 1 := Scalar.cmpi .eq c24_i32_6 c0_i32_7
  let c1_i32_8 : BitVec 32 := 1#32
  let v20 : BitVec 32 := Scalar.select v19 c1_i32_8 c24_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  let c0_i32_14 : BitVec 32 := 0#32
  ![v18.toNat, v28.toNat, c0_i32_12.toNat, c0_i32_13.toNat]

def cc0_transform_6 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c24_i32 : BitVec 32 := 24#32
  let v2 : BitVec 32 := Scalar.divsi v1 c24_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c24_i32 c0_i32_2
  let v9 : BitVec 32 := Scalar.extui v8
  let c0_i32_3 : BitVec 32 := 0#32
  let v10 : BitVec 1 := Scalar.cmpi .slt c24_i32 c0_i32_3
  let v11 : BitVec 32 := Scalar.extui v10
  let v12 : BitVec 32 := Scalar.subi v9 v11
  let v13 : BitVec 1 := Scalar.cmpi .ne v7 v12
  let v14 : BitVec 32 := Scalar.remsi v1 c24_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c24_i32_6 : BitVec 32 := 24#32
  let c0_i32_7 : BitVec 32 := 0#32
  let v19 : BitVec 1 := Scalar.cmpi .eq c24_i32_6 c0_i32_7
  let c1_i32_8 : BitVec 32 := 1#32
  let v20 : BitVec 32 := Scalar.select v19 c1_i32_8 c24_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  let c0_i32_14 : BitVec 32 := 0#32
  ![v18.toNat, v28.toNat, c0_i32_12.toNat, c0_i32_13.toNat]

def cc0_transform_7 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c24_i32 : BitVec 32 := 24#32
  let v2 : BitVec 32 := Scalar.divsi v1 c24_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c24_i32 c0_i32_2
  let v9 : BitVec 32 := Scalar.extui v8
  let c0_i32_3 : BitVec 32 := 0#32
  let v10 : BitVec 1 := Scalar.cmpi .slt c24_i32 c0_i32_3
  let v11 : BitVec 32 := Scalar.extui v10
  let v12 : BitVec 32 := Scalar.subi v9 v11
  let v13 : BitVec 1 := Scalar.cmpi .ne v7 v12
  let v14 : BitVec 32 := Scalar.remsi v1 c24_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c24_i32_6 : BitVec 32 := 24#32
  let c0_i32_7 : BitVec 32 := 0#32
  let v19 : BitVec 1 := Scalar.cmpi .eq c24_i32_6 c0_i32_7
  let c1_i32_8 : BitVec 32 := 1#32
  let v20 : BitVec 32 := Scalar.select v19 c1_i32_8 c24_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  let c0_i32_14 : BitVec 32 := 0#32
  ![v18.toNat, v28.toNat, c0_i32_12.toNat, c0_i32_13.toNat]

def cc0_transform_8 (i : grid0.Coords) : Fin 3 → Nat :=
  let arg0 : BitVec 32 := BitVec.ofNat 32 (i 0).val
  let c95_i32 : BitVec 32 := 95#32
  let v0 : BitVec 32 := Scalar.minsi arg0 c95_i32
  let c24_i32 : BitVec 32 := 24#32
  let v1 : BitVec 32 := Scalar.divsi v0 c24_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c24_i32 c0_i32_1
  let v8 : BitVec 32 := Scalar.extui v7
  let c0_i32_2 : BitVec 32 := 0#32
  let v9 : BitVec 1 := Scalar.cmpi .slt c24_i32 c0_i32_2
  let v10 : BitVec 32 := Scalar.extui v9
  let v11 : BitVec 32 := Scalar.subi v8 v10
  let v12 : BitVec 1 := Scalar.cmpi .ne v6 v11
  let v13 : BitVec 32 := Scalar.remsi v0 c24_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c24_i32_4 : BitVec 32 := 24#32
  let c0_i32_5 : BitVec 32 := 0#32
  let v18 : BitVec 1 := Scalar.cmpi .eq c24_i32_4 c0_i32_5
  let c1_i32_6 : BitVec 32 := 1#32
  let v19 : BitVec 32 := Scalar.select v18 c1_i32_6 c24_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_9 (i : grid0.Coords) : Fin 3 → Nat :=
  let arg0 : BitVec 32 := BitVec.ofNat 32 (i 0).val
  let c95_i32 : BitVec 32 := 95#32
  let v0 : BitVec 32 := Scalar.minsi arg0 c95_i32
  let c24_i32 : BitVec 32 := 24#32
  let v1 : BitVec 32 := Scalar.divsi v0 c24_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c24_i32 c0_i32_1
  let v8 : BitVec 32 := Scalar.extui v7
  let c0_i32_2 : BitVec 32 := 0#32
  let v9 : BitVec 1 := Scalar.cmpi .slt c24_i32 c0_i32_2
  let v10 : BitVec 32 := Scalar.extui v9
  let v11 : BitVec 32 := Scalar.subi v8 v10
  let v12 : BitVec 1 := Scalar.cmpi .ne v6 v11
  let v13 : BitVec 32 := Scalar.remsi v0 c24_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c24_i32_4 : BitVec 32 := 24#32
  let c0_i32_5 : BitVec 32 := 0#32
  let v18 : BitVec 1 := Scalar.cmpi .eq c24_i32_4 c0_i32_5
  let c1_i32_6 : BitVec 32 := 1#32
  let v19 : BitVec 32 := Scalar.select v18 c1_i32_6 c24_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

abbrev stage0_0 : Fin 2 → Memref sig .tc .vmem S1x256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5120x1792 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S40x14 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x10x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x5120 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x40 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4x6144x5120 : Shape := ⟨3, ![4, 6144, 5120]⟩
abbrev S5120 : Shape := ⟨1, ![5120]⟩
abbrev S5120x1792 : Shape := ⟨2, ![5120, 1792]⟩
abbrev S40x14 : Shape := ⟨2, ![40, 14]⟩
abbrev S4 : Shape := ⟨1, ![4]⟩
abbrev S252 : Shape := ⟨1, ![252]⟩
abbrev S64 : Shape := ⟨1, ![64]⟩
abbrev S_ : Shape := ⟨0, ![]⟩
abbrev S4x6144 : Shape := ⟨2, ![4, 6144]⟩
abbrev S4x6144x1 : Shape := ⟨3, ![4, 6144, 1]⟩
abbrev S1x1x5120 : Shape := ⟨3, ![1, 1, 5120]⟩
abbrev S4x6144x40x128 : Shape := ⟨4, ![4, 6144, 40, 128]⟩
abbrev S4x6144x40 : Shape := ⟨3, ![4, 6144, 40]⟩
abbrev S4x6144x40x1 : Shape := ⟨4, ![4, 6144, 40, 1]⟩
abbrev S1x1x1x252 : Shape := ⟨4, ![1, 1, 1, 252]⟩
abbrev S4x6144x40x252 : Shape := ⟨4, ![4, 6144, 40, 252]⟩
abbrev S40x128x14x128 : Shape := ⟨4, ![40, 128, 14, 128]⟩
abbrev S40x1x14x1 : Shape := ⟨4, ![40, 1, 14, 1]⟩
abbrev S5120x1280 : Shape := ⟨2, ![5120, 1280]⟩
abbrev S4x6144x1280 : Shape := ⟨3, ![4, 6144, 1280]⟩
abbrev S5120x256 : Shape := ⟨2, ![5120, 256]⟩
abbrev S4x6144x256 : Shape := ⟨3, ![4, 6144, 256]⟩
abbrev S4x1 : Shape := ⟨2, ![4, 1]⟩
abbrev S6144 : Shape := ⟨1, ![6144]⟩
abbrev S1x6144 : Shape := ⟨2, ![1, 6144]⟩
abbrev S4x6144x1x1 : Shape := ⟨4, ![4, 6144, 1, 1]⟩
abbrev S1x1x1x64 : Shape := ⟨4, ![1, 1, 1, 64]⟩
abbrev S4x6144x1x64 : Shape := ⟨4, ![4, 6144, 1, 64]⟩
abbrev S4x6144x10x128 : Shape := ⟨4, ![4, 6144, 10, 128]⟩
abbrev S4x6144x10x64 : Shape := ⟨4, ![4, 6144, 10, 64]⟩
abbrev S4x6144x2x128 : Shape := ⟨4, ![4, 6144, 2, 128]⟩
abbrev S4x6144x2x64 : Shape := ⟨4, ![4, 6144, 2, 64]⟩

abbrev nBuf : Space → Nat
  | .hbm => 133
  | .vmem => 4
  | .smem => 0
  | _ => 0

abbrev hbmTy0_0 (i : Nat) : BufTy := match i % 128 with
  | 0 => ⟨S4x6144x5120, .bf16⟩
  | 1 => ⟨S5120, .bf16⟩
  | 2 => ⟨S5120x1792, .fp8e4m3⟩
  | 3 => ⟨S40x14, .f32⟩
  | 4 => ⟨S4, .i32⟩
  | 5 => ⟨S252, .f32⟩
  | 6 => ⟨S64, .f32⟩
  | 7 => ⟨S4x6144x5120, .f32⟩
  | 8 => ⟨S4x6144x5120, .f32⟩
  | 9 => ⟨S_, .f32⟩
  | 10 => ⟨S4x6144, .f32⟩
  | 11 => ⟨S4x6144x1, .f32⟩
  | 12 => ⟨S_, .f32⟩
  | 13 => ⟨S4x6144x1, .f32⟩
  | 14 => ⟨S4x6144x1, .f32⟩
  | 15 => ⟨S_, .f32⟩
  | 16 => ⟨S4x6144x1, .f32⟩
  | 17 => ⟨S4x6144x1, .f32⟩
  | 18 => ⟨S4x6144x1, .f32⟩
  | 19 => ⟨S4x6144x5120, .f32⟩
  | 20 => ⟨S4x6144x5120, .f32⟩
  | 21 => ⟨S5120, .f32⟩
  | 22 => ⟨S1x1x5120, .f32⟩
  | 23 => ⟨S4x6144x5120, .f32⟩
  | 24 => ⟨S4x6144x5120, .f32⟩
  | 25 => ⟨S4x6144x40x128, .f32⟩
  | 26 => ⟨S4x6144x40x128, .f32⟩
  | 27 => ⟨S_, .f32⟩
  | 28 => ⟨S4x6144x40, .f32⟩
  | 29 => ⟨S_, .f32⟩
  | 30 => ⟨S4x6144x40, .f32⟩
  | 31 => ⟨S4x6144x40, .f32⟩
  | 32 => ⟨S4x6144x40x1, .f32⟩
  | 33 => ⟨S1x1x1x252, .f32⟩
  | 34 => ⟨S4x6144x40x252, .f32⟩
  | 35 => ⟨S4x6144x40x252, .f32⟩
  | 36 => ⟨S4x6144x40x252, .i1⟩
  | 37 => ⟨S_, .f32⟩
  | 38 => ⟨S_, .f32⟩
  | 39 => ⟨S4x6144x40x252, .f32⟩
  | 40 => ⟨S4x6144x40x252, .f32⟩
  | 41 => ⟨S4x6144x40x252, .f32⟩
  | 42 => ⟨S_, .f32⟩
  | 43 => ⟨S4x6144x40, .f32⟩
  | 44 => ⟨S_, .f32⟩
  | 45 => ⟨S4x6144x40, .f32⟩
  | 46 => ⟨S4x6144x40, .i1⟩
  | 47 => ⟨S_, .f32⟩
  | 48 => ⟨S_, .f32⟩
  | 49 => ⟨S4x6144x40, .f32⟩
  | 50 => ⟨S4x6144x40, .f32⟩
  | 51 => ⟨S_, .f32⟩
  | 52 => ⟨S4x6144x40, .f32⟩
  | 53 => ⟨S4x6144x40, .f32⟩
  | 54 => ⟨S4x6144x40x1, .f32⟩
  | 55 => ⟨S4x6144x40x128, .f32⟩
  | 56 => ⟨S4x6144x40x128, .f32⟩
  | 57 => ⟨S_, .f32⟩
  | 58 => ⟨S_, .f32⟩
  | 59 => ⟨S_, .f32⟩
  | 60 => ⟨S4x6144x40x128, .f32⟩
  | 61 => ⟨S4x6144x40x128, .f32⟩
  | 62 => ⟨S_, .f32⟩
  | 63 => ⟨S4x6144x40x128, .f32⟩
  | 64 => ⟨S4x6144x40x128, .f32⟩
  | 65 => ⟨S4x6144x40x128, .fp8e4m3⟩
  | 66 => ⟨S4x6144x5120, .fp8e4m3⟩
  | 67 => ⟨S4x6144x5120, .bf16⟩
  | 68 => ⟨S5120x1792, .bf16⟩
  | 69 => ⟨S4x6144x40x128, .bf16⟩
  | 70 => ⟨S4x6144x40, .bf16⟩
  | 71 => ⟨S4x6144x40x1, .bf16⟩
  | 72 => ⟨S4x6144x40x128, .bf16⟩
  | 73 => ⟨S4x6144x40x128, .bf16⟩
  | 74 => ⟨S4x6144x5120, .bf16⟩
  | 75 => ⟨S40x128x14x128, .bf16⟩
  | 76 => ⟨S40x14, .bf16⟩
  | 77 => ⟨S40x1x14x1, .bf16⟩
  | 78 => ⟨S40x128x14x128, .bf16⟩
  | 79 => ⟨S40x128x14x128, .bf16⟩
  | 80 => ⟨S5120x1792, .bf16⟩
  | 81 => ⟨S5120x1280, .bf16⟩
  | 82 => ⟨S4x6144x1280, .f32⟩
  | 83 => ⟨S5120x256, .bf16⟩
  | 84 => ⟨S4x6144x256, .f32⟩
  | 85 => ⟨S5120x256, .bf16⟩
  | 86 => ⟨S4x6144x256, .f32⟩
  | 87 => ⟨S4x1, .i32⟩
  | 88 => ⟨S6144, .i32⟩
  | 89 => ⟨S1x6144, .i32⟩
  | 90 => ⟨S4x6144, .i32⟩
  | 91 => ⟨S4x6144, .i32⟩
  | 92 => ⟨S4x6144, .i32⟩
  | 93 => ⟨S4x6144, .f32⟩
  | 94 => ⟨S4x6144x1x1, .f32⟩
  | 95 => ⟨S1x1x1x64, .f32⟩
  | 96 => ⟨S4x6144x1x64, .f32⟩
  | 97 => ⟨S4x6144x1x64, .f32⟩
  | 98 => ⟨S4x6144x1x64, .f32⟩
  | 99 => ⟨S4x6144x1x64, .f32⟩
  | 100 => ⟨S4x6144x1x64, .f32⟩
  | 101 => ⟨S4x6144x10x128, .f32⟩
  | 102 => ⟨S4x6144x10x64, .f32⟩
  | 103 => ⟨S4x6144x10x64, .f32⟩
  | 104 => ⟨S4x6144x10x64, .f32⟩
  | 105 => ⟨S4x6144x10x64, .f32⟩
  | 106 => ⟨S4x6144x10x64, .f32⟩
  | 107 => ⟨S4x6144x10x64, .f32⟩
  | 108 => ⟨S4x6144x10x64, .f32⟩
  | 109 => ⟨S4x6144x10x64, .f32⟩
  | 110 => ⟨S4x6144x10x64, .f32⟩
  | 111 => ⟨S4x6144x10x64, .f32⟩
  | 112 => ⟨S4x6144x10x64, .f32⟩
  | 113 => ⟨S4x6144x10x64, .f32⟩
  | 114 => ⟨S4x6144x10x128, .f32⟩
  | 115 => ⟨S4x6144x2x128, .f32⟩
  | 116 => ⟨S4x6144x2x64, .f32⟩
  | 117 => ⟨S4x6144x2x64, .f32⟩
  | 118 => ⟨S4x6144x2x64, .f32⟩
  | 119 => ⟨S4x6144x2x64, .f32⟩
  | 120 => ⟨S4x6144x2x64, .f32⟩
  | 121 => ⟨S4x6144x2x64, .f32⟩
  | 122 => ⟨S4x6144x2x64, .f32⟩
  | 123 => ⟨S4x6144x2x64, .f32⟩
  | 124 => ⟨S4x6144x2x64, .f32⟩
  | 125 => ⟨S4x6144x2x64, .f32⟩
  | 126 => ⟨S4x6144x2x64, .f32⟩
  | 127 => ⟨S4x6144x2x64, .f32⟩
  | _ => ⟨S4x6144x5120, .bf16⟩

abbrev hbmTy0_1 (i : Nat) : BufTy := match i % 128 with
  | 0 => ⟨S4x6144x2x128, .f32⟩
  | 1 => ⟨S4x6144x2x128, .f32⟩
  | 2 => ⟨S4x6144x10x128, .bf16⟩
  | 3 => ⟨S4x6144x2x128, .bf16⟩
  | 4 => ⟨S4x6144x2x128, .bf16⟩
  | _ => ⟨S4x6144x5120, .bf16⟩

abbrev hbmTy (i : Nat) : BufTy := match i / 128 with
  | 0 => hbmTy0_0 i
  | 1 => hbmTy0_1 i
  | _ => ⟨S4x6144x5120, .bf16⟩

abbrev bufTy : (tb : Table) → Fin (tcTables nBuf tb) → BufTy
  | .hbm, ⟨i, _⟩ => hbmTy i
  | .local _ .vmem, ⟨0, _⟩ => ⟨S4x6144x5120, .fp8e4m3⟩
  | .local _ .vmem, ⟨1, _⟩ => ⟨S5120x1792, .fp8e4m3⟩
  | .local _ .vmem, ⟨2, _⟩ => ⟨S4x6144x5120, .bf16⟩
  | .local _ .vmem, ⟨3, _⟩ => ⟨S5120x1792, .bf16⟩
  | _, _ => ⟨S4x6144x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_cst_3 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_call1_v0 : Ref sig .tc := ⟨.hbm, 48, rfl⟩
abbrev main_call1_v1 : Ref sig .tc := ⟨.hbm, 49, rfl⟩
abbrev main_v29 : Ref sig .tc := ⟨.hbm, 50, rfl⟩
abbrev main_cst_10 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_11 : Ref sig .tc := ⟨.hbm, 57, rfl⟩
abbrev main_cst_12 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38_0 : Ref sig .tc := ⟨.hbm, 67, rfl⟩
abbrev main_v38_1 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x6144x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x1792 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x6144x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelLoops.lean ====
/- The two row loops of `Cert.Kernel`, each with a loop over the scale groups inside: what one trip writes, what the
   trips before the `k`-th have written, and the invariant by which a run goes through the loop. The loop of the first
   grid point (`k0_t2`) and the loop of the later ones (`k0_t4`) quantise a tile of rows alike. -/
module

public import proofs.«01_k».proof.Proof.Gen.Kernel.Loops

@[expose] public section

set_option maxHeartbeats 4000000
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Pieces written into the codes, the scales and the two-slot activation buffer by some trips. -/
abbrev Written (F : FTy → Type) [FloatOps F] : Type :=
  List (View.Piece (Elt F) S1x256x5120 .fp8e4m3) × List (View.Piece (Elt F) S1x256x40 .f32) × List (View.Piece (Elt F) S2x256x5120 .bf16)

/-- What a row loop touches: the tile of `x` and the norm weights at their contents, the codes, the scales and the
    two-slot activation buffer at any. -/
abbrev Touched (c : Dev nD) (arg2 : Memref sig .tc .vmem S1x256x5120 .bf16) (arg3 : Memref sig .tc .vmem S1x5120 .f32) (arg10 : Memref sig .tc .vmem S1x256x5120 .fp8e4m3) (arg11 : Memref sig .tc .vmem S1x256x40 .f32) (arg13 : Memref sig .tc .vmem S2x256x5120 .bf16) (X2 : BufTy.Contents (Elt F) arg2.view.ty) (X3 : BufTy.Contents (Elt F) arg3.view.ty) (f10 : BufTy.Contents (Elt F) arg10.view.ty) (f11 : BufTy.Contents (Elt F) arg11.view.ty) (f13 : BufTy.Contents (Elt F) arg13.view.ty) : sProp 𝕄 :=
  iprop((arg2.view.loc (c : Thread nD τ) ↦[arg2.view.set]{fullShare} X2) ∗ (arg3.view.loc (c : Thread nD τ) ↦[arg3.view.set]{fullShare} X3) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13))

/-! ## The first point's row loop -/

/-- One trip of the row loop at the first grid point: the pieces it writes, and that it writes them. -/
@[irreducible] def tripA (c : Dev nD) (i : grid0.Coords) (arg1 : Memref sig .tc .smem S4 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (k0_h1 : k0_cond1 i = 1#1) (v25 : BitVec 32) (X2 : BufTy.Contents (Elt F) arg2.view.ty) (X3 : BufTy.Contents (Elt F) arg3.view.ty) (k : Fin k0_t2_loop.trips) :
    Σ' (L10 : List (View.Piece (Elt F) S1x256x5120 .fp8e4m3)) (L11 : List (View.Piece (Elt F) S1x256x40 .f32)), { L13 : List (View.Piece (Elt F) S2x256x5120 .bf16) // ∀ (E : Set ℕ) (f10 : BufTy.Contents (Elt F) arg10.view.ty) (f11 : BufTy.Contents (Elt F) arg11.view.ty) (f13 : BufTy.Contents (Elt F) arg13.view.ty),
      Touched (F := F) c arg2 arg3 arg10 arg11 arg13 X2 X3 f10 f11 f13
      ⊢ wp frame (wpE (defs₀ (F := F)) Variants.none (c : Thread nD τ) none) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 k0_h1 v25 k PUnit.unit)
          (fun _ => Touched (F := F) c arg2 arg3 arg10 arg11 arg13 X2 X3 (arg10.view.writes (Elt F) f10 L10) (arg11.view.writes (Elt F) f11 L11) (arg13.view.writes (Elt F) f13 L13)) } := by
  refine ⟨?_, ?_, ?_, fun E f10 f11 f13 => ?run⟩
  case run =>
    unfold k0_t2_body
    iintro ⟨H2, H3, H10, H11, H13⟩
    sl_exec
    sl_step
    sl_close

/-- The pieces of one trip. -/
abbrev wroteA (c : Dev nD) (i : grid0.Coords) (arg1 : Memref sig .tc .smem S4 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (k0_h1 : k0_cond1 i = 1#1) (v25 : BitVec 32) (X2 : BufTy.Contents (Elt F) arg2.view.ty) (X3 : BufTy.Contents (Elt F) arg3.view.ty) (k : Fin k0_t2_loop.trips) : Written F :=
  ((tripA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k).1, (tripA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k).2.1, (tripA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k).2.2.1)

/-- The pieces of the trips before `k`, the last trip's first. -/
def beforeA (c : Dev nD) (i : grid0.Coords) (arg1 : Memref sig .tc .smem S4 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (k0_h1 : k0_cond1 i = 1#1) (v25 : BitVec 32) (X2 : BufTy.Contents (Elt F) arg2.view.ty) (X3 : BufTy.Contents (Elt F) arg3.view.ty) : ℕ → Written F
  | 0 => ([], [], [])
  | k + 1 => if h : k < k0_t2_loop.trips then
      let W := wroteA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 ⟨k, h⟩
      let B := beforeA c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k
      (W.1 ++ B.1, W.2.1 ++ B.2.1, W.2.2 ++ B.2.2)
    else beforeA c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k

/-- One more trip of the first point's loop, as what was done before it and then that trip. -/
theorem beforeA_succ (c : Dev nD) (i : grid0.Coords) (arg1 : Memref sig .tc .smem S4 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (k0_h1 : k0_cond1 i = 1#1) (v25 : BitVec 32) (X2 : BufTy.Contents (Elt F) arg2.view.ty) (X3 : BufTy.Contents (Elt F) arg3.view.ty) (k : Fin k0_t2_loop.trips) :
    beforeA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 (k.val + 1)
      = ((wroteA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k).1 ++ (beforeA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k.val).1, (wroteA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k).2.1 ++ (beforeA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k.val).2.1, (wroteA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k).2.2 ++ (beforeA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k.val).2.2) := by
  rw [beforeA.eq_2]; exact dif_pos k.isLt

set_option warn.classDefReducibility false in
/-- The row loop's invariant at the first point: before trip `k` each buffer it writes holds the pieces of the trips before
    `k` over what the loop found there. -/
@[sl_loop] def loopInvA (c : Dev nD) (i : grid0.Coords) (arg1 : Memref sig .tc .smem S4 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (k0_h1 : k0_cond1 i = 1#1) (v25 : BitVec 32) (E : Set ℕ) (X2 : BufTy.Contents (Elt F) arg2.view.ty) (X3 : BufTy.Contents (Elt F) arg3.view.ty) (G10 : BufTy.Contents (Elt F) arg10.view.ty) (G11 : BufTy.Contents (Elt F) arg11.view.ty) (G13 : BufTy.Contents (Elt F) arg13.view.ty) :
    LoopInvTy_k0_t2 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 k0_h1 v25 where
  inv k _ := iprop((arg2.view.loc (c : Thread nD τ) ↦[arg2.view.set]{fullShare} X2) ∗ (arg3.view.loc (c : Thread nD τ) ↦[arg3.view.set]{fullShare} X3) ∗ (∃ f, (arg10.view.loc (c : Thread nD τ) ↦[arg10.view.set]{fullShare} f) ∗ ⌜f = arg10.view.writes (Elt F) G10 (beforeA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k).1⌝) ∗ (∃ f, (arg11.view.loc (c : Thread nD τ) ↦[arg11.view.set]{fullShare} f) ∗ ⌜f = arg11.view.writes (Elt F) G11 (beforeA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k).2.1⌝) ∗ (∃ f, (arg13.view.loc (c : Thread nD τ) ↦[arg13.view.set]{fullShare} f) ∗ ⌜f = arg13.view.writes (Elt F) G13 (beforeA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k).2.2⌝))
  step k acc := by
    iintro ⟨H2, H3, ⟨%f10, H10, %h10⟩, ⟨%f11, H11, %h11⟩, ⟨%f13, H13, %h13⟩⟩
    iapply (wp_wand_r Idealize.ShloMosaic.frame (wpE (defs₀ (F := F)) Variants.none (c : Thread nD τ) none) E)
    isplitl [H2 H3 H10 H11 H13]
    · iapply ((tripA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k).2.2.2 E f10 f11 f13)
      isplitl [H2]; · iexact H2
      isplitl [H3]; · iexact H3
      isplitl [H10]; · iexact H10
      isplitl [H11]; · iexact H11
      iexact H13
    · iintro %_ ⟨H2, H3, H10, H11, H13⟩
      isplitl [H2]; · iexact H2
      isplitl [H3]; · iexact H3
      rw [beforeA_succ]
      isplitl [H10]
      · iexists _; isplitl [H10]; · iexact H10
        ipureintro; rw [h10, ← View.writes_append]
      isplitl [H11]
      · iexists _; isplitl [H11]; · iexact H11
        ipureintro; rw [h11, ← View.writes_append]
      iexists _; isplitl [H13]; · iexact H13
      ipureintro; rw [h13, ← View.writes_append]

/-! ## The later points' row loop -/

/-- One trip of the row loop at a later grid point: the pieces it writes, and that it writes them. -/
@[irreducible] def tripB (c : Dev nD) (i : grid0.Coords) (arg1 : Memref sig .tc .smem S4 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (arg0 : BitVec 32) (k0_h2 : k0_cond2 i = 1#1) (v11 : BitVec 32) (X2 : BufTy.Contents (Elt F) arg2.view.ty) (X3 : BufTy.Contents (Elt F) arg3.view.ty) (k : Fin k0_t4_loop.trips) :
    Σ' (L10 : List (View.Piece (Elt F) S1x256x5120 .fp8e4m3)) (L11 : List (View.Piece (Elt F) S1x256x40 .f32)), { L13 : List (View.Piece (Elt F) S2x256x5120 .bf16) // ∀ (E : Set ℕ) (f10 : BufTy.Contents (Elt F) arg10.view.ty) (f11 : BufTy.Contents (Elt F) arg11.view.ty) (f13 : BufTy.Contents (Elt F) arg13.view.ty),
      Touched (F := F) c arg2 arg3 arg10 arg11 arg13 X2 X3 f10 f11 f13
      ⊢ wp frame (wpE (defs₀ (F := F)) Variants.none (c : Thread nD τ) none) E (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 k PUnit.unit)
          (fun _ => Touched (F := F) c arg2 arg3 arg10 arg11 arg13 X2 X3 (arg10.view.writes (Elt F) f10 L10) (arg11.view.writes (Elt F) f11 L11) (arg13.view.writes (Elt F) f13 L13)) } := by
  refine ⟨?_, ?_, ?_, fun E f10 f11 f13 => ?run⟩
  case run =>
    unfold k0_t4_body
    iintro ⟨H2, H3, H10, H11, H13⟩
    sl_exec
    sl_step
    sl_close

/-- The pieces of one trip. -/
abbrev wroteB (c : Dev nD) (i : grid0.Coords) (arg1 : Memref sig .tc .smem S4 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (arg0 : BitVec 32) (k0_h2 : k0_cond2 i = 1#1) (v11 : BitVec 32) (X2 : BufTy.Contents (Elt F) arg2.view.ty) (X3 : BufTy.Contents (Elt F) arg3.view.ty) (k : Fin k0_t4_loop.trips) : Written F :=
  ((tripB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k).1, (tripB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k).2.1, (tripB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k).2.2.1)

/-- The pieces of the trips before `k`, the last trip's first. -/
def beforeB (c : Dev nD) (i : grid0.Coords) (arg1 : Memref sig .tc .smem S4 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (arg0 : BitVec 32) (k0_h2 : k0_cond2 i = 1#1) (v11 : BitVec 32) (X2 : BufTy.Contents (Elt F) arg2.view.ty) (X3 : BufTy.Contents (Elt F) arg3.view.ty) : ℕ → Written F
  | 0 => ([], [], [])
  | k + 1 => if h : k < k0_t4_loop.trips then
      let W := wroteB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 ⟨k, h⟩
      let B := beforeB c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k
      (W.1 ++ B.1, W.2.1 ++ B.2.1, W.2.2 ++ B.2.2)
    else beforeB c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k

/-- One more trip of the other points' loop, as what was done before it and then that trip. -/
theorem beforeB_succ (c : Dev nD) (i : grid0.Coords) (arg1 : Memref sig .tc .smem S4 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (arg0 : BitVec 32) (k0_h2 : k0_cond2 i = 1#1) (v11 : BitVec 32) (X2 : BufTy.Contents (Elt F) arg2.view.ty) (X3 : BufTy.Contents (Elt F) arg3.view.ty) (k : Fin k0_t4_loop.trips) :
    beforeB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 (k.val + 1)
      = ((wroteB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k).1 ++ (beforeB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k.val).1, (wroteB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k).2.1 ++ (beforeB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k.val).2.1, (wroteB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k).2.2 ++ (beforeB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k.val).2.2) := by
  rw [beforeB.eq_2]; exact dif_pos k.isLt

set_option warn.classDefReducibility false in
/-- The row loop's invariant at a later point: before trip `k` each buffer it writes holds the pieces of the trips before
    `k` over what the loop found there. -/
@[sl_loop] def loopInvB (c : Dev nD) (i : grid0.Coords) (arg1 : Memref sig .tc .smem S4 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (arg0 : BitVec 32) (k0_h2 : k0_cond2 i = 1#1) (v11 : BitVec 32) (E : Set ℕ) (X2 : BufTy.Contents (Elt F) arg2.view.ty) (X3 : BufTy.Contents (Elt F) arg3.view.ty) (G10 : BufTy.Contents (Elt F) arg10.view.ty) (G11 : BufTy.Contents (Elt F) arg11.view.ty) (G13 : BufTy.Contents (Elt F) arg13.view.ty) :
    LoopInvTy_k0_t4 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 where
  inv k _ := iprop((arg2.view.loc (c : Thread nD τ) ↦[arg2.view.set]{fullShare} X2) ∗ (arg3.view.loc (c : Thread nD τ) ↦[arg3.view.set]{fullShare} X3) ∗ (∃ f, (arg10.view.loc (c : Thread nD τ) ↦[arg10.view.set]{fullShare} f) ∗ ⌜f = arg10.view.writes (Elt F) G10 (beforeB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k).1⌝) ∗ (∃ f, (arg11.view.loc (c : Thread nD τ) ↦[arg11.view.set]{fullShare} f) ∗ ⌜f = arg11.view.writes (Elt F) G11 (beforeB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k).2.1⌝) ∗ (∃ f, (arg13.view.loc (c : Thread nD τ) ↦[arg13.view.set]{fullShare} f) ∗ ⌜f = arg13.view.writes (Elt F) G13 (beforeB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k).2.2⌝))
  step k acc := by
    iintro ⟨H2, H3, ⟨%f10, H10, %h10⟩, ⟨%f11, H11, %h11⟩, ⟨%f13, H13, %h13⟩⟩
    iapply (wp_wand_r Idealize.ShloMosaic.frame (wpE (defs₀ (F := F)) Variants.none (c : Thread nD τ) none) E)
    isplitl [H2 H3 H10 H11 H13]
    · iapply ((tripB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k).2.2.2 E f10 f11 f13)
      isplitl [H2]; · iexact H2
      isplitl [H3]; · iexact H3
      isplitl [H10]; · iexact H10
      isplitl [H11]; · iexact H11
      iexact H13
    · iintro %_ ⟨H2, H3, H10, H11, H13⟩
      isplitl [H2]; · iexact H2
      isplitl [H3]; · iexact H3
      rw [beforeB_succ]
      isplitl [H10]
      · iexists _; isplitl [H10]; · iexact H10
        ipureintro; rw [h10, ← View.writes_append]
      isplitl [H11]
      · iexists _; isplitl [H11]; · iexact H11
        ipureintro; rw [h11, ← View.writes_append]
      iexists _; isplitl [H13]; · iexact H13
      ipureintro; rw [h13, ← View.writes_append]

end Cert.Kernel.Hand

end
-- ==== Proof.KernelKit.lean ====
/- What the proofs about `Cert.Kernel`'s launch share: the contents of the arrays when the kernel starts, the blocks its windows
   show, the staging buffers and the body at a grid point, and how a run of the launch gives the frame. -/
module

public import proofs.«01_k».proof.Proof.Gen.Kernel.Launch
public import proofs.«01_k».proof.Proof.KernelLoops
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branches a grid point takes -/

/-- The first branch is taken at the first point alone, -/
theorem cond1_iff : ∀ t : Fin grid0.N, k0_cond1 (grid0.coords t) = 1#1 ↔ t.val = 0 := by decide +kernel
/-- the second at the points strictly between the first and the last, -/
theorem cond2_iff : ∀ t : Fin grid0.N, k0_cond2 (grid0.coords t) = 1#1 ↔ (0 < t.val ∧ t.val < 96) := by decide +kernel
/-- and the third at the last point alone. -/
theorem cond3_iff : ∀ t : Fin grid0.N, k0_cond3 (grid0.coords t) = 1#1 ↔ t.val = 96 := by decide +kernel

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 1 (operand 2 (%2)) is fetched at the first point only, at any contents of the tables (its index map reads none). -/
theorem fetch0_1 (a : (pcfg0 (F := F)).Adm) : ∀ t : Fin (cfg0 a).N, ((cfg0 a).win 1).fetch t = true ↔ t.val % 97 = 0 :=
  (fun t => Pipeline.Window.fetchOf_const cc0_transform_1 (fun _ _ => rfl) (n := 97) (by decide) t : ∀ t : Fin grid0.N, Pipeline.Window.fetchOf grid0 false cc0_transform_1 t = true ↔ t.val % 97 = 0)
/-- Window 2 (operand 3 (%arg2)) is fetched at the first point only, at any contents of the tables (its index map reads none). -/
theorem fetch0_2 (a : (pcfg0 (F := F)).Adm) : ∀ t : Fin (cfg0 a).N, ((cfg0 a).win 2).fetch t = true ↔ t.val % 97 = 0 :=
  (fun t => Pipeline.Window.fetchOf_const cc0_transform_2 (fun _ _ => rfl) (n := 97) (by decide) t : ∀ t : Fin grid0.N, Pipeline.Window.fetchOf grid0 false cc0_transform_2 t = true ↔ t.val % 97 = 0)
/-- Window 3 (operand 4 (%arg3)) is fetched at the first point only, at any contents of the tables (its index map reads none). -/
theorem fetch0_3 (a : (pcfg0 (F := F)).Adm) : ∀ t : Fin (cfg0 a).N, ((cfg0 a).win 3).fetch t = true ↔ t.val % 97 = 0 :=
  (fun t => Pipeline.Window.fetchOf_const cc0_transform_3 (fun _ _ => rfl) (n := 97) (by decide) t : ∀ t : Fin grid0.N, Pipeline.Window.fetchOf grid0 false cc0_transform_3 t = true ↔ t.val % 97 = 0)
/-- Window 4 (operand 5 (%0)) is fetched at the first point only, at any contents of the tables (its index map reads none). -/
theorem fetch0_4 (a : (pcfg0 (F := F)).Adm) : ∀ t : Fin (cfg0 a).N, ((cfg0 a).win 4).fetch t = true ↔ t.val % 97 = 0 :=
  (fun t => Pipeline.Window.fetchOf_const cc0_transform_4 (fun _ _ => rfl) (n := 97) (by decide) t : ∀ t : Fin grid0.N, Pipeline.Window.fetchOf grid0 false cc0_transform_4 t = true ↔ t.val % 97 = 0)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_rmsnorm_fp8_qkv_rope (grid0.coords t) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _) (Memref.whole cc0_scratch1) (Memref.isWhole_whole _) (Memref.whole cc0_scratch2) (Memref.isWhole_whole _)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The host's lines before the launch make no fresh buffer. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S4 .i32 := Memref.whole main_arg4
/-- The table of position offsets is the whole of its buffer. -/
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (by decide : main_arg4 ∈ Pipeline.restRefs sig spec0)).trans (V_main_arg4 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x256x5120 .bf16 := spec0_0.stage ((cfgM m hO).slots t 0)
/-- The stage of this window is the whole of its buffer. -/
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x5120 .f32 := spec0_1.stage ((cfgM m hO).slots t 1)
/-- The stage of this window is the whole of its buffer. -/
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S5120x1792 .fp8e4m3 := spec0_2.stage ((cfgM m hO).slots t 2)
/-- The stage of this window is the whole of its buffer. -/
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .smem S40x14 .f32 := spec0_3.stage ((cfgM m hO).slots t 3)
/-- The stage of this window is the whole of its buffer. -/
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x128 .f32 := spec0_4.stage ((cfgM m hO).slots t 4)
/-- The stage of this window is the whole of its buffer. -/
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x256x10x128 .bf16 := spec0_5.stage ((cfgM m hO).slots t 5)
/-- The stage of this window is the whole of its buffer. -/
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x256x2x128 .bf16 := spec0_6.stage ((cfgM m hO).slots t 6)
/-- The stage of this window is the whole of its buffer. -/
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x256x2x128 .bf16 := spec0_7.stage ((cfgM m hO).slots t 7)
/-- The stage of this window is the whole of its buffer. -/
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x256x5120 .fp8e4m3 := spec0_8.stage ((cfgM m hO).slots t 8)
/-- The stage of this window is the whole of its buffer. -/
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x256x40 .f32 := spec0_9.stage ((cfgM m hO).slots t 9)
/-- The stage of this window is the whole of its buffer. -/
abbrev hs0_9 (hO : Ok m) (t : Fin (cfgM m hO).N) : (ms0_9 m hO t).IsWhole := hstage0_9 (((cfgM m hO).slots t 9).cast nbuf0_9)
/-- The scratch operands: whole scoped buffers of the kernel's own, passed beside the windows. -/
abbrev scM0_0 : Memref sig .tc .vmem S5120x1792 .bf16 := Memref.whole cc0_scratch0
abbrev scM0_1 : Memref sig .tc .vmem S2x256x5120 .bf16 := Memref.whole cc0_scratch1
abbrev scM0_2 : Memref sig .tc .vmem S2x256x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.KernelRuns.lean ====
/- The kernel body of `Cert.Kernel` on any staging buffers, in the three cases of a grid point: the first point, a point in
   the middle, the last point. Each run finds what every buffer the case writes holds at the end. -/
module

public import proofs.«01_k».proof.Proof.KernelKit

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The first point: the weights are dequantised into `arg12`, the tables written into `arg14`, the first tile quantised. -/
@[irreducible] def runA (c : Dev nD) (i : grid0.Coords) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (h1 : k0_cond1 i = 1#1) (h2 : ¬ k0_cond2 i = 1#1) (h3 : ¬ k0_cond3 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (xt : TbBuf0 (F := F) c tbM0_0) :
    Σ' (g10 : BufTy.Contents (Elt F) arg10.view.ty) (g11 : BufTy.Contents (Elt F) arg11.view.ty) (g12 : BufTy.Contents (Elt F) arg12.view.ty) (g13 : BufTy.Contents (Elt F) arg13.view.ty), { g14 : BufTy.Contents (Elt F) arg14.view.ty // ∀ (E : Set ℕ) (K : PUnit → sProp 𝕄),
      iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ tbPt0 c tbM0_0 xt
          ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ tbPt0 c tbM0_0 xt) -∗ K ⟨⟩))
        ⊢ wp frame (wpE (defs₀ (F := F)) Variants.none (c : Thread nD τ) none) E (cc0_rmsnorm_fp8_qkv_rope i tbM0_0 htbM0_0 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_rmsnorm_fp8_qkv_rope_eq_skeleton]; unfold cc0_rmsnorm_fp8_qkv_rope_skel
    iintro ⟨H2, H3, H4, H5, H6, H10, H11, H12, H13, H14, HT, Hk⟩
    sl_exec
    sl_step
    iapply Hk
    sl_close

set_option maxHeartbeats 8000000 in
/-- A point in the middle: a tile is quantised into one slot of `arg13` and the tile in the other slot is projected and rotated. -/
@[irreducible] def runB (c : Dev nD) (i : grid0.Coords) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (h1 : ¬ k0_cond1 i = 1#1) (h2 : k0_cond2 i = 1#1) (h3 : ¬ k0_cond3 i = 1#1) (f2 : BufTy.Contents (Elt F) arg2.view.ty) (f3 : BufTy.Contents (Elt F) arg3.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (xt : TbBuf0 (F := F) c tbM0_0) :
    Σ' (g7 : BufTy.Contents (Elt F) arg7.view.ty) (g8 : BufTy.Contents (Elt F) arg8.view.ty) (g9 : BufTy.Contents (Elt F) arg9.view.ty) (g10 : BufTy.Contents (Elt F) arg10.view.ty) (g11 : BufTy.Contents (Elt F) arg11.view.ty), { g13 : BufTy.Contents (Elt F) arg13.view.ty // ∀ (E : Set ℕ) (K : PUnit → sProp 𝕄),
      iprop((arg2.view.loc (c : Thread nD τ) ↦[arg2.view.set]{fullShare} f2) ∗ (arg3.view.loc (c : Thread nD τ) ↦[arg3.view.set]{fullShare} f3) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ tbPt0 c tbM0_0 xt
          ∗ (iprop((arg2.view.loc (c : Thread nD τ) ↦[arg2.view.set]{fullShare} f2) ∗ (arg3.view.loc (c : Thread nD τ) ↦[arg3.view.set]{fullShare} f3) ∗ (arg6.view.loc (c : Thread nD τ) ↦[arg6.view.set]{fullShare} f6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} f12) ∗ (arg13.view.loc (c : Thread nD τ) ↦[arg13.view.set]{fullShare} g13) ∗ (arg14.view.loc (c : Thread nD τ) ↦[arg14.view.set]{fullShare} f14) ∗ tbPt0 c tbM0_0 xt) -∗ K ⟨⟩))
        ⊢ wp frame (wpE (defs₀ (F := F)) Variants.none (c : Thread nD τ) none) E (cc0_rmsnorm_fp8_qkv_rope i tbM0_0 htbM0_0 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_rmsnorm_fp8_qkv_rope_eq_skeleton]; unfold cc0_rmsnorm_fp8_qkv_rope_skel
    iintro ⟨H2, H3, H6, H7, H8, H9, H10, H11, H12, H13, H14, HT, Hk⟩
    sl_exec
    sl_step
    iapply Hk
    sl_close

set_option maxHeartbeats 8000000 in
/-- The last point: the last tile is projected and rotated. -/
@[irreducible] def runC (c : Dev nD) (i : grid0.Coords) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (h1 : ¬ k0_cond1 i = 1#1) (h2 : ¬ k0_cond2 i = 1#1) (h3 : k0_cond3 i = 1#1) (f6 : BufTy.Contents (Elt F) arg6.view.ty) (f7 : BufTy.Contents (Elt F) arg7.view.ty) (f8 : BufTy.Contents (Elt F) arg8.view.ty) (f9 : BufTy.Contents (Elt F) arg9.view.ty) (f12 : BufTy.Contents (Elt F) arg12.view.ty) (f13 : BufTy.Contents (Elt F) arg13.view.ty) (f14 : BufTy.Contents (Elt F) arg14.view.ty) (xt : TbBuf0 (F := F) c tbM0_0) :
    Σ' (g7 : BufTy.Contents (Elt F) arg7.view.ty) (g8 : BufTy.Contents (Elt F) arg8.view.ty), { g9 : BufTy.Contents (Elt F) arg9.view.ty // ∀ (E : Set ℕ) (K : PUnit → sProp 𝕄),
      iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ tbPt0 c tbM0_0 xt
          ∗ (iprop((arg6.view.loc (c : Thread nD τ) ↦[arg6.view.set]{fullShare} f6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ tbPt0 c tbM0_0 xt) -∗ K ⟨⟩))
        ⊢ wp frame (wpE (defs₀ (F := F)) Variants.none (c : Thread nD τ) none) E (cc0_rmsnorm_fp8_qkv_rope i tbM0_0 htbM0_0 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_rmsnorm_fp8_qkv_rope_eq_skeleton]; unfold cc0_rmsnorm_fp8_qkv_rope_skel
    iintro ⟨H6, H7, H8, H9, H12, H13, H14, HT, Hk⟩
    sl_exec
    sl_step
    iapply Hk
    sl_close

end Cert.Kernel.Hand

end
-- ==== Proof.KernelFrame.lean ====
/- The frame of `Cert.Kernel`: from any memory it runs to the end without a fault, its argument arrays end unchanged and every
   semaphore counter ends at zero. Nothing is said here of what the kernel leaves in its results. -/
module

public import proofs.«01_k».proof.Proof.KernelRuns

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (5, 6, 7, 8, 9): nothing reads what the kernel leaves in them, so nothing
    of it is named (Lib/Pipeline/Dat.lean `Dat.toRForget`). -/
def forgets0 : Fin 10 → Bool := fun w => w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, h⟩ => Pipeline.Dat.unnamed (cfg := (cfgM m hO)) ⟨5, h⟩ t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
/-- A point leaves the window of the norm weights as it found it. -/
theorem after0_1 (hO : Ok m) (c : Dev nD) (t : Fin (cfgM m hO).N) : (dats m hO 0 c).after 1 t = iblk m hO c 1 t := by dsimp only [dats]; try rfl
/-- A point leaves the window of the weights as it found it. -/
theorem after0_2 (hO : Ok m) (c : Dev nD) (t : Fin (cfgM m hO).N) : (dats m hO 0 c).after 2 t = iblk m hO c 2 t := by dsimp only [dats]; try rfl
/-- A point leaves the window of the weights' scales as it found it. -/
theorem after0_3 (hO : Ok m) (c : Dev nD) (t : Fin (cfgM m hO).N) : (dats m hO 0 c).after 3 t = iblk m hO c 3 t := by dsimp only [dats]; try rfl
/-- A point leaves the window of the inverse frequencies as it found it. -/
theorem after0_4 (hO : Ok m) (c : Dev nD) (t : Fin (cfgM m hO).N) : (dats m hO 0 c).after 4 t = iblk m hO c 4 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- Before a point the window of the norm weights holds its block. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- Before a point the window of the weights holds its block. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- Before a point the window of the weights' scales holds its block. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- Before a point the window of the inverse frequencies holds its block. -/
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d))

set_option maxHeartbeats 4000000 in
/-- The body at any point: the inputs' buffers hold their blocks; the run of the point's case applies; the outputs and the
    scratch buffers are handed back at some contents. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq, PhiA0_eq]
  unfold owns
  iintro ⟨⟨⟨⟨⟨%e12, %f12, -, H12⟩, ⟨%e13, %f13, -, H13⟩, ⟨%e14, %f14, -, H14⟩⟩, Hg⟩, HT⟩, Ho, ⟨%d0, %f2, %r2, H2⟩, ⟨%d1, %f3, %r3, H3⟩, ⟨%d2, %f4, %r4, H4⟩, ⟨%d3, %f5, %r5, H5⟩, ⟨%d4, %f6, %r6, H6⟩, ⟨%d5, %f7, -, H7⟩, ⟨%d6, %f8, -, H8⟩, ⟨%d7, %f9, -, H9⟩, ⟨%d8, %f10, -, H10⟩, ⟨%d9, %f11, -, H11⟩⟩
  have hN : t.val < 97 := t.isLt
  have c1 := cond1_iff t; have c2 := cond2_iff t; have c3 := cond3_iff t
  rcases Nat.eq_zero_or_pos t.val with h0 | h0
  · have h1 := c1.2 h0
    have h2 : ¬ k0_cond2 (grid0.coords t) = 1#1 := fun h => by have := c2.1 h; omega
    have h3 : ¬ k0_cond3 (grid0.coords t) = 1#1 := fun h => by have := c3.1 h; omega
    iapply ((runA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) h1 h2 h3 f2 f3 f4 f5 f6 f10 f11 f12 f13 f14 (tbl m 0)).2.2.2.2.2 Set.univ _)
    isplitl [H2]; · iexact H2
    isplitl [H3]; · iexact H3
    isplitl [H4]; · iexact H4
    isplitl [H5]; · iexact H5
    isplitl [H6]; · iexact H6
    isplitl [H10]; · iexact H10
    isplitl [H11]; · iexact H11
    isplitl [H12]; · iexact H12
    isplitl [H13]; · iexact H13
    isplitl [H14]; · iexact H14
    isplitl [HT]; · iexact HT
    iintro ⟨H2, H3, H4, H5, H6, H10, H11, H12, H13, H14, HT⟩
    isplitl [H12 H13 H14 Hg HT]
    · isplitl [H12 H13 H14 Hg]
      · isplitl [H12 H13 H14]
        · isplitl [H12]
          · iexists _, _; isplitr; swap; · iexact H12
            ipureintro; rfl
          isplitl [H13]
          · iexists _, _; isplitr; swap; · iexact H13
            ipureintro; rfl
          iexists _, _; isplitr; swap; · iexact H14
          ipureintro; rfl
        iexact Hg
      iexact HT
    isplitl [Ho]; · iexact Ho
    isplitl [H2]
    · iexists _; isplitr; swap; · iexact H2
      ipureintro; exact r2
    isplitl [H3]
    · iexists _; isplitr; swap; · iexact H3
      ipureintro; exact r3
    isplitl [H4]
    · iexists _; isplitr; swap; · iexact H4
      ipureintro; exact r4
    isplitl [H5]
    · iexists _; isplitr; swap; · iexact H5
      ipureintro; exact r5
    isplitl [H6]
    · iexists _; isplitr; swap; · iexact H6
      ipureintro; exact r6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl
  rcases Nat.lt_or_ge t.val 96 with h9 | h9
  · have h1 : ¬ k0_cond1 (grid0.coords t) = 1#1 := fun h => by have := c1.1 h; omega
    have h2 := c2.2 ⟨h0, h9⟩
    have h3 : ¬ k0_cond3 (grid0.coords t) = 1#1 := fun h => by have := c3.1 h; omega
    iapply ((runB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) h1 h2 h3 f2 f3 f6 f7 f8 f9 f10 f11 f12 f13 f14 (tbl m 0)).2.2.2.2.2.2 Set.univ _)
    isplitl [H2]; · iexact H2
    isplitl [H3]; · iexact H3
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HT]; · iexact HT
    iintro ⟨H2, H3, H6, H7, H8, H9, H10, H11, H12, H13, H14, HT⟩
    isplitl [H12 H13 H14 Hg HT]
    · isplitl [H12 H13 H14 Hg]
      · isplitl [H12 H13 H14]
        · isplitl [H12]
          · iexists _, _; isplitr; swap; · iexact H12
            ipureintro; rfl
          isplitl [H13]
          · iexists _, _; isplitr; swap; · iexact H13
            ipureintro; rfl
          iexists _, _; isplitr; swap; · iexact H14
          ipureintro; rfl
        iexact Hg
      iexact HT
    isplitl [Ho]; · iexact Ho
    isplitl [H2]
    · iexists _; isplitr; swap; · iexact H2
      ipureintro; exact r2
    isplitl [H3]
    · iexists _; isplitr; swap; · iexact H3
      ipureintro; exact r3
    isplitl [H4]
    · iexists _; isplitr; swap; · iexact H4
      ipureintro; exact r4
    isplitl [H5]
    · iexists _; isplitr; swap; · iexact H5
      ipureintro; exact r5
    isplitl [H6]
    · iexists _; isplitr; swap; · iexact H6
      ipureintro; exact r6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl
  · have h1 : ¬ k0_cond1 (grid0.coords t) = 1#1 := fun h => by have := c1.1 h; omega
    have h2 : ¬ k0_cond2 (grid0.coords t) = 1#1 := fun h => by have := c2.1 h; omega
    have h3 := c3.2 (show t.val = 96 by omega)
    iapply ((runC c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) h1 h2 h3 f6 f7 f8 f9 f12 f13 f14 (tbl m 0)).2.2.2 Set.univ _)
    isplitl [H6]; · iexact H6
    isplitl [H7]; · iexact H7
    isplitl [H8]; · iexact H8
    isplitl [H9]; · iexact H9
    isplitl [H12]; · iexact H12
    isplitl [H13]; · iexact H13
    isplitl [H14]; · iexact H14
    isplitl [HT]; · iexact HT
    iintro ⟨H6, H7, H8, H9, H12, H13, H14, HT⟩
    isplitl [H12 H13 H14 Hg HT]
    · isplitl [H12 H13 H14 Hg]
      · isplitl [H12 H13 H14]
        · isplitl [H12]
          · iexists _, _; isplitr; swap; · iexact H12
            ipureintro; rfl
          isplitl [H13]
          · iexists _, _; isplitr; swap; · iexact H13
            ipureintro; rfl
          iexists _, _; isplitr; swap; · iexact H14
          ipureintro; rfl
        iexact Hg
      iexact HT
    isplitl [Ho]; · iexact Ho
    isplitl [H2]
    · iexists _; isplitr; swap; · iexact H2
      ipureintro; exact r2
    isplitl [H3]
    · iexists _; isplitr; swap; · iexact H3
      ipureintro; exact r3
    isplitl [H4]
    · iexists _; isplitr; swap; · iexact H4
      ipureintro; exact r4
    isplitl [H5]
    · iexists _; isplitr; swap; · iexact H5
      ipureintro; exact r5
    isplitl [H6]
    · iexists _; isplitr; swap; · iexact H6
      ipureintro; exact r6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 5, 6, 7, 8, 9) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (fun c => (dats m hO 0 c).toRForget forgets0) (A_eq m hO) (run_main m ρ hO)

/-- THE FRAME: `Cert.quiescent_Kernel`'s statement (Defs.lean) at any `F`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Kernel.Hand

end
-- ==== Proof.KernelIdealLoops.lean ====
/- The two row loops of `Cert.KernelIdeal`, each with a loop over the scale groups inside: what one trip writes, what the
   trips before the `k`-th have written, and the invariant by which a run goes through the loop. The loop of the first
   grid point (`k0_t2`) and the loop of the later ones (`k0_t4`) quantise a tile of rows alike. -/
module

public import proofs.«01_k».proof.Proof.Gen.KernelIdeal.Loops

@[expose] public section

set_option maxHeartbeats 4000000
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Pieces written into the codes, the scales and the two-slot activation buffer by some trips. -/
abbrev Written (F : FTy → Type) [FloatOps F] : Type :=
  List (View.Piece (Elt F) S1x256x5120 .fp8e4m3) × List (View.Piece (Elt F) S1x256x40 .f32) × List (View.Piece (Elt F) S2x256x5120 .bf16)

/-- What a row loop touches: the tile of `x` and the norm weights at their contents, the codes, the scales and the
    two-slot activation buffer at any. -/
abbrev Touched (c : Dev nD) (arg2 : Memref sig .tc .vmem S1x256x5120 .bf16) (arg3 : Memref sig .tc .vmem S1x5120 .f32) (arg10 : Memref sig .tc .vmem S1x256x5120 .fp8e4m3) (arg11 : Memref sig .tc .vmem S1x256x40 .f32) (arg13 : Memref sig .tc .vmem S2x256x5120 .bf16) (X2 : BufTy.Contents (Elt F) arg2.view.ty) (X3 : BufTy.Contents (Elt F) arg3.view.ty) (f10 : BufTy.Contents (Elt F) arg10.view.ty) (f11 : BufTy.Contents (Elt F) arg11.view.ty) (f13 : BufTy.Contents (Elt F) arg13.view.ty) : sProp 𝕄 :=
  iprop((arg2.view.loc (c : Thread nD τ) ↦[arg2.view.set]{fullShare} X2) ∗ (arg3.view.loc (c : Thread nD τ) ↦[arg3.view.set]{fullShare} X3) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13))

/-! ## The first point's row loop -/

/-- One trip of the row loop at the first grid point: the pieces it writes, and that it writes them. -/
@[irreducible] def tripA (c : Dev nD) (i : grid0.Coords) (arg1 : Memref sig .tc .smem S4 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (k0_h1 : k0_cond1 i = 1#1) (v25 : BitVec 32) (X2 : BufTy.Contents (Elt F) arg2.view.ty) (X3 : BufTy.Contents (Elt F) arg3.view.ty) (k : Fin k0_t2_loop.trips) :
    Σ' (L10 : List (View.Piece (Elt F) S1x256x5120 .fp8e4m3)) (L11 : List (View.Piece (Elt F) S1x256x40 .f32)), { L13 : List (View.Piece (Elt F) S2x256x5120 .bf16) // ∀ (E : Set ℕ) (f10 : BufTy.Contents (Elt F) arg10.view.ty) (f11 : BufTy.Contents (Elt F) arg11.view.ty) (f13 : BufTy.Contents (Elt F) arg13.view.ty),
      Touched (F := F) c arg2 arg3 arg10 arg11 arg13 X2 X3 f10 f11 f13
      ⊢ wp frame (wpE (defs₀ (F := F)) Variants.none (c : Thread nD τ) none) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 k0_h1 v25 k PUnit.unit)
          (fun _ => Touched (F := F) c arg2 arg3 arg10 arg11 arg13 X2 X3 (arg10.view.writes (Elt F) f10 L10) (arg11.view.writes (Elt F) f11 L11) (arg13.view.writes (Elt F) f13 L13)) } := by
  refine ⟨?_, ?_, ?_, fun E f10 f11 f13 => ?run⟩
  case run =>
    unfold k0_t2_body
    iintro ⟨H2, H3, H10, H11, H13⟩
    sl_exec
    sl_step
    sl_close

/-- The pieces of one trip. -/
abbrev wroteA (c : Dev nD) (i : grid0.Coords) (arg1 : Memref sig .tc .smem S4 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (k0_h1 : k0_cond1 i = 1#1) (v25 : BitVec 32) (X2 : BufTy.Contents (Elt F) arg2.view.ty) (X3 : BufTy.Contents (Elt F) arg3.view.ty) (k : Fin k0_t2_loop.trips) : Written F :=
  ((tripA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k).1, (tripA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k).2.1, (tripA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k).2.2.1)

/-- The pieces of the trips before `k`, the last trip's first. -/
def beforeA (c : Dev nD) (i : grid0.Coords) (arg1 : Memref sig .tc .smem S4 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (k0_h1 : k0_cond1 i = 1#1) (v25 : BitVec 32) (X2 : BufTy.Contents (Elt F) arg2.view.ty) (X3 : BufTy.Contents (Elt F) arg3.view.ty) : ℕ → Written F
  | 0 => ([], [], [])
  | k + 1 => if h : k < k0_t2_loop.trips then
      let W := wroteA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 ⟨k, h⟩
      let B := beforeA c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k
      (W.1 ++ B.1, W.2.1 ++ B.2.1, W.2.2 ++ B.2.2)
    else beforeA c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k

/-- One more trip of the first point's loop, as what was done before it and then that trip. -/
theorem beforeA_succ (c : Dev nD) (i : grid0.Coords) (arg1 : Memref sig .tc .smem S4 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (k0_h1 : k0_cond1 i = 1#1) (v25 : BitVec 32) (X2 : BufTy.Contents (Elt F) arg2.view.ty) (X3 : BufTy.Contents (Elt F) arg3.view.ty) (k : Fin k0_t2_loop.trips) :
    beforeA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 (k.val + 1)
      = ((wroteA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k).1 ++ (beforeA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k.val).1, (wroteA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k).2.1 ++ (beforeA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k.val).2.1, (wroteA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k).2.2 ++ (beforeA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k.val).2.2) := by
  rw [beforeA.eq_2]; exact dif_pos k.isLt

set_option warn.classDefReducibility false in
/-- The row loop's invariant at the first point: before trip `k` each buffer it writes holds the pieces of the trips before
    `k` over what the loop found there. -/
@[sl_loop] def loopInvA (c : Dev nD) (i : grid0.Coords) (arg1 : Memref sig .tc .smem S4 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (k0_h1 : k0_cond1 i = 1#1) (v25 : BitVec 32) (E : Set ℕ) (X2 : BufTy.Contents (Elt F) arg2.view.ty) (X3 : BufTy.Contents (Elt F) arg3.view.ty) (G10 : BufTy.Contents (Elt F) arg10.view.ty) (G11 : BufTy.Contents (Elt F) arg11.view.ty) (G13 : BufTy.Contents (Elt F) arg13.view.ty) :
    LoopInvTy_k0_t2 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 k0_h1 v25 where
  inv k _ := iprop((arg2.view.loc (c : Thread nD τ) ↦[arg2.view.set]{fullShare} X2) ∗ (arg3.view.loc (c : Thread nD τ) ↦[arg3.view.set]{fullShare} X3) ∗ (∃ f, (arg10.view.loc (c : Thread nD τ) ↦[arg10.view.set]{fullShare} f) ∗ ⌜f = arg10.view.writes (Elt F) G10 (beforeA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k).1⌝) ∗ (∃ f, (arg11.view.loc (c : Thread nD τ) ↦[arg11.view.set]{fullShare} f) ∗ ⌜f = arg11.view.writes (Elt F) G11 (beforeA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k).2.1⌝) ∗ (∃ f, (arg13.view.loc (c : Thread nD τ) ↦[arg13.view.set]{fullShare} f) ∗ ⌜f = arg13.view.writes (Elt F) G13 (beforeA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k).2.2⌝))
  step k acc := by
    iintro ⟨H2, H3, ⟨%f10, H10, %h10⟩, ⟨%f11, H11, %h11⟩, ⟨%f13, H13, %h13⟩⟩
    iapply (wp_wand_r Idealize.ShloMosaic.frame (wpE (defs₀ (F := F)) Variants.none (c : Thread nD τ) none) E)
    isplitl [H2 H3 H10 H11 H13]
    · iapply ((tripA (F := F) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 k).2.2.2 E f10 f11 f13)
      isplitl [H2]; · iexact H2
      isplitl [H3]; · iexact H3
      isplitl [H10]; · iexact H10
      isplitl [H11]; · iexact H11
      iexact H13
    · iintro %_ ⟨H2, H3, H10, H11, H13⟩
      isplitl [H2]; · iexact H2
      isplitl [H3]; · iexact H3
      rw [beforeA_succ]
      isplitl [H10]
      · iexists _; isplitl [H10]; · iexact H10
        ipureintro; rw [h10, ← View.writes_append]
      isplitl [H11]
      · iexists _; isplitl [H11]; · iexact H11
        ipureintro; rw [h11, ← View.writes_append]
      iexists _; isplitl [H13]; · iexact H13
      ipureintro; rw [h13, ← View.writes_append]

/-! ## The later points' row loop -/

/-- One trip of the row loop at a later grid point: the pieces it writes, and that it writes them. -/
@[irreducible] def tripB (c : Dev nD) (i : grid0.Coords) (arg1 : Memref sig .tc .smem S4 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (arg0 : BitVec 32) (k0_h2 : k0_cond2 i = 1#1) (v11 : BitVec 32) (X2 : BufTy.Contents (Elt F) arg2.view.ty) (X3 : BufTy.Contents (Elt F) arg3.view.ty) (k : Fin k0_t4_loop.trips) :
    Σ' (L10 : List (View.Piece (Elt F) S1x256x5120 .fp8e4m3)) (L11 : List (View.Piece (Elt F) S1x256x40 .f32)), { L13 : List (View.Piece (Elt F) S2x256x5120 .bf16) // ∀ (E : Set ℕ) (f10 : BufTy.Contents (Elt F) arg10.view.ty) (f11 : BufTy.Contents (Elt F) arg11.view.ty) (f13 : BufTy.Contents (Elt F) arg13.view.ty),
      Touched (F := F) c arg2 arg3 arg10 arg11 arg13 X2 X3 f10 f11 f13
      ⊢ wp frame (wpE (defs₀ (F := F)) Variants.none (c : Thread nD τ) none) E (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 k PUnit.unit)
          (fun _ => Touched (F := F) c arg2 arg3 arg10 arg11 arg13 X2 X3 (arg10.view.writes (Elt F) f10 L10) (arg11.view.writes (Elt F) f11 L11) (arg13.view.writes (Elt F) f13 L13)) } := by
  refine ⟨?_, ?_, ?_, fun E f10 f11 f13 => ?run⟩
  case run =>
    unfold k0_t4_body
    iintro ⟨H2, H3, H10, H11, H13⟩
    sl_exec
    sl_step
    sl_close

/-- The pieces of one trip. -/
abbrev wroteB (c : Dev nD) (i : grid0.Coords) (arg1 : Memref sig .tc .smem S4 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (arg0 : BitVec 32) (k0_h2 : k0_cond2 i = 1#1) (v11 : BitVec 32) (X2 : BufTy.Contents (Elt F) arg2.view.ty) (X3 : BufTy.Contents (Elt F) arg3.view.ty) (k : Fin k0_t4_loop.trips) : Written F :=
  ((tripB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k).1, (tripB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k).2.1, (tripB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k).2.2.1)

/-- The pieces of the trips before `k`, the last trip's first. -/
def beforeB (c : Dev nD) (i : grid0.Coords) (arg1 : Memref sig .tc .smem S4 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (arg0 : BitVec 32) (k0_h2 : k0_cond2 i = 1#1) (v11 : BitVec 32) (X2 : BufTy.Contents (Elt F) arg2.view.ty) (X3 : BufTy.Contents (Elt F) arg3.view.ty) : ℕ → Written F
  | 0 => ([], [], [])
  | k + 1 => if h : k < k0_t4_loop.trips then
      let W := wroteB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 ⟨k, h⟩
      let B := beforeB c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k
      (W.1 ++ B.1, W.2.1 ++ B.2.1, W.2.2 ++ B.2.2)
    else beforeB c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k

/-- One more trip of the other points' loop, as what was done before it and then that trip. -/
theorem beforeB_succ (c : Dev nD) (i : grid0.Coords) (arg1 : Memref sig .tc .smem S4 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (arg0 : BitVec 32) (k0_h2 : k0_cond2 i = 1#1) (v11 : BitVec 32) (X2 : BufTy.Contents (Elt F) arg2.view.ty) (X3 : BufTy.Contents (Elt F) arg3.view.ty) (k : Fin k0_t4_loop.trips) :
    beforeB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 (k.val + 1)
      = ((wroteB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k).1 ++ (beforeB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k.val).1, (wroteB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k).2.1 ++ (beforeB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k.val).2.1, (wroteB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k).2.2 ++ (beforeB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k.val).2.2) := by
  rw [beforeB.eq_2]; exact dif_pos k.isLt

set_option warn.classDefReducibility false in
/-- The row loop's invariant at a later point: before trip `k` each buffer it writes holds the pieces of the trips before
    `k` over what the loop found there. -/
@[sl_loop] def loopInvB (c : Dev nD) (i : grid0.Coords) (arg1 : Memref sig .tc .smem S4 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (arg0 : BitVec 32) (k0_h2 : k0_cond2 i = 1#1) (v11 : BitVec 32) (E : Set ℕ) (X2 : BufTy.Contents (Elt F) arg2.view.ty) (X3 : BufTy.Contents (Elt F) arg3.view.ty) (G10 : BufTy.Contents (Elt F) arg10.view.ty) (G11 : BufTy.Contents (Elt F) arg11.view.ty) (G13 : BufTy.Contents (Elt F) arg13.view.ty) :
    LoopInvTy_k0_t4 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 where
  inv k _ := iprop((arg2.view.loc (c : Thread nD τ) ↦[arg2.view.set]{fullShare} X2) ∗ (arg3.view.loc (c : Thread nD τ) ↦[arg3.view.set]{fullShare} X3) ∗ (∃ f, (arg10.view.loc (c : Thread nD τ) ↦[arg10.view.set]{fullShare} f) ∗ ⌜f = arg10.view.writes (Elt F) G10 (beforeB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k).1⌝) ∗ (∃ f, (arg11.view.loc (c : Thread nD τ) ↦[arg11.view.set]{fullShare} f) ∗ ⌜f = arg11.view.writes (Elt F) G11 (beforeB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k).2.1⌝) ∗ (∃ f, (arg13.view.loc (c : Thread nD τ) ↦[arg13.view.set]{fullShare} f) ∗ ⌜f = arg13.view.writes (Elt F) G13 (beforeB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k).2.2⌝))
  step k acc := by
    iintro ⟨H2, H3, ⟨%f10, H10, %h10⟩, ⟨%f11, H11, %h11⟩, ⟨%f13, H13, %h13⟩⟩
    iapply (wp_wand_r Idealize.ShloMosaic.frame (wpE (defs₀ (F := F)) Variants.none (c : Thread nD τ) none) E)
    isplitl [H2 H3 H10 H11 H13]
    · iapply ((tripB (F := F) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 k).2.2.2 E f10 f11 f13)
      isplitl [H2]; · iexact H2
      isplitl [H3]; · iexact H3
      isplitl [H10]; · iexact H10
      isplitl [H11]; · iexact H11
      iexact H13
    · iintro %_ ⟨H2, H3, H10, H11, H13⟩
      isplitl [H2]; · iexact H2
      isplitl [H3]; · iexact H3
      rw [beforeB_succ]
      isplitl [H10]
      · iexists _; isplitl [H10]; · iexact H10
        ipureintro; rw [h10, ← View.writes_append]
      isplitl [H11]
      · iexists _; isplitl [H11]; · iexact H11
        ipureintro; rw [h11, ← View.writes_append]
      iexists _; isplitl [H13]; · iexact H13
      ipureintro; rw [h13, ← View.writes_append]

end Cert.KernelIdeal.Hand

end
-- ==== Proof.KernelIdealKit.lean ====
/- What the proofs about `Cert.KernelIdeal`'s launch share: the contents of the arrays when the kernel starts, the blocks its windows
   show, the staging buffers and the body at a grid point, and how a run of the launch gives the frame. -/
module

public import proofs.«01_k».proof.Proof.Gen.KernelIdeal.Launch
public import proofs.«01_k».proof.Proof.KernelIdealLoops
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branches a grid point takes -/

/-- The first branch is taken at the first point alone, -/
theorem cond1_iff : ∀ t : Fin grid0.N, k0_cond1 (grid0.coords t) = 1#1 ↔ t.val = 0 := by decide +kernel
/-- the second at the points strictly between the first and the last, -/
theorem cond2_iff : ∀ t : Fin grid0.N, k0_cond2 (grid0.coords t) = 1#1 ↔ (0 < t.val ∧ t.val < 96) := by decide +kernel
/-- and the third at the last point alone. -/
theorem cond3_iff : ∀ t : Fin grid0.N, k0_cond3 (grid0.coords t) = 1#1 ↔ t.val = 96 := by decide +kernel

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 1 (operand 2 (%2)) is fetched at the first point only, at any contents of the tables (its index map reads none). -/
theorem fetch0_1 (a : (pcfg0 (F := F)).Adm) : ∀ t : Fin (cfg0 a).N, ((cfg0 a).win 1).fetch t = true ↔ t.val % 97 = 0 :=
  (fun t => Pipeline.Window.fetchOf_const cc0_transform_1 (fun _ _ => rfl) (n := 97) (by decide) t : ∀ t : Fin grid0.N, Pipeline.Window.fetchOf grid0 false cc0_transform_1 t = true ↔ t.val % 97 = 0)
/-- Window 2 (operand 3 (%arg2)) is fetched at the first point only, at any contents of the tables (its index map reads none). -/
theorem fetch0_2 (a : (pcfg0 (F := F)).Adm) : ∀ t : Fin (cfg0 a).N, ((cfg0 a).win 2).fetch t = true ↔ t.val % 97 = 0 :=
  (fun t => Pipeline.Window.fetchOf_const cc0_transform_2 (fun _ _ => rfl) (n := 97) (by decide) t : ∀ t : Fin grid0.N, Pipeline.Window.fetchOf grid0 false cc0_transform_2 t = true ↔ t.val % 97 = 0)
/-- Window 3 (operand 4 (%arg3)) is fetched at the first point only, at any contents of the tables (its index map reads none). -/
theorem fetch0_3 (a : (pcfg0 (F := F)).Adm) : ∀ t : Fin (cfg0 a).N, ((cfg0 a).win 3).fetch t = true ↔ t.val % 97 = 0 :=
  (fun t => Pipeline.Window.fetchOf_const cc0_transform_3 (fun _ _ => rfl) (n := 97) (by decide) t : ∀ t : Fin grid0.N, Pipeline.Window.fetchOf grid0 false cc0_transform_3 t = true ↔ t.val % 97 = 0)
/-- Window 4 (operand 5 (%0)) is fetched at the first point only, at any contents of the tables (its index map reads none). -/
theorem fetch0_4 (a : (pcfg0 (F := F)).Adm) : ∀ t : Fin (cfg0 a).N, ((cfg0 a).win 4).fetch t = true ↔ t.val % 97 = 0 :=
  (fun t => Pipeline.Window.fetchOf_const cc0_transform_4 (fun _ _ => rfl) (n := 97) (by decide) t : ∀ t : Fin grid0.N, Pipeline.Window.fetchOf grid0 false cc0_transform_4 t = true ↔ t.val % 97 = 0)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_rmsnorm_fp8_qkv_rope (grid0.coords t) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _) (Memref.whole cc0_scratch1) (Memref.isWhole_whole _) (Memref.whole cc0_scratch2) (Memref.isWhole_whole _)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The host's lines before the launch make no fresh buffer. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S4 .i32 := Memref.whole main_arg4
/-- The table of position offsets is the whole of its buffer. -/
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (by decide : main_arg4 ∈ Pipeline.restRefs sig spec0)).trans (V_main_arg4 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x256x5120 .bf16 := spec0_0.stage ((cfgM m hO).slots t 0)
/-- The stage of this window is the whole of its buffer. -/
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x5120 .f32 := spec0_1.stage ((cfgM m hO).slots t 1)
/-- The stage of this window is the whole of its buffer. -/
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S5120x1792 .fp8e4m3 := spec0_2.stage ((cfgM m hO).slots t 2)
/-- The stage of this window is the whole of its buffer. -/
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .smem S40x14 .f32 := spec0_3.stage ((cfgM m hO).slots t 3)
/-- The stage of this window is the whole of its buffer. -/
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x128 .f32 := spec0_4.stage ((cfgM m hO).slots t 4)
/-- The stage of this window is the whole of its buffer. -/
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x256x10x128 .bf16 := spec0_5.stage ((cfgM m hO).slots t 5)
/-- The stage of this window is the whole of its buffer. -/
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x256x2x128 .bf16 := spec0_6.stage ((cfgM m hO).slots t 6)
/-- The stage of this window is the whole of its buffer. -/
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x256x2x128 .bf16 := spec0_7.stage ((cfgM m hO).slots t 7)
/-- The stage of this window is the whole of its buffer. -/
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x256x5120 .fp8e4m3 := spec0_8.stage ((cfgM m hO).slots t 8)
/-- The stage of this window is the whole of its buffer. -/
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x256x40 .f32 := spec0_9.stage ((cfgM m hO).slots t 9)
/-- The stage of this window is the whole of its buffer. -/
abbrev hs0_9 (hO : Ok m) (t : Fin (cfgM m hO).N) : (ms0_9 m hO t).IsWhole := hstage0_9 (((cfgM m hO).slots t 9).cast nbuf0_9)
/-- The scratch operands: whole scoped buffers of the kernel's own, passed beside the windows. -/
abbrev scM0_0 : Memref sig .tc .vmem S5120x1792 .bf16 := Memref.whole cc0_scratch0
abbrev scM0_1 : Memref sig .tc .vmem S2x256x5120 .bf16 := Memref.whole cc0_scratch1
abbrev scM0_2 : Memref sig .tc .vmem S2x256x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KernelIdealRuns.lean ====
/- The kernel body of `Cert.KernelIdeal` on any staging buffers, in the three cases of a grid point: the first point, a point in
   the middle, the last point. Each run finds what every buffer the case writes holds at the end. -/
module

public import proofs.«01_k».proof.Proof.KernelIdealKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The first point: the weights are dequantised into `arg12`, the tables written into `arg14`, the first tile quantised. -/
@[irreducible] def runA (c : Dev nD) (i : grid0.Coords) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (h1 : k0_cond1 i = 1#1) (h2 : ¬ k0_cond2 i = 1#1) (h3 : ¬ k0_cond3 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (xt : TbBuf0 (F := F) c tbM0_0) :
    Σ' (g10 : BufTy.Contents (Elt F) arg10.view.ty) (g11 : BufTy.Contents (Elt F) arg11.view.ty) (g12 : BufTy.Contents (Elt F) arg12.view.ty) (g13 : BufTy.Contents (Elt F) arg13.view.ty), { g14 : BufTy.Contents (Elt F) arg14.view.ty // ∀ (E : Set ℕ) (K : PUnit → sProp 𝕄),
      iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ tbPt0 c tbM0_0 xt
          ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ tbPt0 c tbM0_0 xt) -∗ K ⟨⟩))
        ⊢ wp frame (wpE (defs₀ (F := F)) Variants.none (c : Thread nD τ) none) E (cc0_rmsnorm_fp8_qkv_rope i tbM0_0 htbM0_0 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_rmsnorm_fp8_qkv_rope_eq_skeleton]; unfold cc0_rmsnorm_fp8_qkv_rope_skel
    iintro ⟨H2, H3, H4, H5, H6, H10, H11, H12, H13, H14, HT, Hk⟩
    sl_exec
    sl_step
    iapply Hk
    sl_close

set_option maxHeartbeats 8000000 in
/-- A point in the middle: a tile is quantised into one slot of `arg13` and the tile in the other slot is projected and rotated. -/
@[irreducible] def runB (c : Dev nD) (i : grid0.Coords) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (h1 : ¬ k0_cond1 i = 1#1) (h2 : k0_cond2 i = 1#1) (h3 : ¬ k0_cond3 i = 1#1) (f2 : BufTy.Contents (Elt F) arg2.view.ty) (f3 : BufTy.Contents (Elt F) arg3.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (xt : TbBuf0 (F := F) c tbM0_0) :
    Σ' (g7 : BufTy.Contents (Elt F) arg7.view.ty) (g8 : BufTy.Contents (Elt F) arg8.view.ty) (g9 : BufTy.Contents (Elt F) arg9.view.ty) (g10 : BufTy.Contents (Elt F) arg10.view.ty) (g11 : BufTy.Contents (Elt F) arg11.view.ty), { g13 : BufTy.Contents (Elt F) arg13.view.ty // ∀ (E : Set ℕ) (K : PUnit → sProp 𝕄),
      iprop((arg2.view.loc (c : Thread nD τ) ↦[arg2.view.set]{fullShare} f2) ∗ (arg3.view.loc (c : Thread nD τ) ↦[arg3.view.set]{fullShare} f3) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ tbPt0 c tbM0_0 xt
          ∗ (iprop((arg2.view.loc (c : Thread nD τ) ↦[arg2.view.set]{fullShare} f2) ∗ (arg3.view.loc (c : Thread nD τ) ↦[arg3.view.set]{fullShare} f3) ∗ (arg6.view.loc (c : Thread nD τ) ↦[arg6.view.set]{fullShare} f6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} f12) ∗ (arg13.view.loc (c : Thread nD τ) ↦[arg13.view.set]{fullShare} g13) ∗ (arg14.view.loc (c : Thread nD τ) ↦[arg14.view.set]{fullShare} f14) ∗ tbPt0 c tbM0_0 xt) -∗ K ⟨⟩))
        ⊢ wp frame (wpE (defs₀ (F := F)) Variants.none (c : Thread nD τ) none) E (cc0_rmsnorm_fp8_qkv_rope i tbM0_0 htbM0_0 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_rmsnorm_fp8_qkv_rope_eq_skeleton]; unfold cc0_rmsnorm_fp8_qkv_rope_skel
    iintro ⟨H2, H3, H6, H7, H8, H9, H10, H11, H12, H13, H14, HT, Hk⟩
    sl_exec
    sl_step
    iapply Hk
    sl_close

set_option maxHeartbeats 8000000 in
/-- The last point: the last tile is projected and rotated. -/
@[irreducible] def runC (c : Dev nD) (i : grid0.Coords) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole) (h1 : ¬ k0_cond1 i = 1#1) (h2 : ¬ k0_cond2 i = 1#1) (h3 : k0_cond3 i = 1#1) (f6 : BufTy.Contents (Elt F) arg6.view.ty) (f7 : BufTy.Contents (Elt F) arg7.view.ty) (f8 : BufTy.Contents (Elt F) arg8.view.ty) (f9 : BufTy.Contents (Elt F) arg9.view.ty) (f12 : BufTy.Contents (Elt F) arg12.view.ty) (f13 : BufTy.Contents (Elt F) arg13.view.ty) (f14 : BufTy.Contents (Elt F) arg14.view.ty) (xt : TbBuf0 (F := F) c tbM0_0) :
    Σ' (g7 : BufTy.Contents (Elt F) arg7.view.ty) (g8 : BufTy.Contents (Elt F) arg8.view.ty), { g9 : BufTy.Contents (Elt F) arg9.view.ty // ∀ (E : Set ℕ) (K : PUnit → sProp 𝕄),
      iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ tbPt0 c tbM0_0 xt
          ∗ (iprop((arg6.view.loc (c : Thread nD τ) ↦[arg6.view.set]{fullShare} f6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ tbPt0 c tbM0_0 xt) -∗ K ⟨⟩))
        ⊢ wp frame (wpE (defs₀ (F := F)) Variants.none (c : Thread nD τ) none) E (cc0_rmsnorm_fp8_qkv_rope i tbM0_0 htbM0_0 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_rmsnorm_fp8_qkv_rope_eq_skeleton]; unfold cc0_rmsnorm_fp8_qkv_rope_skel
    iintro ⟨H6, H7, H8, H9, H12, H13, H14, HT, Hk⟩
    sl_exec
    sl_step
    iapply Hk
    sl_close

end Cert.KernelIdeal.Hand

end
-- ==== Proof.KernelIdealFrame.lean ====
/- The frame of `Cert.KernelIdeal`: from any memory it runs to the end without a fault, its argument arrays end unchanged and every
   semaphore counter ends at zero. Nothing is said here of what the kernel leaves in its results. -/
module

public import proofs.«01_k».proof.Proof.KernelIdealRuns

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (5, 6, 7, 8, 9): nothing reads what the kernel leaves in them, so nothing
    of it is named (Lib/Pipeline/Dat.lean `Dat.toRForget`). -/
def forgets0 : Fin 10 → Bool := fun w => w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, h⟩ => Pipeline.Dat.unnamed (cfg := (cfgM m hO)) ⟨5, h⟩ t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
/-- A point leaves the window of the norm weights as it found it. -/
theorem after0_1 (hO : Ok m) (c : Dev nD) (t : Fin (cfgM m hO).N) : (dats m hO 0 c).after 1 t = iblk m hO c 1 t := by dsimp only [dats]; try rfl
/-- A point leaves the window of the weights as it found it. -/
theorem after0_2 (hO : Ok m) (c : Dev nD) (t : Fin (cfgM m hO).N) : (dats m hO 0 c).after 2 t = iblk m hO c 2 t := by dsimp only [dats]; try rfl
/-- A point leaves the window of the weights' scales as it found it. -/
theorem after0_3 (hO : Ok m) (c : Dev nD) (t : Fin (cfgM m hO).N) : (dats m hO 0 c).after 3 t = iblk m hO c 3 t := by dsimp only [dats]; try rfl
/-- A point leaves the window of the inverse frequencies as it found it. -/
theorem after0_4 (hO : Ok m) (c : Dev nD) (t : Fin (cfgM m hO).N) : (dats m hO 0 c).after 4 t = iblk m hO c 4 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- Before a point the window of the norm weights holds its block. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- Before a point the window of the weights holds its block. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- Before a point the window of the weights' scales holds its block. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- Before a point the window of the inverse frequencies holds its block. -/
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d))

set_option maxHeartbeats 4000000 in
/-- The body at any point: the inputs' buffers hold their blocks; the run of the point's case applies; the outputs and the
    scratch buffers are handed back at some contents. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq, PhiA0_eq]
  unfold owns
  iintro ⟨⟨⟨⟨⟨%e12, %f12, -, H12⟩, ⟨%e13, %f13, -, H13⟩, ⟨%e14, %f14, -, H14⟩⟩, Hg⟩, HT⟩, Ho, ⟨%d0, %f2, %r2, H2⟩, ⟨%d1, %f3, %r3, H3⟩, ⟨%d2, %f4, %r4, H4⟩, ⟨%d3, %f5, %r5, H5⟩, ⟨%d4, %f6, %r6, H6⟩, ⟨%d5, %f7, -, H7⟩, ⟨%d6, %f8, -, H8⟩, ⟨%d7, %f9, -, H9⟩, ⟨%d8, %f10, -, H10⟩, ⟨%d9, %f11, -, H11⟩⟩
  have hN : t.val < 97 := t.isLt
  have c1 := cond1_iff t; have c2 := cond2_iff t; have c3 := cond3_iff t
  rcases Nat.eq_zero_or_pos t.val with h0 | h0
  · have h1 := c1.2 h0
    have h2 : ¬ k0_cond2 (grid0.coords t) = 1#1 := fun h => by have := c2.1 h; omega
    have h3 : ¬ k0_cond3 (grid0.coords t) = 1#1 := fun h => by have := c3.1 h; omega
    iapply ((runA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) h1 h2 h3 f2 f3 f4 f5 f6 f10 f11 f12 f13 f14 (tbl m 0)).2.2.2.2.2 Set.univ _)
    isplitl [H2]; · iexact H2
    isplitl [H3]; · iexact H3
    isplitl [H4]; · iexact H4
    isplitl [H5]; · iexact H5
    isplitl [H6]; · iexact H6
    isplitl [H10]; · iexact H10
    isplitl [H11]; · iexact H11
    isplitl [H12]; · iexact H12
    isplitl [H13]; · iexact H13
    isplitl [H14]; · iexact H14
    isplitl [HT]; · iexact HT
    iintro ⟨H2, H3, H4, H5, H6, H10, H11, H12, H13, H14, HT⟩
    isplitl [H12 H13 H14 Hg HT]
    · isplitl [H12 H13 H14 Hg]
      · isplitl [H12 H13 H14]
        · isplitl [H12]
          · iexists _, _; isplitr; swap; · iexact H12
            ipureintro; rfl
          isplitl [H13]
          · iexists _, _; isplitr; swap; · iexact H13
            ipureintro; rfl
          iexists _, _; isplitr; swap; · iexact H14
          ipureintro; rfl
        iexact Hg
      iexact HT
    isplitl [Ho]; · iexact Ho
    isplitl [H2]
    · iexists _; isplitr; swap; · iexact H2
      ipureintro; exact r2
    isplitl [H3]
    · iexists _; isplitr; swap; · iexact H3
      ipureintro; exact r3
    isplitl [H4]
    · iexists _; isplitr; swap; · iexact H4
      ipureintro; exact r4
    isplitl [H5]
    · iexists _; isplitr; swap; · iexact H5
      ipureintro; exact r5
    isplitl [H6]
    · iexists _; isplitr; swap; · iexact H6
      ipureintro; exact r6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl
  rcases Nat.lt_or_ge t.val 96 with h9 | h9
  · have h1 : ¬ k0_cond1 (grid0.coords t) = 1#1 := fun h => by have := c1.1 h; omega
    have h2 := c2.2 ⟨h0, h9⟩
    have h3 : ¬ k0_cond3 (grid0.coords t) = 1#1 := fun h => by have := c3.1 h; omega
    iapply ((runB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) h1 h2 h3 f2 f3 f6 f7 f8 f9 f10 f11 f12 f13 f14 (tbl m 0)).2.2.2.2.2.2 Set.univ _)
    isplitl [H2]; · iexact H2
    isplitl [H3]; · iexact H3
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HT]; · iexact HT
    iintro ⟨H2, H3, H6, H7, H8, H9, H10, H11, H12, H13, H14, HT⟩
    isplitl [H12 H13 H14 Hg HT]
    · isplitl [H12 H13 H14 Hg]
      · isplitl [H12 H13 H14]
        · isplitl [H12]
          · iexists _, _; isplitr; swap; · iexact H12
            ipureintro; rfl
          isplitl [H13]
          · iexists _, _; isplitr; swap; · iexact H13
            ipureintro; rfl
          iexists _, _; isplitr; swap; · iexact H14
          ipureintro; rfl
        iexact Hg
      iexact HT
    isplitl [Ho]; · iexact Ho
    isplitl [H2]
    · iexists _; isplitr; swap; · iexact H2
      ipureintro; exact r2
    isplitl [H3]
    · iexists _; isplitr; swap; · iexact H3
      ipureintro; exact r3
    isplitl [H4]
    · iexists _; isplitr; swap; · iexact H4
      ipureintro; exact r4
    isplitl [H5]
    · iexists _; isplitr; swap; · iexact H5
      ipureintro; exact r5
    isplitl [H6]
    · iexists _; isplitr; swap; · iexact H6
      ipureintro; exact r6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl
  · have h1 : ¬ k0_cond1 (grid0.coords t) = 1#1 := fun h => by have := c1.1 h; omega
    have h2 : ¬ k0_cond2 (grid0.coords t) = 1#1 := fun h => by have := c2.1 h; omega
    have h3 := c3.2 (show t.val = 96 by omega)
    iapply ((runC c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) h1 h2 h3 f6 f7 f8 f9 f12 f13 f14 (tbl m 0)).2.2.2 Set.univ _)
    isplitl [H6]; · iexact H6
    isplitl [H7]; · iexact H7
    isplitl [H8]; · iexact H8
    isplitl [H9]; · iexact H9
    isplitl [H12]; · iexact H12
    isplitl [H13]; · iexact H13
    isplitl [H14]; · iexact H14
    isplitl [HT]; · iexact HT
    iintro ⟨H6, H7, H8, H9, H12, H13, H14, HT⟩
    isplitl [H12 H13 H14 Hg HT]
    · isplitl [H12 H13 H14 Hg]
      · isplitl [H12 H13 H14]
        · isplitl [H12]
          · iexists _, _; isplitr; swap; · iexact H12
            ipureintro; rfl
          isplitl [H13]
          · iexists _, _; isplitr; swap; · iexact H13
            ipureintro; rfl
          iexists _, _; isplitr; swap; · iexact H14
          ipureintro; rfl
        iexact Hg
      iexact HT
    isplitl [Ho]; · iexact Ho
    isplitl [H2]
    · iexists _; isplitr; swap; · iexact H2
      ipureintro; exact r2
    isplitl [H3]
    · iexists _; isplitr; swap; · iexact H3
      ipureintro; exact r3
    isplitl [H4]
    · iexists _; isplitr; swap; · iexact H4
      ipureintro; exact r4
    isplitl [H5]
    · iexists _; isplitr; swap; · iexact H5
      ipureintro; exact r5
    isplitl [H6]
    · iexists _; isplitr; swap; · iexact H6
      ipureintro; exact r6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 5, 6, 7, 8, 9) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (fun c => (dats m hO 0 c).toRForget forgets0) (A_eq m hO) (run_main m ρ hO)

/-- THE FRAME: `Cert.quiescent_KernelIdeal`'s statement (Defs.lean) at any `F`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.KernelIdeal.Hand

end
-- ==== Proof.Rows.lean ====
/- One row of activations over the extended reals: its normalised values, the scale of each group of 128 of them, the fp8 codes and
   the dequantised values. The scale is found by the kernel's search over exponent words. -/
module

public import Idealize.ShloMosaic.PureOps.Ideal

@[expose] public section

noncomputable section

namespace Cert.Rows

open Idealize.ShloMosaic
open scoped BigOperators

/-- The reciprocal root mean square of a row, with its epsilon. -/
def rms (x : Fin 5120 → EReal) : EReal :=
  Ideal.rsqrt (Ideal.div (∑ k, x k * x k) (Ideal.ofBits .f32 0x45A00000#32) + Ideal.ofBits .f32 0x358637BD#32)

/-- A normalised value: the element `x` of a row whose reciprocal root mean square is `r`, times its norm weight `w`. -/
def normed (r x w : EReal) : EReal := x * r * w

/-- Column `l` of group `g`. -/
def col (g : Fin 40) (l : Fin 128) : Fin 5120 := ⟨128 * g.val + l.val, by omega⟩

/-- The group of a column. -/
def grp (d : Fin 5120) : Fin 40 := ⟨d.val / 128, by omega⟩

/-- The greatest magnitude among 128 values. -/
def amaxOf (h : Fin 128 → EReal) : EReal :=
  Finset.univ.fold max (Ideal.ofBits .f32 0xFF800000#32) fun l => max (h l) (-(h l))

/-- The greatest magnitude of 128 values over the greatest code, 448: the quantity whose exponent makes the scale. -/
def yOf (h : Fin 128 → EReal) : EReal := amaxOf h * Ideal.ofBits .f32 0x3B124925#32

/-- One step of the search: the bit `m` is set if the word with it is at most `y`. -/
def step (y : EReal) (m b : BitVec 32) : BitVec 32 :=
  if Ideal.cmp .oge y (Ideal.ofBits .f32 (b ||| m)) = 1#1 then b ||| m else b

/-- The exponent bits of `y` by a search from the highest exponent bit to the lowest. -/
def expBits (y : EReal) : BitVec 32 :=
  step y 8388608#32 (step y 16777216#32 (step y 33554432#32 (step y 67108864#32 (step y 134217728#32
    (step y 268435456#32 (step y 536870912#32 (step y 1073741824#32 0#32)))))))

/-- The scale: the power of two with the exponent after `y`'s, and one if `y` has exponent zero. -/
def scaleOf (y : EReal) : EReal :=
  Ideal.ofBits .f32 (if IntOp.cmpi .eq (expBits y) 0#32 = 1#1 then 1065353216#32 else IntOp.addi (expBits y) 8388608#32)

/-- The scale's reciprocal, by the exponent word. -/
def invOf (y : EReal) : EReal :=
  Ideal.ofBits .f32 (if IntOp.cmpi .eq (expBits y) 0#32 = 1#1 then 1065353216#32 else IntOp.subi 2122317824#32 (expBits y))

/-- The code of a value `h`: scaled and clipped to ±448. -/
def codeOf (h y : EReal) : EReal :=
  min (Ideal.ofBits .f32 0x43E00000#32) (max (Ideal.ofBits .f32 0xC3E00000#32) (h * invOf y))

/-- A row's normalised value at column `d`. -/
def hAt (x w : Fin 5120 → EReal) (d : Fin 5120) : EReal := normed (rms x) (x d) (w d)

/-- The quantity that makes the scale of group `g`. -/
def yAt (x w : Fin 5120 → EReal) (g : Fin 40) : EReal := yOf fun l => hAt x w (col g l)

/-- The scale of group `g`. -/
def scaleAt (x w : Fin 5120 → EReal) (g : Fin 40) : EReal := scaleOf (yAt x w g)

/-- The code at column `d`. -/
def codeAt (x w : Fin 5120 → EReal) (d : Fin 5120) : EReal := codeOf (hAt x w d) (yAt x w (grp d))

/-- The dequantised value at column `d`. -/
def xaAt (x w : Fin 5120 → EReal) (d : Fin 5120) : EReal := codeAt x w d * scaleAt x w (grp d)

end Cert.Rows

end
-- ==== Proof.KernelIdealPays.lean ====
/- What the quantiser's payloads of `Cert.KernelIdeal` hold at an index, over the extended reals. -/
module

public import proofs.«01_k».proof.Proof.Gen.KernelIdeal.Skeleton
public import proofs.«01_k».proof.Proof.Rows
public import Idealize.ShloMosaic.Lib.Pointwise

@[expose] public section

set_option maxRecDepth 16384

noncomputable section

namespace Cert.KernelIdeal.Hand

open Cert.KernelIdeal Cert.KernelIdeal.Gen Cert.Rows
open Idealize.ShloMosaic

/-- Row `r`'s reciprocal root mean square. -/
theorem pay8_apply (v : Vec Ideal S1x32x5120 .bf16) (r : Fin 32) (z : Fin 1) :
    k0_pay8 (F := Ideal) v (ix2 r z) = rms fun k => v (ix3 0 r k) := by
  pointwise [k0_pay8, rms]

/-- A normalised value of the group. -/
theorem pay30_apply (s : FVec Ideal S32x1 .f32) (x : Vec Ideal S1x32x128 .bf16) (w : Vec Ideal S1x128 .f32) (r : Fin 32) (l : Fin 128) :
    k0_pay30 (F := Ideal) s x w (ix2 r l) = normed (s (ix2 r 0)) (x (ix3 0 r l)) (w (ix2 0 l)) := by
  pointwise [k0_pay30, normed]

/-- The quantity that makes the scale. -/
theorem pay31_apply (s : FVec Ideal S32x1 .f32) (x : Vec Ideal S1x32x128 .bf16) (w : Vec Ideal S1x128 .f32) (r : Fin 32) (l : Fin 128) :
    k0_pay31 (F := Ideal) s x w (ix2 r l) = yOf fun l' => normed (s (ix2 r 0)) (x (ix3 0 r l')) (w (ix2 0 l')) := by
  pointwise [k0_pay31, k0_pay30, yOf, amaxOf, normed]
  rfl

/-- One step of the search on a vector of words. -/
def stepV (y : FVec Ideal S32x128 .f32) (m : BitVec 32) (b : IVec S32x128 32) : IVec S32x128 32 :=
  select (cmpf .oge y (bitcastToFloat .f32 (ori b (broadcast S32x128 m)))) (ori b (broadcast S32x128 m)) b

/-- One step of the search, element by element: keep the bit if the power of two with it is at most the value. -/
theorem stepV_apply (y : FVec Ideal S32x128 .f32) (m : BitVec 32) (b : IVec S32x128 32) (j : S32x128.Idx) :
    stepV y m b j = step (y j) m (b j) := by
  rfl

/-- The first five steps of the search. -/
theorem pay32_eq (s : FVec Ideal S32x1 .f32) (x : Vec Ideal S1x32x128 .bf16) (w : Vec Ideal S1x128 .f32) :
    k0_pay32 (F := Ideal) s x w = stepV (k0_pay31 (F := Ideal) s x w) 67108864#32 (stepV (k0_pay31 (F := Ideal) s x w) 134217728#32
      (stepV (k0_pay31 (F := Ideal) s x w) 268435456#32 (stepV (k0_pay31 (F := Ideal) s x w) 536870912#32
        (stepV (k0_pay31 (F := Ideal) s x w) 1073741824#32 (broadcast S32x128 0#32))))) := rfl

/-- The last three steps of the search. -/
theorem pay33_eq (y : FVec Ideal S32x128 .f32) (b : IVec S32x128 32) :
    k0_pay33 (F := Ideal) y b 33554432#32 = stepV y 8388608#32 (stepV y 16777216#32 (stepV y 33554432#32 b)) := rfl

/-- The whole search, from the normalised group. -/
theorem pay33_expBits (s : FVec Ideal S32x1 .f32) (x : Vec Ideal S1x32x128 .bf16) (w : Vec Ideal S1x128 .f32) (j : S32x128.Idx) :
    k0_pay33 (F := Ideal) (k0_pay31 (F := Ideal) s x w) (k0_pay32 (F := Ideal) s x w) 33554432#32 j
      = expBits (k0_pay31 (F := Ideal) s x w j) := by
  rw [pay33_eq, pay32_eq]
  simp only [stepV_apply, expBits]
  rfl

/-- The scale of the group of row `r`. -/
theorem pay35_apply (s : FVec Ideal S32x1 .f32) (x : Vec Ideal S1x32x128 .bf16) (w : Vec Ideal S1x128 .f32) (j : S32x128.Idx) :
    k0_pay35 (F := Ideal) (k0_pay31 (F := Ideal) s x w) (k0_pay32 (F := Ideal) s x w) 33554432#32 j
      = scaleOf (k0_pay31 (F := Ideal) s x w j) := by
  unfold scaleOf
  rw [← pay33_expBits]
  unfold k0_pay35 k0_pay34
  generalize k0_pay33 (F := Ideal) _ _ _ = b
  rfl

/-- The code of one value. -/
theorem pay36_apply (s : FVec Ideal S32x1 .f32) (x : Vec Ideal S1x32x128 .bf16) (w : Vec Ideal S1x128 .f32) (j : S32x128.Idx) :
    k0_pay36 (F := Ideal) (k0_pay30 (F := Ideal) s x w) (k0_pay31 (F := Ideal) s x w) (k0_pay32 (F := Ideal) s x w) 33554432#32 j
      = codeOf (k0_pay30 (F := Ideal) s x w j) (k0_pay31 (F := Ideal) s x w j) := by
  unfold codeOf invOf
  rw [← pay33_expBits]
  unfold k0_pay36 k0_pay34
  generalize k0_pay33 (F := Ideal) _ _ _ = b
  generalize k0_pay30 (F := Ideal) s x w = h
  rfl

/-- The codes a trip stores. -/
theorem pay37_apply (s : FVec Ideal S32x1 .f32) (x : Vec Ideal S1x32x128 .bf16) (w : Vec Ideal S1x128 .f32) (z : Fin 1) (r : Fin 32)
    (l : Fin 128) :
    k0_pay37 (F := Ideal) (k0_pay30 (F := Ideal) s x w) (k0_pay31 (F := Ideal) s x w) (k0_pay32 (F := Ideal) s x w) 33554432#32 (ix3 z r l)
      = codeOf (normed (s (ix2 r 0)) (x (ix3 0 r l)) (w (ix2 0 l))) (yOf fun l' => normed (s (ix2 r 0)) (x (ix3 0 r l')) (w (ix2 0 l'))) := by
  rw [← pay30_apply, ← pay31_apply (l := l), ← pay36_apply]
  pointwise [k0_pay37]

/-- The dequantised values a trip stores. -/
theorem pay38_apply (s : FVec Ideal S32x1 .f32) (x : Vec Ideal S1x32x128 .bf16) (w : Vec Ideal S1x128 .f32) (z : Fin 1) (r : Fin 32)
    (l : Fin 128) :
    k0_pay38 (F := Ideal) (k0_pay30 (F := Ideal) s x w) (k0_pay31 (F := Ideal) s x w) (k0_pay32 (F := Ideal) s x w) 33554432#32 (ix3 z r l)
      = codeOf (normed (s (ix2 r 0)) (x (ix3 0 r l)) (w (ix2 0 l))) (yOf fun l' => normed (s (ix2 r 0)) (x (ix3 0 r l')) (w (ix2 0 l')))
        * scaleOf (yOf fun l' => normed (s (ix2 r 0)) (x (ix3 0 r l')) (w (ix2 0 l'))) := by
  rw [← pay30_apply, ← pay31_apply (l := l), ← pay36_apply, ← pay35_apply]
  pointwise [k0_pay38]

/-- One trip's update of the row scales: lane `g` takes the group's scale. -/
theorem pay10_apply (a b : FVec Ideal S32x128 .f32) (g : Fin 40) (r : Fin 32) (l : Fin 128) :
    k0_pay10 (F := Ideal) a b (k0_pay39 (Scf.iv 0#32 1#32 g.val)) (ix2 r l) = if l.val = g.val then b (ix2 r l) else a (ix2 r l) := by
  have h : ∀ (g : Fin 40) (l : Fin 128), (IntOp.cmpi .eq (BitVec.ofNat 32 l.val) (Scf.iv 0#32 1#32 g.val) = 1#1) ↔ l.val = g.val := by
    decide +kernel
  have e : k0_pay10 (F := Ideal) a b (k0_pay39 (Scf.iv 0#32 1#32 g.val)) (ix2 r l)
      = if IntOp.cmpi .eq (BitVec.ofNat 32 l.val) (Scf.iv 0#32 1#32 g.val) = 1#1 then b (ix2 r l) else a (ix2 r l) := by
    pointwise [k0_pay10, k0_pay39]
    rfl
  rw [e]
  simp only [h]

/-- The row scales a chunk stores. -/
theorem pay11_apply (a : FVec Ideal S32x128 .f32) (z : Fin 1) (r : Fin 32) (g : Fin 40) :
    k0_pay11 (F := Ideal) a (ix3 z r g) = a (ix2 r ⟨g.val, by omega⟩) := by
  pointwise [k0_pay11]

end Cert.KernelIdeal.Hand

end
-- ==== Proof.Fill.lean ====
/- A list of stored pieces that together lay ONE function over a region: what a loop's stores leave in a buffer, whatever
   order they run in. -/
module

public import Idealize.ShloMosaic.Lib.Pointwise
public import Idealize.ShloMosaic.Lib.Writes

@[expose] public section

noncomputable section

namespace Cert.Fill

open Idealize.ShloMosaic

variable {Val : EltTy → Type} {s : Shape} {e : EltTy} {sig : RefSig} {κ : Kind} {sp : Space}

/-- The pieces of `L` lie over exactly the region `R`, and each holds the function `G` where it lies. -/
structure Fills (L : List (View.Piece Val s e)) (R : s.Idx → Prop) (G : s.Idx → Val e) : Prop where
  agree : ∀ p ∈ L, ∀ x, p.2 x = G (p.1.emb x)
  region : ∀ y, (∃ p ∈ L, y ∈ p.1.set) ↔ R y

/-- No piece, no region. -/
theorem Fills.nil {R : s.Idx → Prop} {G : s.Idx → Val e} (h : ∀ y, ¬ R y) : Fills [] R G :=
  ⟨fun _ h => absurd h List.not_mem_nil, fun y => ⟨fun ⟨_, h, _⟩ => absurd h List.not_mem_nil, fun hy => absurd hy (h y)⟩⟩

/-- One unit-stride piece. -/
theorem Fills.one {off size : Fin s.rank → Nat} {inb} {w : (Rect.unit (s := s) off size inb).shape.Idx → Val e}
    {R : s.Idx → Prop} {G : s.Idx → Val e} (hw : ∀ x, w x = G ((Rect.unit off size inb).emb x))
    (hR : ∀ y : s.Idx, (∀ a, off a ≤ y a ∧ (y a : Nat) < off a + size a) ↔ R y) :
    Fills [⟨Rect.unit off size inb, w⟩] R G := by
  refine ⟨fun p hp x => ?_, fun y => ?_⟩
  · obtain rfl := List.mem_singleton.mp hp
    exact hw x
  · rw [← hR y, ← Rect.mem_set_unit (inb := inb)]
    exact ⟨fun ⟨p, hp, h⟩ => by obtain rfl := List.mem_singleton.mp hp; exact h, fun h => ⟨_, List.mem_singleton_self _, h⟩⟩

/-- Two lists lie over both regions. -/
theorem Fills.append {L L' : List (View.Piece Val s e)} {R R' R'' : s.Idx → Prop} {G : s.Idx → Val e} (h : Fills L R G)
    (h' : Fills L' R' G) (hR : ∀ y, R'' y ↔ R y ∨ R' y) : Fills (L ++ L') R'' G := by
  refine ⟨fun p hp x => ?_, fun y => ?_⟩
  · rcases List.mem_append.mp hp with hp | hp
    · exact h.agree p hp x
    · exact h'.agree p hp x
  · rw [hR y, ← h.region y, ← h'.region y]
    simp only [List.mem_append]
    exact ⟨fun ⟨p, hp, hy⟩ => hp.elim (fun hp => .inl ⟨p, hp, hy⟩) fun hp => .inr ⟨p, hp, hy⟩,
      fun h => h.elim (fun ⟨p, hp, hy⟩ => ⟨p, .inl hp, hy⟩) fun ⟨p, hp, hy⟩ => ⟨p, .inr hp, hy⟩⟩

/-- The function may be exchanged for one that agrees with it over the region. -/
theorem Fills.congr {L : List (View.Piece Val s e)} {R R' : s.Idx → Prop} {G : s.Idx → Val e} (h : Fills L R G) (hR : ∀ y, R' y ↔ R y) :
    Fills L R' G := ⟨h.agree, fun y => by rw [h.region y, hR y]⟩

/-- In the region the buffer reads the function. -/
theorem Fills.read (v : View sig κ sp s e) (f : v.ty.Contents Val) {L : List (View.Piece Val s e)} {R : s.Idx → Prop} {G : s.Idx → Val e}
    (h : Fills L R G) {y : s.Idx} (hy : R y) : v.read Val (v.writes Val f L) y = G y :=
  View.read_writes_apply_of_pieces _ _ G L h.agree y ((h.region y).mpr hy)

/-- Outside the region the buffer reads what it held. -/
theorem Fills.read_not (v : View sig κ sp s e) (f : v.ty.Contents Val) {L : List (View.Piece Val s e)} {R : s.Idx → Prop}
    {G : s.Idx → Val e} (h : Fills L R G) {y : s.Idx} (hy : ¬ R y) : v.read Val (v.writes Val f L) y = v.read Val f y :=
  View.read_writes_apply_of_forall_not_mem _ _ y L fun p hp hm => hy ((h.region y).mp ⟨p, hp, hm⟩)

/-- One unit-stride piece of a rank-3 buffer, by coordinates. -/
theorem Fills.one3 {n0 n1 n2 s0 s1 s2 : Nat} {o0 o1 o2 : Nat} {off : Fin 3 → Nat} (hoff : off = ![o0, o1, o2])
    {inb : ∀ a, off a + (![s0, s1, s2] : Fin 3 → Nat) a ≤ (⟨3, ![n0, n1, n2]⟩ : Shape).size a}
    {w : (⟨3, ![s0, s1, s2]⟩ : Shape).Idx → Val e}
    {R : (⟨3, ![n0, n1, n2]⟩ : Shape).Idx → Prop} {G : (⟨3, ![n0, n1, n2]⟩ : Shape).Idx → Val e}
    (hw : ∀ (z : Fin s0) (r : Fin s1) (l : Fin s2) (i : Fin n0) (j : Fin n1) (k : Fin n2), i.val = o0 + z.val → j.val = o1 + r.val →
      k.val = o2 + l.val → w (ix3 z r l) = G (ix3 i j k))
    (hR : ∀ (i : Fin n0) (j : Fin n1) (k : Fin n2), ((o0 ≤ i.val ∧ i.val < o0 + s0) ∧ (o1 ≤ j.val ∧ j.val < o1 + s1)
      ∧ (o2 ≤ k.val ∧ k.val < o2 + s2)) ↔ R (ix3 i j k)) :
    Fills (s := ⟨3, ![n0, n1, n2]⟩) [⟨Rect.unit (s := ⟨3, ![n0, n1, n2]⟩) off ![s0, s1, s2] inb, w⟩] R G := by
  subst hoff
  refine Fills.one (fun x => ?_) fun y => ?_
  · obtain ⟨z, r, l, rfl⟩ : ∃ z r l, x = ix3 (n0 := s0) (n1 := s1) (n2 := s2) z r l := ⟨x 0, x 1, x 2, eq_ix3 x⟩
    set y := (Rect.unit (s := ⟨3, ![n0, n1, n2]⟩) ![o0, o1, o2] ![s0, s1, s2] inb).emb (ix3 z r l) with hy
    obtain ⟨i, j, k, he⟩ : ∃ i j k, y = ix3 (n0 := n0) (n1 := n1) (n2 := n2) i j k := ⟨y 0, y 1, y 2, eq_ix3 y⟩
    have h (a) : (ix3 i j k a).val = (![o0, o1, o2] : Fin 3 → Nat) a + 1 * (ix3 z r l a).val := by rw [← he]; rfl
    have h0 : i.val = o0 + 1 * z.val := h 0
    have h1 : j.val = o1 + 1 * r.val := h 1
    have h2 : k.val = o2 + 1 * l.val := h 2
    rw [he]
    exact hw z r l i j k (by omega) (by omega) (by omega)
  · obtain ⟨i, j, k, rfl⟩ : ∃ i j k, y = ix3 (n0 := n0) (n1 := n1) (n2 := n2) i j k := ⟨y 0, y 1, y 2, eq_ix3 y⟩
    rw [← hR i j k]
    exact ⟨fun h => ⟨h 0, h 1, h 2⟩, fun h a => match a with
      | ⟨0, _⟩ => h.1
      | ⟨1, _⟩ => h.2.1
      | ⟨2, _⟩ => h.2.2⟩

/-- One unit-stride piece of a rank-2 buffer, by coordinates. -/
theorem Fills.one2 {n0 n1 s0 s1 : Nat} {o0 o1 : Nat} {off : Fin 2 → Nat} (hoff : off = ![o0, o1])
    {inb : ∀ a, off a + (![s0, s1] : Fin 2 → Nat) a ≤ (⟨2, ![n0, n1]⟩ : Shape).size a}
    {w : (⟨2, ![s0, s1]⟩ : Shape).Idx → Val e}
    {R : (⟨2, ![n0, n1]⟩ : Shape).Idx → Prop} {G : (⟨2, ![n0, n1]⟩ : Shape).Idx → Val e}
    (hw : ∀ (z : Fin s0) (r : Fin s1) (i : Fin n0) (j : Fin n1), i.val = o0 + z.val → j.val = o1 + r.val → w (ix2 z r) = G (ix2 i j))
    (hR : ∀ (i : Fin n0) (j : Fin n1), ((o0 ≤ i.val ∧ i.val < o0 + s0) ∧ (o1 ≤ j.val ∧ j.val < o1 + s1)) ↔ R (ix2 i j)) :
    Fills (s := ⟨2, ![n0, n1]⟩) [⟨Rect.unit (s := ⟨2, ![n0, n1]⟩) off ![s0, s1] inb, w⟩] R G := by
  subst hoff
  refine Fills.one (fun x => ?_) fun y => ?_
  · obtain ⟨z, r, rfl⟩ : ∃ z r, x = ix2 (n0 := s0) (n1 := s1) z r := ⟨x 0, x 1, eq_ix2 x⟩
    set y := (Rect.unit (s := ⟨2, ![n0, n1]⟩) ![o0, o1] ![s0, s1] inb).emb (ix2 z r) with hy
    obtain ⟨i, j, he⟩ : ∃ i j, y = ix2 (n0 := n0) (n1 := n1) i j := ⟨y 0, y 1, eq_ix2 y⟩
    have h (a) : (ix2 i j a).val = (![o0, o1] : Fin 2 → Nat) a + 1 * (ix2 z r a).val := by rw [← he]; rfl
    have h0 : i.val = o0 + 1 * z.val := h 0
    have h1 : j.val = o1 + 1 * r.val := h 1
    rw [he]
    exact hw z r i j (by omega) (by omega)
  · obtain ⟨i, j, rfl⟩ : ∃ i j, y = ix2 (n0 := n0) (n1 := n1) i j := ⟨y 0, y 1, eq_ix2 y⟩
    rw [← hR i j]
    exact ⟨fun h => ⟨h 0, h 1⟩, fun h a => match a with
      | ⟨0, _⟩ => h.1
      | ⟨1, _⟩ => h.2⟩

/-- One more piece in front. -/
theorem Fills.cons {p : View.Piece Val s e} {L : List (View.Piece Val s e)} {R R' R'' : s.Idx → Prop} {G : s.Idx → Val e} (h : Fills [p] R G)
    (h' : Fills L R' G) (hR : ∀ y, R'' y ↔ R y ∨ R' y) : Fills (p :: L) R'' G := h.append h' hR

end Cert.Fill

end
-- ==== Proof.KernelIdealPieces.lean ====
/- The pieces that one trip over a scale group stores in `Cert.KernelIdeal`: which part of the tile they lie over and what they
   hold. -/
module

public import proofs.«01_k».proof.Proof.KernelIdealPays
public import proofs.«01_k».proof.Proof.Fill
public import Idealize.ShloMosaic.Lib.Pipeline.ValueKit.Tiles

@[expose] public section

set_option maxRecDepth 16384

noncomputable section

namespace Cert.KernelIdeal.Hand

open Cert.KernelIdeal Cert.KernelIdeal.Gen Cert.Rows Cert.Fill
open Idealize.ShloMosaic

/-- Row `r` of a tile. -/
def xrow (X : S1x256x5120.Idx → Elt Ideal .bf16) (r : Fin 256) : Fin 5120 → EReal := fun d => X (ix3 0 r d)

/-- The norm weights. -/
def wrow (W : S1x5120.Idx → Elt Ideal .f32) : Fin 5120 → EReal := fun d => W (ix2 0 d)

/-- The codes of a tile. -/
def codesT (X : S1x256x5120.Idx → Elt Ideal .bf16) (W : S1x5120.Idx → Elt Ideal .f32) : S1x256x5120.Idx → Elt Ideal .fp8e4m3 :=
  fun y => codeAt (xrow X (y 1)) (wrow W) (y 2)

/-- The scales of a tile. -/
def scalesT (X : S1x256x5120.Idx → Elt Ideal .bf16) (W : S1x5120.Idx → Elt Ideal .f32) : S1x256x40.Idx → Elt Ideal .f32 :=
  fun y => scaleAt (xrow X (y 1)) (wrow W) (y 2)

/-- The dequantised values of a tile, in either slot. -/
def xaT (X : S1x256x5120.Idx → Elt Ideal .bf16) (W : S1x5120.Idx → Elt Ideal .f32) : S2x256x5120.Idx → Elt Ideal .bf16 :=
  fun y => xaAt (xrow X (y 1)) (wrow W) (y 2)

/-- Row `r` of chunk `t`. -/
def crow (t : Fin 8) (r : Fin 32) : Fin 256 := ⟨32 * t.val + r.val, by omega⟩

/-- The group of a group's column is that group. -/
theorem grp_col (g : Fin 40) (l : Fin 128) : grp (col g l) = g := Fin.ext (by simp only [grp, col]; omega)

section
variable (X : S1x256x5120.Idx → Elt Ideal .bf16) (W : S1x5120.Idx → Elt Ideal .f32) (t : Fin 8) (g : Fin 40)
  {s : FVec Ideal S32x1 .f32} (hs : ∀ r, s (ix2 r 0) = rms (xrow X (crow t r)))
  {a : Vec Ideal S1x32x128 .bf16} (ha : ∀ r l, a (ix3 0 r l) = X (ix3 0 (crow t r) (col g l)))
  {b : Vec Ideal S1x128 .f32} (hb : ∀ l, b (ix2 0 l) = W (ix2 0 (col g l)))

include hs ha hb

/-- The normalised group, element by element. -/
theorem normed_eq (r : Fin 32) (l : Fin 128) :
    normed (s (ix2 r 0)) (a (ix3 0 r l)) (b (ix2 0 l)) = hAt (xrow X (crow t r)) (wrow W) (col g l) := by
  rw [hs, ha, hb]; rfl

/-- The group's greatest magnitude over 448, as the kernel makes it. -/
theorem yOf_eq (r : Fin 32) :
    yOf (fun l => normed (s (ix2 r 0)) (a (ix3 0 r l)) (b (ix2 0 l))) = yAt (xrow X (crow t r)) (wrow W) g :=
  congrArg yOf (funext fun l => normed_eq X W t g hs ha hb r l)

/-- The codes' piece of one group. -/
theorem codes_piece {off : Fin 3 → Nat} {inb} (hoff : off = ![0, 32 * t.val, 128 * g.val]) :
    Fills (Val := Elt Ideal) (s := S1x256x5120) (e := .fp8e4m3) [⟨Rect.unit off ![1, 32, 128] inb, k0_pay37 (F := Ideal) (k0_pay30 (F := Ideal) s a b)
      (k0_pay31 (F := Ideal) s a b) (k0_pay32 (F := Ideal) s a b) 33554432#32⟩]
      (fun y => (y 1).val / 32 = t.val ∧ (y 2).val / 128 = g.val) (codesT X W) := by
  refine Fills.one3 hoff (fun z r l i j k hi hj hk => ?_) fun i j k => ?_
  · obtain rfl : j = crow t r := Fin.ext hj
    obtain rfl : k = col g l := Fin.ext hk
    rw [pay37_apply, normed_eq X W t g hs ha hb, yOf_eq X W t g hs ha hb]
    show _ = codeOf _ (yAt _ _ (grp (col g l)))
    rw [grp_col]; rfl
  · show _ ↔ j.val / 32 = t.val ∧ k.val / 128 = g.val
    omega

/-- The dequantised values' piece of one group, in slot `p`. -/
theorem xa_piece (p : Nat) {off : Fin 3 → Nat} {inb} (hoff : off = ![p, 32 * t.val, 128 * g.val]) :
    Fills (Val := Elt Ideal) (s := S2x256x5120) (e := .bf16) [⟨Rect.unit off ![1, 32, 128] inb, k0_pay38 (F := Ideal) (k0_pay30 (F := Ideal) s a b)
      (k0_pay31 (F := Ideal) s a b) (k0_pay32 (F := Ideal) s a b) 33554432#32⟩]
      (fun y => (y 0).val = p ∧ (y 1).val / 32 = t.val ∧ (y 2).val / 128 = g.val) (xaT X W) := by
  refine Fills.one3 hoff (fun z r l i j k hi hj hk => ?_) fun i j k => ?_
  · obtain rfl : j = crow t r := Fin.ext hj
    obtain rfl : k = col g l := Fin.ext hk
    rw [pay38_apply, normed_eq X W t g hs ha hb, yOf_eq X W t g hs ha hb]
    show _ = codeOf _ (yAt _ _ (grp (col g l))) * scaleOf (yAt _ _ (grp (col g l)))
    rw [grp_col]; rfl
  · show _ ↔ i.val = p ∧ j.val / 32 = t.val ∧ k.val / 128 = g.val
    omega

/-- One trip's update of the row scales, at a lane below the groups done. -/
theorem acc_step (acc : FVec Ideal S32x128 .f32)
    (hacc : ∀ (r : Fin 32) (g' : Fin 40), g'.val < g.val → acc (ix2 r ⟨g'.val, by omega⟩) = scaleAt (xrow X (crow t r)) (wrow W) g')
    (r : Fin 32) (g' : Fin 40) (hg : g'.val < g.val + 1) :
    k0_pay10 (F := Ideal) acc (k0_pay35 (F := Ideal) (k0_pay31 (F := Ideal) s a b) (k0_pay32 (F := Ideal) s a b) 33554432#32)
      (k0_pay39 (Scf.iv 0#32 1#32 g.val)) (ix2 r ⟨g'.val, by omega⟩) = scaleAt (xrow X (crow t r)) (wrow W) g' := by
  rw [pay10_apply]
  split_ifs with h
  · obtain rfl : g' = g := Fin.ext h
    rw [pay35_apply, pay31_apply, yOf_eq X W t g' hs ha hb]
    rfl
  · exact hacc r g' (by have : g'.val ≠ g.val := h; omega)

end

/-- The scales' piece of one chunk. -/
theorem scales_piece (X : S1x256x5120.Idx → Elt Ideal .bf16) (W : S1x5120.Idx → Elt Ideal .f32) (t : Fin 8)
    (acc : FVec Ideal S32x128 .f32)
    (hacc : ∀ (r : Fin 32) (g : Fin 40), acc (ix2 r ⟨g.val, by omega⟩) = scaleAt (xrow X (crow t r)) (wrow W) g)
    {off : Fin 3 → Nat} {inb} (hoff : off = ![0, 32 * t.val, 0]) :
    Fills (Val := Elt Ideal) (s := S1x256x40) (e := .f32) [⟨Rect.unit off ![1, 32, 40] inb, k0_pay11 (F := Ideal) acc⟩]
      (fun y => (y 1).val / 32 = t.val) (scalesT X W) := by
  refine Fills.one3 hoff (fun z r l i j k hi hj hk => ?_) fun i j k => ?_
  · obtain rfl : j = crow t r := Fin.ext hj
    obtain rfl : k = l := Fin.ext (by omega)
    rw [pay11_apply, hacc]; rfl
  · show _ ↔ j.val / 32 = t.val
    omega

/-- A row's reciprocal root mean square, from the chunk read. -/
theorem chunk_rms (X : S1x256x5120.Idx → Elt Ideal .bf16) (t : Fin 8) {off : Fin 3 → Nat} {inb} (hoff : off = ![0, 32 * t.val, 0]) (r : Fin 32) :
    k0_pay8 (F := Ideal) (View.ld (Val := Elt Ideal) (S := S1x256x5120) (e' := .bf16) X (Rect.unit off ![1, 32, 5120] inb)) (ix2 r 0) = rms (xrow X (crow t r)) := by
  subst hoff
  rw [pay8_apply]
  refine congrArg rms (funext fun k => ?_)
  exact View.ld_unit_apply_of X _ _ inb _ (ix3 0 (crow t r) k) fun a => match a with
    | ⟨0, _⟩ => rfl
    | ⟨1, _⟩ => rfl
    | ⟨2, _⟩ => (Nat.zero_add _).symm

/-- A group of a chunk, as read. -/
theorem group_x (X : S1x256x5120.Idx → Elt Ideal .bf16) (t : Fin 8) (g : Fin 40) {off : Fin 3 → Nat} {inb}
    (hoff : off = ![0, 32 * t.val, 128 * g.val]) (r : Fin 32) (l : Fin 128) :
    View.ld (Val := Elt Ideal) (S := S1x256x5120) (e' := .bf16) X (Rect.unit off ![1, 32, 128] inb) (ix3 0 r l) = X (ix3 0 (crow t r) (col g l)) := by
  subst hoff
  exact View.ld_unit_apply_of X _ _ inb _ (ix3 0 (crow t r) (col g l)) fun a => match a with
    | ⟨0, _⟩ => rfl
    | ⟨1, _⟩ => rfl
    | ⟨2, _⟩ => rfl

/-- A group of the norm weights, as read. -/
theorem group_w (W : S1x5120.Idx → Elt Ideal .f32) (g : Fin 40) {off : Fin 2 → Nat} {inb} (hoff : off = ![0, 128 * g.val]) (l : Fin 128) :
    View.ld (Val := Elt Ideal) (S := S1x5120) (e' := .f32) W (Rect.unit off ![1, 128] inb) (ix2 0 l) = W (ix2 0 (col g l)) := by
  subst hoff
  exact View.ld_unit_apply_of W _ _ inb _ (ix2 0 (col g l)) fun a => match a with
    | ⟨0, _⟩ => rfl
    | ⟨1, _⟩ => rfl

end Cert.KernelIdeal.Hand

end
-- ==== Proof.KernelIdealTrips.lean ====
/- What the two row loops of `Cert.KernelIdeal` leave: after `n` trips the first `32 n` rows of the tile hold their codes, their
   scales and their dequantised values, each the plain function of the tile and the norm weights. -/
module

public import proofs.«01_k».proof.Proof.KernelIdealPieces
public import proofs.«01_k».proof.Proof.KernelIdealLoops

@[expose] public section

set_option maxHeartbeats 1000000
set_option maxRecDepth 16384

noncomputable section

namespace Cert.KernelIdeal.Hand

open Cert.KernelIdeal Cert.KernelIdeal.Gen Cert.Rows Cert.Fill
open Idealize.ShloMosaic Idealize.ShloMosaic.TcCoe Idealize.ShloMosaic.Tactic

/-- What a loop over the groups of chunk `t` holds after `n` groups: the scales so far, and the pieces stored. -/
structure GroupsDone (X : S1x256x5120.Idx → Elt Ideal .bf16) (W : S1x5120.Idx → Elt Ideal .f32) (p : Nat) (t : Fin 8) (n : Nat)
    (acc : FVec Ideal S32x128 .f32) (L10 : List (View.Piece (Elt Ideal) S1x256x5120 .fp8e4m3))
    (L13 : List (View.Piece (Elt Ideal) S2x256x5120 .bf16)) : Prop where
  scales : ∀ (r : Fin 32) (g : Fin 40), g.val < n → acc (ix2 r ⟨g.val, by omega⟩) = scaleAt (xrow X (crow t r)) (wrow W) g
  codes : Fills L10 (fun y => (y 1).val / 32 = t.val ∧ (y 2).val / 128 < n) (codesT X W)
  xa : Fills L13 (fun y => (y 0).val = p ∧ (y 1).val / 32 = t.val ∧ (y 2).val / 128 < n) (xaT X W)

/-- Before the first group nothing has to be shown of the groups done. -/
theorem GroupsDone.zero (X : S1x256x5120.Idx → Elt Ideal .bf16) (W : S1x5120.Idx → Elt Ideal .f32) (p : Nat) (t : Fin 8)
    (acc : FVec Ideal S32x128 .f32) : GroupsDone X W p t 0 acc [] [] :=
  ⟨fun _ _ h => absurd h (Nat.not_lt_zero _), Fills.nil fun _ h => absurd h.2 (Nat.not_lt_zero _),
    Fills.nil fun _ h => absurd h.2.2 (Nat.not_lt_zero _)⟩

/-- One more group. -/
theorem GroupsDone.succ {X : S1x256x5120.Idx → Elt Ideal .bf16} {W : S1x5120.Idx → Elt Ideal .f32} {p : Nat} {t : Fin 8} {g : Fin 40}
    {acc : FVec Ideal S32x128 .f32} {L10 : List (View.Piece (Elt Ideal) S1x256x5120 .fp8e4m3)}
    {L13 : List (View.Piece (Elt Ideal) S2x256x5120 .bf16)} (h : GroupsDone X W p t g.val acc L10 L13)
    {off0 off off13 : Fin 3 → Nat} {offw : Fin 2 → Nat} {inb0 inb inb13 inbw} (hoff0 : off0 = ![0, 32 * t.val, 0])
    (hoff : off = ![0, 32 * t.val, 128 * g.val]) (hoff13 : off13 = ![p, 32 * t.val, 128 * g.val]) (hoffw : offw = ![0, 128 * g.val])
    {s : FVec Ideal S32x1 .f32} {a : Vec Ideal S1x32x128 .bf16} {b : Vec Ideal S1x128 .f32}
    (hs : s = k0_pay8 (F := Ideal) (View.ld (Val := Elt Ideal) (S := S1x256x5120) (e' := .bf16) X (Rect.unit off0 ![1, 32, 5120] inb0)))
    (ha : a = View.ld (Val := Elt Ideal) (S := S1x256x5120) (e' := .bf16) X (Rect.unit off ![1, 32, 128] inb))
    (hb : b = View.ld (Val := Elt Ideal) (S := S1x5120) (e' := .f32) W (Rect.unit offw ![1, 128] inbw)) :
    GroupsDone X W p t (g.val + 1)
      (k0_pay10 (F := Ideal) acc (k0_pay35 (F := Ideal) (k0_pay31 (F := Ideal) s a b) (k0_pay32 (F := Ideal) s a b) 33554432#32)
        (k0_pay39 (Scf.iv 0#32 1#32 g.val)))
      ([⟨Rect.unit off ![1, 32, 128] inb, k0_pay37 (F := Ideal) (k0_pay30 (F := Ideal) s a b)
        (k0_pay31 (F := Ideal) s a b) (k0_pay32 (F := Ideal) s a b) 33554432#32⟩] ++ L10)
      ([⟨Rect.unit off13 ![1, 32, 128] inb13, k0_pay38 (F := Ideal) (k0_pay30 (F := Ideal) s a b)
        (k0_pay31 (F := Ideal) s a b) (k0_pay32 (F := Ideal) s a b) 33554432#32⟩] ++ L13) := by
  have hs' : ∀ r, s (ix2 r 0) = rms (xrow X (crow t r)) := fun r => by rw [hs]; exact chunk_rms X t hoff0 r
  have ha' : ∀ r l, a (ix3 0 r l) = X (ix3 0 (crow t r) (col g l)) := fun r l => by rw [ha]; exact group_x X t g hoff r l
  have hb' : ∀ l, b (ix2 0 l) = W (ix2 0 (col g l)) := fun l => by rw [hb]; exact group_w W g hoffw l
  refine ⟨fun r g' hg => acc_step X W t g hs' ha' hb' acc h.scales r g' hg,
    (codes_piece X W t g hs' ha' hb' hoff).append h.codes fun y => ?_,
    (xa_piece X W t g hs' ha' hb' p hoff13).append h.xa fun y => ?_⟩
  · generalize (y 1).val / 32 = u; generalize (y 2).val / 128 = v; omega
  · generalize (y 0).val = w; generalize (y 1).val / 32 = u; generalize (y 2).val / 128 = v; omega

/-- What a loop over the chunks holds after `n` chunks. -/
structure ChunksDone (X : S1x256x5120.Idx → Elt Ideal .bf16) (W : S1x5120.Idx → Elt Ideal .f32) (p : Nat) (n : Nat)
    (L : Written Ideal) : Prop where
  codes : Fills L.1 (fun y => (y 1).val / 32 < n) (codesT X W)
  scales : Fills L.2.1 (fun y => (y 1).val / 32 < n) (scalesT X W)
  xa : Fills L.2.2 (fun y => (y 0).val = p ∧ (y 1).val / 32 < n) (xaT X W)

/-- Before the first chunk nothing has to be shown of the chunks done. -/
theorem ChunksDone.zero (X : S1x256x5120.Idx → Elt Ideal .bf16) (W : S1x5120.Idx → Elt Ideal .f32) (p : Nat) :
    ChunksDone X W p 0 ([], [], []) :=
  ⟨Fills.nil fun _ h => absurd h (Nat.not_lt_zero _), Fills.nil fun _ h => absurd h (Nat.not_lt_zero _),
    Fills.nil fun _ h => absurd h.2 (Nat.not_lt_zero _)⟩

/-- One more chunk, all of its groups done. -/
theorem ChunksDone.succ {X : S1x256x5120.Idx → Elt Ideal .bf16} {W : S1x5120.Idx → Elt Ideal .f32} {p : Nat} {t : Fin 8}
    {L : Written Ideal} (h : ChunksDone X W p t.val L) {acc : FVec Ideal S32x128 .f32}
    {L10 : List (View.Piece (Elt Ideal) S1x256x5120 .fp8e4m3)} {L13 : List (View.Piece (Elt Ideal) S2x256x5120 .bf16)}
    (hg : GroupsDone X W p t 40 acc L10 L13) {off : Fin 3 → Nat} {inb} (hoff : off = ![0, 32 * t.val, 0]) :
    ChunksDone X W p (t.val + 1) (L10 ++ L.1, [⟨Rect.unit off ![1, 32, 40] inb, k0_pay11 (F := Ideal) acc⟩] ++ L.2.1, L13 ++ L.2.2) := by
  refine ⟨hg.codes.append h.codes fun y => ?_,
    (scales_piece X W t acc (fun r g => hg.scales r g g.isLt) hoff).append h.scales fun y => ?_, hg.xa.append h.xa fun y => ?_⟩
  · have : (y 2).val < 5120 := (y 2).isLt
    generalize (y 1).val / 32 = u; generalize (y 2).val = v at *; omega
  · generalize (y 1).val / 32 = u; omega
  · have : (y 2).val < 5120 := (y 2).isLt
    generalize (y 0).val = w; generalize (y 1).val / 32 = u; generalize (y 2).val = v at *; omega

section
variable (c : Dev nD) (i : grid0.Coords) (arg1 : Memref sig .tc .smem S4 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole)

/-- The first point's loop over the groups of one chunk. -/
theorem groupsA (k0_h1 : k0_cond1 i = 1#1) (v25 : BitVec 32) (k : Fin k0_t2_loop.trips) (v30 : BitVec 32)
    (X2 : BufTy.Contents (Elt Ideal) arg2.view.ty) (X3 : BufTy.Contents (Elt Ideal) arg3.view.ty) (init : FVec Ideal S32x128 .f32)
    (t : Fin 8) (ht : k.val = t.val) {inb} (v32 : Vec Ideal S1x32x5120 .bf16)
    (hv : v32 = View.readAt (Elt Ideal) arg2.view (Rect.unit (k0_off29 k) ![1, 32, 5120] inb).toLoadRect X2) :
    ∀ n, n ≤ 40 → GroupsDone (arg2.view.read (Elt Ideal) X2) (arg3.view.read (Elt Ideal) X3) ((i 0).val % 2) t n
      (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 k0_h1 v25 k v30 v32 X2 X3 init n).1
      (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 k0_h1 v25 k v30 v32 X2 X3 init n).2.1
      (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 k0_h1 v25 k v30 v32 X2 X3 init n).2.2 := by
  intro n
  induction n with
  | zero => exact fun _ => GroupsDone.zero _ _ _ _ _
  | succ n ih =>
    intro hn
    have hlt : n < k0_t3_loop.trips := by have : k0_t3_loop.trips = 40 := by decide +kernel
                                          omega
    have h := ih (by omega)
    rw [st_k0_t3_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 k0_h1 v25 k v30 v32 X2 X3 init ⟨n, hlt⟩]
    generalize st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 k0_h1 v25 k v30 v32 X2 X3 init n = st at h ⊢
    unfold tripL_k0_t3 tripR_k0_t3 trip_k0_t3
    dsimp only
    sl_unfold_run_names
    exact GroupsDone.succ (g := ⟨n, by omega⟩) h (inb0 := inb) (by rw [k0_off29_eq, ht]) (by rw [k0_off30_eq, ht]) (by rw [k0_off32_eq, ht])
      (by rw [k0_off31_eq]) (by rw [hv]; rfl) rfl rfl

/-- The later points' loop over the groups of one chunk. -/
theorem groupsB (arg0 : BitVec 32) (k0_h2 : k0_cond2 i = 1#1) (v11 : BitVec 32) (k : Fin k0_t4_loop.trips) (v179 : BitVec 32)
    (X2 : BufTy.Contents (Elt Ideal) arg2.view.ty) (X3 : BufTy.Contents (Elt Ideal) arg3.view.ty) (init : FVec Ideal S32x128 .f32)
    (t : Fin 8) (ht : k.val = t.val) {inb} (v181 : Vec Ideal S1x32x5120 .bf16)
    (hv : v181 = View.readAt (Elt Ideal) arg2.view (Rect.unit (k0_off34 k) ![1, 32, 5120] inb).toLoadRect X2) :
    ∀ n, n ≤ 40 → GroupsDone (arg2.view.read (Elt Ideal) X2) (arg3.view.read (Elt Ideal) X3) ((i 0).val % 2) t n
      (st_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 k v179 v181 X2 X3 init n).1
      (st_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 k v179 v181 X2 X3 init n).2.1
      (st_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 k v179 v181 X2 X3 init n).2.2 := by
  intro n
  induction n with
  | zero => exact fun _ => GroupsDone.zero _ _ _ _ _
  | succ n ih =>
    intro hn
    have hlt : n < k0_t5_loop.trips := by have : k0_t5_loop.trips = 40 := by decide +kernel
                                          omega
    have h := ih (by omega)
    rw [st_k0_t5_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 k v179 v181 X2 X3 init ⟨n, hlt⟩]
    generalize st_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 k v179 v181 X2 X3 init n = st at h ⊢
    unfold tripL_k0_t5 tripR_k0_t5 trip_k0_t5
    dsimp only
    sl_unfold_run_names
    exact GroupsDone.succ (g := ⟨n, by omega⟩) h (inb0 := inb) (by rw [k0_off34_eq, ht]) (by rw [k0_off35_eq, ht]) (by rw [k0_off37_eq, ht])
      (by rw [k0_off36_eq]) (by rw [hv]; rfl) rfl rfl

/-- The first point's loop over chunks of rows runs eight times. -/
theorem trips2 : k0_t2_loop.trips = 8 := by decide +kernel
/-- The other points' loop over chunks of rows runs eight times. -/
theorem trips4 : k0_t4_loop.trips = 8 := by decide +kernel

/-- The first point's loop over the chunks. -/
theorem chunksA (k0_h1 : k0_cond1 i = 1#1) (v25 : BitVec 32)
    (X2 : BufTy.Contents (Elt Ideal) arg2.view.ty) (X3 : BufTy.Contents (Elt Ideal) arg3.view.ty) :
    ∀ n, n ≤ 8 → ChunksDone (arg2.view.read (Elt Ideal) X2) (arg3.view.read (Elt Ideal) X3) ((i 0).val % 2) n
      (beforeA (F := Ideal) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 n) := by
  intro n
  induction n with
  | zero => exact fun _ => ChunksDone.zero _ _ _
  | succ n ih =>
    intro hn
    have h := ih (by omega)
    rw [beforeA_succ (F := Ideal) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 ⟨n, by rw [trips2]; omega⟩]
    dsimp only
    generalize beforeA (F := Ideal) c i arg1 harg1 arg2 harg2 arg3 harg3 arg4 harg4 arg5 harg5 arg6 harg6 arg7 harg7 arg8 harg8 arg9 harg9 arg10 harg10 arg11 harg11 arg12 harg12 arg13 harg13 arg14 harg14 k0_h1 v25 X2 X3 n = L at h ⊢
    unfold tripA
    dsimp only
    sl_unfold_run_names
    exact ChunksDone.succ (t := ⟨n, by omega⟩) h (groupsA c i arg1 harg1 arg2 harg2 arg3 harg3 arg4 harg4 arg5 harg5 arg6 harg6 arg7 harg7 arg8 harg8 arg9 harg9 arg10 harg10 arg11 harg11 arg12 harg12 arg13 harg13 arg14 harg14 k0_h1 v25 _ _ X2 X3 _ ⟨n, by omega⟩ rfl _ rfl 40 le_rfl)
      (by rw [k0_off33_eq])

/-- The later points' loop over the chunks. -/
theorem chunksB (arg0 : BitVec 32) (k0_h2 : k0_cond2 i = 1#1) (v11 : BitVec 32)
    (X2 : BufTy.Contents (Elt Ideal) arg2.view.ty) (X3 : BufTy.Contents (Elt Ideal) arg3.view.ty) :
    ∀ n, n ≤ 8 → ChunksDone (arg2.view.read (Elt Ideal) X2) (arg3.view.read (Elt Ideal) X3) ((i 0).val % 2) n
      (beforeB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 n) := by
  intro n
  induction n with
  | zero => exact fun _ => ChunksDone.zero _ _ _
  | succ n ih =>
    intro hn
    have h := ih (by omega)
    rw [beforeB_succ (F := Ideal) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 ⟨n, by rw [trips4]; omega⟩]
    dsimp only
    generalize beforeB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 X2 X3 n = L at h ⊢
    unfold tripB
    dsimp only
    sl_unfold_run_names
    exact ChunksDone.succ (t := ⟨n, by omega⟩) h (groupsB c i arg1 harg1 arg2 harg2 arg3 harg3 arg4 harg4 arg5 harg5 arg6 harg6 arg7 harg7 arg8 harg8 arg9 harg9 arg10 harg10 arg11 harg11 arg12 harg12 arg13 harg13 arg14 harg14 arg0 k0_h2 v11 _ _ X2 X3 _ ⟨n, by omega⟩ rfl _ rfl 40 le_rfl)
      (by rw [k0_off38_eq])

end

end Cert.KernelIdeal.Hand

end
-- ==== Proof.KernelIdealWeights.lean ====
/- What the weight loop of `Cert.KernelIdeal` leaves: every weight times the scale of its 128 by 128 block. -/
module

public import proofs.«01_k».proof.Proof.KernelIdealPays
public import proofs.«01_k».proof.Proof.Fill
public import proofs.«01_k».proof.Proof.Gen.KernelIdeal.Loops
public import Idealize.ShloMosaic.Lib.Pipeline.ValueKit.Tiles

@[expose] public section

set_option maxHeartbeats 1000000
set_option maxRecDepth 16384

noncomputable section

namespace Cert.KernelIdeal.Hand

open Cert.KernelIdeal Cert.KernelIdeal.Gen Cert.Rows Cert.Fill
open Idealize.ShloMosaic Idealize.ShloMosaic.TcCoe Idealize.ShloMosaic.Tactic

/-- A weight times its block's scale. -/
def waAt (W : Fin 5120 → Fin 1792 → EReal) (S : Fin 40 → Fin 14 → EReal) (d : Fin 5120) (n : Fin 1792) : EReal :=
  W d n * S ⟨d.val / 128, by omega⟩ ⟨n.val / 128, by omega⟩

/-- The dequantised weights. -/
def waT (W : S5120x1792.Idx → Elt Ideal .fp8e4m3) (S : S40x14.Idx → Elt Ideal .f32) : S5120x1792.Idx → Elt Ideal .bf16 :=
  fun y => waAt (fun d n => W (ix2 d n)) (fun a b => S (ix2 a b)) (y 0) (y 1)

/-- A block of dequantised weights, element by element: the weight times its block's scale. -/
theorem pay18_apply (v : Elt Ideal .f32) (a : Vec Ideal S128x128 .fp8e4m3) (r l : Fin 128) :
    k0_pay18 (F := Ideal) v a (ix2 r l) = (a (ix2 r l) : EReal) * (v : EReal) := by
  pointwise [k0_pay18]

/-- The piece of block `(k, n)`. -/
theorem weight_piece (W : S5120x1792.Idx → Elt Ideal .fp8e4m3) (S : S40x14.Idx → Elt Ideal .f32) (k : Fin 40) (n : Fin 14)
    {off offs : Fin 2 → Nat} (hoff : off = ![128 * k.val, 128 * n.val]) (hoffs : offs = ![k.val, n.val]) {inb inbs h1} :
    Fills (Val := Elt Ideal) (s := S5120x1792) (e := .bf16) [⟨Rect.unit off ![128, 128] inb, k0_pay18 (F := Ideal)
        (View.ld (Val := Elt Ideal) (S := S40x14) (e' := .f32) S (Rect.unit offs ![1, 1] inbs) (Shape.Idx.first h1))
        (View.ld (Val := Elt Ideal) (S := S5120x1792) (e' := .fp8e4m3) W (Rect.unit off ![128, 128] inb))⟩]
      (fun y => (y 0).val / 128 = k.val ∧ (y 1).val / 128 = n.val) (waT W S) := by
  subst hoff hoffs
  refine Fills.one2 rfl (fun z r i j hi hj => ?_) fun i j => ?_
  · rw [pay18_apply]
    have e1 : View.ld (Val := Elt Ideal) (S := S5120x1792) (e' := .fp8e4m3) W (Rect.unit ![128 * k.val, 128 * n.val] ![128, 128] inb) (ix2 z r)
        = W (ix2 i j) := View.ld_unit_apply_of W _ _ inb _ (ix2 i j) fun a => match a with
      | ⟨0, _⟩ => hi
      | ⟨1, _⟩ => hj
    have e2 : View.ld (Val := Elt Ideal) (S := S40x14) (e' := .f32) S (Rect.unit ![k.val, n.val] ![1, 1] inbs) (Shape.Idx.first h1)
        = S (ix2 ⟨i.val / 128, by omega⟩ ⟨j.val / 128, by omega⟩) := View.ld_unit_apply_of S _ _ inbs _ _ fun a => match a with
      | ⟨0, _⟩ => (by show i.val / 128 = k.val + 0; omega)
      | ⟨1, _⟩ => (by show j.val / 128 = n.val + 0; omega)
    rw [e1, e2]; rfl
  · show _ ↔ i.val / 128 = k.val ∧ j.val / 128 = n.val
    omega

/-- One more block of a block row. -/
theorem weight_row {W : S5120x1792.Idx → Elt Ideal .fp8e4m3} {S : S40x14.Idx → Elt Ideal .f32} {k : Fin 40} {p : View.Piece (Elt Ideal) S5120x1792 .bf16}
    {L : List (View.Piece (Elt Ideal) S5120x1792 .bf16)} (n : Nat)
    (h : Fills [p] (fun y => (y 0).val / 128 = k.val ∧ (y 1).val / 128 = n) (waT W S))
    (h' : Fills L (fun y => (y 0).val / 128 = k.val ∧ (y 1).val / 128 < n) (waT W S)) :
    Fills (p :: L) (fun y => (y 0).val / 128 = k.val ∧ (y 1).val / 128 < n + 1) (waT W S) :=
  h.cons h' fun y => by generalize (y 0).val / 128 = u; generalize (y 1).val / 128 = v; omega

section
variable (c : Dev nD) (i : grid0.Coords) (arg1 : Memref sig .tc .smem S4 .i32) (harg1 : arg1.IsWhole) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole)

set_option maxHeartbeats 4000000 in
/-- One trip: a row of blocks. -/
theorem weight_trip (k0_h1 : k0_cond1 i = 1#1) (X4 : BufTy.Contents (Elt Ideal) arg4.view.ty) (X5 : BufTy.Contents (Elt Ideal) arg5.view.ty)
    (k : Fin k0_t1_loop.trips) (t : Fin 40) (ht : k.val = t.val) :
    Fills (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 k0_h1 X4 X5 k) (fun y => (y 0).val / 128 = t.val ∧ (y 1).val / 128 < 14)
      (waT (arg4.view.read (Elt Ideal) X4) (arg5.view.read (Elt Ideal) X5)) := by
  unfold tripL_k0_t1 trip_k0_t1
  dsimp only
  sl_unfold_run_names
  refine weight_row 13 (weight_piece _ _ t 13 (by rw [k0_off28_eq, ht] <;> rfl) (by rw [k0_off27_eq, ht] <;> rfl)) ?_
  refine weight_row 12 (weight_piece _ _ t 12 (by rw [k0_off26_eq, ht] <;> rfl) (by rw [k0_off25_eq, ht] <;> rfl)) ?_
  refine weight_row 11 (weight_piece _ _ t 11 (by rw [k0_off24_eq, ht] <;> rfl) (by rw [k0_off23_eq, ht] <;> rfl)) ?_
  refine weight_row 10 (weight_piece _ _ t 10 (by rw [k0_off22_eq, ht] <;> rfl) (by rw [k0_off21_eq, ht] <;> rfl)) ?_
  refine weight_row 9 (weight_piece _ _ t 9 (by rw [k0_off20_eq, ht] <;> rfl) (by rw [k0_off19_eq, ht] <;> rfl)) ?_
  refine weight_row 8 (weight_piece _ _ t 8 (by rw [k0_off18_eq, ht] <;> rfl) (by rw [k0_off17_eq, ht] <;> rfl)) ?_
  refine weight_row 7 (weight_piece _ _ t 7 (by rw [k0_off16_eq, ht] <;> rfl) (by rw [k0_off15_eq, ht] <;> rfl)) ?_
  refine weight_row 6 (weight_piece _ _ t 6 (by rw [k0_off14_eq, ht] <;> rfl) (by rw [k0_off13_eq, ht] <;> rfl)) ?_
  refine weight_row 5 (weight_piece _ _ t 5 (by rw [k0_off12_eq, ht] <;> rfl) (by rw [k0_off11_eq, ht] <;> rfl)) ?_
  refine weight_row 4 (weight_piece _ _ t 4 (by rw [k0_off10_eq, ht] <;> rfl) (by rw [k0_off9_eq, ht] <;> rfl)) ?_
  refine weight_row 3 (weight_piece _ _ t 3 (by rw [k0_off8_eq, ht] <;> rfl) (by rw [k0_off7_eq, ht] <;> rfl)) ?_
  refine weight_row 2 (weight_piece _ _ t 2 (by rw [k0_off6_eq, ht] <;> rfl) (by rw [k0_off5_eq, ht] <;> rfl)) ?_
  refine weight_row 1 (weight_piece _ _ t 1 (by rw [k0_off4_eq, ht] <;> rfl) (by rw [k0_off3_eq, ht] <;> rfl)) ?_
  refine weight_row 0 (weight_piece _ _ t 0 (by rw [k0_off2_eq, ht] <;> rfl) (by rw [k0_off1_eq, ht] <;> rfl)) ?_
  exact Fills.nil fun y h => absurd h.2 (Nat.not_lt_zero _)

/-- The whole loop after `n` trips: the first `n` rows of blocks. -/
theorem weights (k0_h1 : k0_cond1 i = 1#1) (X4 : BufTy.Contents (Elt Ideal) arg4.view.ty) (X5 : BufTy.Contents (Elt Ideal) arg5.view.ty) :
    ∀ n, n ≤ 40 → Fills (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 k0_h1 X4 X5 n) (fun y => (y 0).val / 128 < n)
      (waT (arg4.view.read (Elt Ideal) X4) (arg5.view.read (Elt Ideal) X5)) := by
  intro n
  induction n with
  | zero => exact fun _ => Fills.nil fun y h => absurd h (Nat.not_lt_zero _)
  | succ n ih =>
    intro hn
    have h := ih (by omega)
    have hlt : n < k0_t1_loop.trips := by have : k0_t1_loop.trips = 40 := by decide +kernel
                                          omega
    rw [pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 k0_h1 X4 X5 ⟨n, hlt⟩]
    refine (weight_trip c i arg1 harg1 arg2 harg2 arg3 harg3 arg4 harg4 arg5 harg5 arg6 harg6 arg7 harg7 arg8 harg8 arg9 harg9 arg10 harg10 arg11 harg11 arg12 harg12 arg13 harg13 arg14 harg14 k0_h1 X4 X5 ⟨n, hlt⟩ ⟨n, by omega⟩ rfl).append h fun y => ?_
    have : (y 1).val < 1792 := (y 1).isLt
    show _ ↔ ((y 0).val / 128 = n ∧ _) ∨ _
    generalize (y 0).val / 128 = u; generalize (y 1).val = v at *; omega

end

end Cert.KernelIdeal.Hand

end
-- ==== Proof.Rope.lean ====
/- The kernel's rotary embedding and projection, one element at a time, on the extended reals. -/
module

public import Idealize.ShloMosaic.PureOps.Ideal
public import Idealize.ShloMosaic.Lib.ValueIdx

@[expose] public section

noncomputable section

namespace Cert.Rope

open Idealize.ShloMosaic
open scoped BigOperators

/-- The sign of the sine at lane `l`: minus one in the first half of a head. -/
def sgn (l : Fin 128) : EReal := if l.val < 64 then Ideal.ofBits .f32 0xBF800000#32 else 1

/-- The lane half a head away. -/
def swap (l : Fin 128) : Fin 128 := ⟨(l.val + 64) % 128, by omega⟩

/-- The cosine of a sum of two angles, from their cosines and sines. -/
def cosK (cb sb cl sl : EReal) : EReal := cb * cl - sb * sl

/-- The signed sine of a sum of two angles. -/
def sinK (cb sb s cl sl : EReal) : EReal := sb * s * cl + cb * s * sl

/-- A rotated head: the value times the cosine, plus the value half a head away times the signed sine. -/
def rotK (y cos sin : Fin 128 → EReal) (l : Fin 128) : EReal := y l * cos l + y (swap l) * sin l

/-- Lane `l` of head `h`, as a column of the projection. -/
def headCol (h : Fin 14) (l : Fin 128) : Fin 1792 := ⟨128 * h.val + l.val, by omega⟩

/-- One element of the projection. -/
def dotAt (xa : Fin 5120 → EReal) (wa : Fin 5120 → Fin 1792 → EReal) (n : Fin 1792) : EReal := ∑ k, xa k * wa k n

/-- A head of the projection. -/
def headOf (xa : Fin 5120 → EReal) (wa : Fin 5120 → Fin 1792 → EReal) (h : Fin 14) (l : Fin 128) : EReal := dotAt xa wa (headCol h l)

/-- A rotated head of the projection, from the base angle `p · f l` of the tile and the row's table entries. -/
def ropeOf (xa : Fin 5120 → EReal) (wa : Fin 5120 → Fin 1792 → EReal) (p : EReal) (f cl sl : Fin 128 → EReal) (h : Fin 14) (l : Fin 128) : EReal :=
  rotK (headOf xa wa h) (fun l => cosK (Ideal.cos (p * f l)) (Ideal.sin (p * f l)) (cl l) (sl l))
    (fun l => sinK (Ideal.cos (p * f l)) (Ideal.sin (p * f l)) (sgn l) (cl l) (sl l)) l

end Cert.Rope

end
-- ==== Proof.KernelIdealHeads.lean ====
/- The kernel's projection payloads, read at an index: the matmul, the cosine and sine of a tile's rows, and the heads. -/
module

public import proofs.«01_k».proof.Proof.KernelIdealPays
public import proofs.«01_k».proof.Proof.Rope
public import Idealize.ShloMosaic.Lib.KernelVsHost
public import Idealize.ShloMosaic.Lib.MatmulPlain
public import Idealize.ShloMosaic.Lib.Pipeline.ValueKit.Tiles

@[expose] public section

set_option maxHeartbeats 1000000
set_option maxRecDepth 16384

noncomputable section

namespace Cert.KernelIdeal.Hand

open Cert.KernelIdeal Cert.KernelIdeal.Gen Cert.Rope
open Idealize.ShloMosaic Idealize.ShloMosaic.TcCoe Idealize.ShloMosaic.Tactic
open scoped BigOperators

/-- The tables' cosines and sines: of the row times the inverse frequency. -/
theorem pay6_apply (v : Vec Ideal S1x128 .f32) (r : Fin 256) (l : Fin 128) :
    k0_pay6 (F := Ideal) v (ix3 0 r l) = Ideal.cos (FloatOps.sitofp (F := Ideal) .f32 (BitVec.ofNat 32 r.val) * v (ix2 0 l)) := by
  pointwise [k0_pay6, k0_pay5]
/-- The table's sine at a row and a lane: of the row's number times the lane's inverse frequency. -/
theorem pay7_apply (v : Vec Ideal S1x128 .f32) (r : Fin 256) (l : Fin 128) :
    k0_pay7 (F := Ideal) v (ix3 0 r l) = Ideal.sin (FloatOps.sitofp (F := Ideal) .f32 (BitVec.ofNat 32 r.val) * v (ix2 0 l)) := by
  pointwise [k0_pay7, k0_pay5]

/-- The projection of a tile. -/
theorem pay63_apply (a : Vec Ideal S1x256x5120 .bf16) (b : Vec Ideal S5120x1792 .bf16) (r : Fin 256) (n : Fin 1792) :
    k0_pay63 (F := Ideal) a b (ix2 r n) = dotAt (fun k => a (ix3 0 r k)) (fun k n => b (ix2 k n)) n := by
  unfold k0_pay63
  rw [show dot_S256x5120_S5120x1792_S256x1792_1_0_0_1_n_n = DotDims.plain 256 5120 1792 from rfl]
  refine (Ideal.matmul_plain_apply none _ b _ r n).trans ?_
  refine (congrArg (· + _) (show (constant (F := Ideal) S256x1792 .f32 0x00000000#32) (ix2 r n) = (0 : EReal) from Ideal.ofBits_zero .f32)).trans ?_
  rw [zero_add]
  refine Finset.sum_congr rfl fun k _ => congrArg (· * b (ix2 k n)) ?_
  pointwise

/-- The position of a tile's first row. -/
def baseOf (i v : BitVec 32) : EReal :=
  FloatOps.sitofp (F := Ideal) .f32 (Scalar.addi v (Scalar.muli (Scalar.remsi (Scalar.subi i 1#32) 24#32) 256#32))

/-- The cosine of the tile's base angle at a lane. -/
theorem pay55_apply (i v : BitVec 32) (f : Vec Ideal S1x128 .f32) (l : Fin 128) :
    k0_pay55 (F := Ideal) i v f (ix2 0 l) = Ideal.cos (baseOf i v * f (ix2 0 l)) := by
  pointwise [k0_pay55, k0_pay54, baseOf]
  rfl
/-- The sine of the tile's base angle at a lane. -/
theorem pay56_apply (i v : BitVec 32) (f : Vec Ideal S1x128 .f32) (l : Fin 128) :
    k0_pay56 (F := Ideal) i v f (ix2 0 l) = Ideal.sin (baseOf i v * f (ix2 0 l)) := by
  pointwise [k0_pay56, k0_pay54, baseOf]
  rfl

/-- The vector of signs holds the lane's sign. -/
theorem pay60_apply (l : Fin 128) : k0_pay60 (F := Ideal) (ix2 0 l) = sgn l := by
  have : ∀ l : Fin 128, (IntOp.cmpi .slt (BitVec.ofNat 32 l.val) 64#32 = 1#1) ↔ l.val < 64 := by decide +kernel
  refine Eq.trans (b := if IntOp.cmpi .slt (BitVec.ofNat 32 l.val) 64#32 = 1#1 then Ideal.ofBits .f32 0xBF800000#32 else 1) ?_ ?_
  · pointwise [k0_pay60]
    rfl
  · unfold sgn; simp only [this]

/-- The cosine of a row of a tile. -/
theorem pay59_apply (i v : BitVec 32) (f : Vec Ideal S1x128 .f32) (c s : Vec Ideal S1x256x128 .f32) (r : Fin 256) (l : Fin 128) :
    k0_pay59 (F := Ideal) i v f c s (ix2 r l)
      = cosK (Ideal.cos (baseOf i v * f (ix2 0 l))) (Ideal.sin (baseOf i v * f (ix2 0 l))) (c (ix3 0 r l)) (s (ix3 0 r l)) := by
  rw [← pay55_apply, ← pay56_apply]
  pointwise [k0_pay59, k0_pay57, k0_pay58, cosK]

/-- The signed sine of a row of a tile. -/
theorem pay62_apply (i v : BitVec 32) (f : Vec Ideal S1x128 .f32) (c s : Vec Ideal S1x256x128 .f32) (r : Fin 256) (l : Fin 128) :
    k0_pay62 (F := Ideal) (k0_pay55 i v f) (k0_pay58 s) k0_pay60 (k0_pay61 i v f c) (ix2 r l)
      = sinK (Ideal.cos (baseOf i v * f (ix2 0 l))) (Ideal.sin (baseOf i v * f (ix2 0 l))) (sgn l) (c (ix3 0 r l)) (s (ix3 0 r l)) := by
  rw [← pay55_apply, ← pay56_apply, ← pay60_apply]
  pointwise [k0_pay62, k0_pay61, k0_pay57, k0_pay58, sinK]

/-- A rotated head, cut from the projection at column `o 1`. -/
def rotHead (o : Fin 2 → Nat) (ho : S256x1792.Slices o S256x128) (cos sin : FVec Ideal S256x128 .f32) (y : FVec Ideal S256x1792 .f32) :
    FVec Ideal S1x256x1x128 .bf16 :=
  shapeCast S1x256x1x128 (truncf .bf16 (addf (mulf (extractStridedSlice S256x128 o y ho) cos)
    (mulf (dynamicRotate 1 64#32 none (extractStridedSlice S256x128 o y ho) rotates_S256x128_d1) sin)) bitsLt_bf16_f32) shapeCasts_S256x128_S1x256x1x128

/-- A head that is not rotated. -/
def plainHead (o : Fin 2 → Nat) (ho : S256x1792.Slices o S256x128) (y : FVec Ideal S256x1792 .f32) :
    FVec Ideal S1x256x1x128 .bf16 :=
  shapeCast S1x256x1x128 (truncf .bf16 (extractStridedSlice S256x128 o y ho) bitsLt_bf16_f32) shapeCasts_S256x128_S1x256x1x128

/-- A head's slice of the projection, element by element. -/
theorem cut_apply {o : Fin 2 → Nat} (h : Fin 14) (hoff : o = ![0, 128 * h.val]) (ho : S256x1792.Slices o S256x128)
    (y : FVec Ideal S256x1792 .f32) (r : Fin 256) (l : Fin 128) :
    extractStridedSlice S256x128 o y ho (ix2 r l) = y (ix2 r (headCol h l)) := by
  subst hoff
  refine congrArg y (funext fun a => Fin.ext ?_)
  match a with
  | ⟨0, _⟩ => exact Nat.zero_add _
  | ⟨1, _⟩ => rfl

/-- What is stored of a head that is not rotated. -/
theorem plainHead_apply {o : Fin 2 → Nat} (h : Fin 14) (hoff : o = ![0, 128 * h.val]) (ho : S256x1792.Slices o S256x128)
    (y : FVec Ideal S256x1792 .f32) (r : Fin 256) (l : Fin 128) :
    plainHead o ho y (ix4 0 r 0 l) = y (ix2 r (headCol h l)) := by
  rw [← cut_apply h hoff ho y r l]
  generalize hA : extractStridedSlice S256x128 o y ho = A
  unfold plainHead
  rw [hA]
  pointwise

/-- What is stored of a head that is rotated. -/
theorem rotHead_apply {o : Fin 2 → Nat} (h : Fin 14) (hoff : o = ![0, 128 * h.val]) (ho : S256x1792.Slices o S256x128)
    (cos sin : FVec Ideal S256x128 .f32) (y : FVec Ideal S256x1792 .f32) (r : Fin 256) (l : Fin 128) :
    rotHead o ho cos sin y (ix4 0 r 0 l)
      = rotK (fun l => y (ix2 r (headCol h l))) (fun l => cos (ix2 r l)) (fun l => sin (ix2 r l)) l := by
  have e1 := cut_apply h hoff ho y r
  have e2 : dynamicRotate 1 64#32 none (extractStridedSlice S256x128 o y ho) rotates_S256x128_d1 (ix2 r l)
      = extractStridedSlice S256x128 o y ho (ix2 r (swap l)) := dynamicRotate_apply _ _ _ _ _ _ fun b => match b with
    | ⟨0, _⟩ => rfl
    | ⟨1, _⟩ => (by show (l.val + 64) % 128 = (l.val + 128 - 64 % 128) % 128; omega)
  unfold rotK
  beta_reduce
  rw [← e1 l, ← e1 (swap l), ← e2]
  generalize hA : extractStridedSlice S256x128 o y ho = A at *
  unfold rotHead
  rw [hA]
  generalize hB : dynamicRotate 1 64#32 none A rotates_S256x128_d1 = B at *
  pointwise

/-! ## A head from the buffers a point reads -/

section
variable {A : Vec Ideal S1x256x5120 .bf16} {B : Vec Ideal S5120x1792 .bf16} {XA : Fin 256 → Fin 5120 → EReal} {WA : Fin 5120 → Fin 1792 → EReal}
  (hA : ∀ r k, A (ix3 0 r k) = XA r k) (hB : ∀ k n, B (ix2 k n) = WA k n)

include hA hB in
/-- A head that is not rotated. -/
theorem plain_head (h : Fin 14) {o : Fin 2 → Nat} (ho : o = ![0, 128 * h.val]) (hs : S256x1792.Slices o S256x128) (r : Fin 256) (l : Fin 128) :
    plainHead o hs (k0_pay63 (F := Ideal) A B) (ix4 0 r 0 l) = headOf (XA r) WA h l := by
  rw [plainHead_apply h ho, pay63_apply]
  simp only [hA, hB, headOf]

include hA hB in
/-- A rotated head. -/
theorem rope_head (h : Fin 14) {o : Fin 2 → Nat} (ho : o = ![0, 128 * h.val]) (hs : S256x1792.Slices o S256x128)
    {i v : BitVec 32} {f : Vec Ideal S1x128 .f32} {c s : Vec Ideal S1x256x128 .f32} {f' : Fin 128 → EReal} {c' s' : Fin 256 → Fin 128 → EReal}
    {p : EReal} (hp : baseOf i v = p) (hf : ∀ l, f (ix2 0 l) = f' l) (hc : ∀ r l, c (ix3 0 r l) = c' r l) (hs' : ∀ r l, s (ix3 0 r l) = s' r l) (r : Fin 256) (l : Fin 128) :
    rotHead o hs (k0_pay59 (F := Ideal) i v f c s) (k0_pay62 (F := Ideal) (k0_pay55 i v f) (k0_pay58 s) k0_pay60 (k0_pay61 i v f c))
      (k0_pay63 (F := Ideal) A B) (ix4 0 r 0 l) = ropeOf (XA r) WA p f' (c' r) (s' r) h l := by
  rw [rotHead_apply h ho]
  simp only [pay63_apply, pay59_apply, pay62_apply, hA, hB, hf, hc, hs', hp]
  rfl

end

/-! ## Loads of whole planes -/

/-- A load of one slot of the dequantised values. -/
theorem load_xa {sig' : RefSig} {κ : Kind} {sp : Space} (v : View sig' κ sp S2x256x5120 .bf16) (f : v.ty.Contents (Elt Ideal)) (z : Fin 2) {off : Fin 3 → Nat}
    (hoff : off = ![z.val, 0, 0]) (inb) (r : Fin 256) (k : Fin 5120) :
    v.readAt (Elt Ideal) (Rect.unit (s := S2x256x5120) off S1x256x5120.size inb).toLoadRect f (ix3 0 r k) = v.read (Elt Ideal) f (ix3 z r k) := by
  subst hoff
  exact View.ld_unit_apply_of _ _ _ _ _ (ix3 z r k) fun a => match a with
    | ⟨0, _⟩ => rfl
    | ⟨1, _⟩ => (Nat.zero_add _).symm
    | ⟨2, _⟩ => (Nat.zero_add _).symm

/-- A load of one table. -/
theorem load_table {sig' : RefSig} {κ : Kind} {sp : Space} (v : View sig' κ sp S2x256x128 .f32) (f : v.ty.Contents (Elt Ideal)) (z : Fin 2) {off : Fin 3 → Nat}
    (hoff : off = ![z.val, 0, 0]) (inb) (r : Fin 256) (k : Fin 128) :
    v.readAt (Elt Ideal) (Rect.unit (s := S2x256x128) off S1x256x128.size inb).toLoadRect f (ix3 0 r k) = v.read (Elt Ideal) f (ix3 z r k) := by
  subst hoff
  exact View.ld_unit_apply_of _ _ _ _ _ (ix3 z r k) fun a => match a with
    | ⟨0, _⟩ => rfl
    | ⟨1, _⟩ => (Nat.zero_add _).symm
    | ⟨2, _⟩ => (Nat.zero_add _).symm

/-- A load of a whole matrix. -/
theorem load_whole {sig' : RefSig} {κ : Kind} {sp : Space} {e : EltTy} {n0 n1 : Nat} (v : View sig' κ sp (⟨2, ![n0, n1]⟩ : Shape) e) (f : v.ty.Contents (Elt Ideal))
    (inb) (r : Fin n0) (k : Fin n1) :
    v.readAt (Elt Ideal) (Rect.unit (s := ⟨2, ![n0, n1]⟩) ![0, 0] ![n0, n1] inb).toLoadRect f (ix2 r k) = v.read (Elt Ideal) f (ix2 r k) :=
  View.ld_unit_apply_of _ _ _ _ _ (ix2 r k) fun a => match a with
    | ⟨0, _⟩ => (Nat.zero_add _).symm
    | ⟨1, _⟩ => (Nat.zero_add _).symm

end Cert.KernelIdeal.Hand

end
-- ==== Proof.Slab.lean ====
/- Heads written two at a time: a buffer of heads is stored by slabs of two heads, each slab read back and stored again to replace
   one of its heads. -/
module

public import proofs.«01_k».proof.Proof.Fill
public import Idealize.ShloMosaic.Lib.Pointwise
public import Idealize.ShloMosaic.Lib.WritesUnit
public import Idealize.ShloMosaic.Lib.Pipeline.FrameBody

@[expose] public section

set_option maxRecDepth 16384

noncomputable section

namespace Cert.Fill

open Idealize.ShloMosaic

variable {Val : EltTy → Type} {e : EltTy} {sig : RefSig} {κ : Kind} {sp : Space} {H : Nat}

/-- The buffer holds `G` at its first `n` heads once the pieces `L` are stored. -/
def Lays (v : View sig κ sp (⟨4, ![1, 256, H, 128]⟩ : Shape) e) (L : List (View.Piece Val (⟨4, ![1, 256, H, 128]⟩ : Shape) e)) (n : Nat)
    (G : (⟨4, ![1, 256, H, 128]⟩ : Shape).Idx → Val e) : Prop :=
  ∀ f y, (y 2).val < n → v.read Val (v.writes Val f L) y = G y

/-- No piece laid: nothing to show. -/
theorem Lays.zero (v : View sig κ sp (⟨4, ![1, 256, H, 128]⟩ : Shape) e) (L : List (View.Piece Val (⟨4, ![1, 256, H, 128]⟩ : Shape) e))
    (G : (⟨4, ![1, 256, H, 128]⟩ : Shape).Idx → Val e) : Lays v L 0 G := fun _ _ h => absurd h (Nat.not_lt_zero _)

/-- The heads `2j` and `2j + 1`: their slab is stored with the first head replaced, read back, and stored with the second replaced. -/
theorem Lays.slab [∀ e, Nonempty (Val e)] {v : View sig κ sp (⟨4, ![1, 256, H, 128]⟩ : Shape) e}
    {L M : List (View.Piece Val (⟨4, ![1, 256, H, 128]⟩ : Shape) e)}
    {G : (⟨4, ![1, 256, H, 128]⟩ : Shape).Idx → Val e} (j : Nat) {off : Fin 4 → Nat} (hoff : off = ![0, 0, 2 * j, 0])
    {inb : ∀ a, off a + (![1, 256, 2, 128] : Fin 4 → Nat) a ≤ (⟨4, ![1, 256, H, 128]⟩ : Shape).size a}
    {a b : (⟨4, ![1, 256, 1, 128]⟩ : Shape).Idx → Val e} {old : (⟨4, ![1, 256, 2, 128]⟩ : Shape).Idx → Val e}
    {hs0 : (⟨4, ![1, 256, 2, 128]⟩ : Shape).Slices ![0, 0, 0, 0] (⟨4, ![1, 256, 1, 128]⟩ : Shape)}
    {hs1 : (⟨4, ![1, 256, 2, 128]⟩ : Shape).Slices ![0, 0, 1, 0] (⟨4, ![1, 256, 1, 128]⟩ : Shape)}
    (ha : ∀ (h : Fin H) (r : Fin 256) (l : Fin 128), h.val = 2 * j → a (ix4 0 r 0 l) = G (ix4 0 r h l))
    (hb : ∀ (h : Fin H) (r : Fin 256) (l : Fin 128), h.val = 2 * j + 1 → b (ix4 0 r 0 l) = G (ix4 0 r h l))
    (hL : Lays v L (2 * j) G) :
    Lays v (⟨Rect.unit off ![1, 256, 2, 128] inb, updateSlice (v.readCov (⟨Rect.unit off ![1, 256, 2, 128] inb, updateSlice old a ![0, 0, 0, 0] hs0⟩ :: M)
        (Rect.unit off ![1, 256, 2, 128] inb).toLoadRect) b ![0, 0, 1, 0] hs1⟩
      :: ⟨Rect.unit off ![1, 256, 2, 128] inb, updateSlice old a ![0, 0, 0, 0] hs0⟩ :: L) (2 * j + 2) G := by
  subst hoff
  rw [View.readCov_cons_toLoadRect]
  intro f y hy
  by_cases hin : 2 * j ≤ (y (2 : Fin 4)).val
  · obtain ⟨z, r, h, l, rfl⟩ : ∃ z r h l, y = ix4 (n0 := 1) (n1 := 256) (n2 := H) (n3 := 128) z r h l := ⟨y 0, y 1, y 2, y 3, eq_ix4 y⟩
    obtain rfl : z = 0 := Subsingleton.elim _ _
    have hlo : 2 * j ≤ h.val := hin
    have hhi : h.val < 2 * j + 2 := hy
    have hr : r.val < 256 := r.isLt
    have hl : l.val < 128 := l.isLt
    refine (View.read_writes_cons_unit_of_mem v f inb _ _ _ (ix4 (n0 := 1) (n1 := 256) (n2 := 2) (n3 := 128) 0 r ⟨h.val - 2 * j, by omega⟩ l) rfl
      (fun a => ?_)).trans ?_
    · match a with
      | ⟨0, _⟩ => rfl
      | ⟨1, _⟩ => exact (Nat.zero_add _).symm
      | ⟨2, _⟩ => show h.val = 2 * j + (h.val - 2 * j); omega
      | ⟨3, _⟩ => exact (Nat.zero_add _).symm
    rw [updateSlice_apply]
    split
    · rename_i hc
      have hc2 : 1 ≤ h.val - 2 * j := (hc (2 : Fin 4)).1
      rw [← hb h r l (by omega)]
      refine congrArg b (funext fun q => Fin.ext ?_)
      match q with
      | ⟨0, _⟩ => rfl
      | ⟨1, _⟩ => exact Nat.sub_zero _
      | ⟨2, _⟩ => show h.val - 2 * j - 1 = 0; omega
      | ⟨3, _⟩ => exact Nat.sub_zero _
    · rename_i hc
      have hd0 : h.val = 2 * j := by
        by_contra hne
        refine hc fun q => ?_
        match q with
        | ⟨0, _⟩ => exact ⟨Nat.zero_le _, Nat.zero_lt_one⟩
        | ⟨1, _⟩ => exact ⟨Nat.zero_le _, by show r.val < 0 + 256; omega⟩
        | ⟨2, _⟩ => exact ⟨by show 1 ≤ h.val - 2 * j; omega, by show h.val - 2 * j < 1 + 1; omega⟩
        | ⟨3, _⟩ => exact ⟨Nat.zero_le _, by show l.val < 0 + 128; omega⟩
      rw [updateSlice_apply, dif_pos (by
        intro q
        match q with
        | ⟨0, _⟩ => exact ⟨Nat.zero_le _, Nat.zero_lt_one⟩
        | ⟨1, _⟩ => exact ⟨Nat.zero_le _, by show r.val < 0 + 256; omega⟩
        | ⟨2, _⟩ => exact ⟨Nat.zero_le _, by show h.val - 2 * j < 0 + 1; omega⟩
        | ⟨3, _⟩ => exact ⟨Nat.zero_le _, by show l.val < 0 + 128; omega⟩), ← ha h r l hd0]
      refine congrArg a (funext fun q => Fin.ext ?_)
      match q with
      | ⟨0, _⟩ => rfl
      | ⟨1, _⟩ => exact Nat.sub_zero _
      | ⟨2, _⟩ => show h.val - 2 * j - 0 = 0; omega
      | ⟨3, _⟩ => exact Nat.sub_zero _
  · have hlt : (y (2 : Fin 4)).val < 2 * j := by omega
    exact (View.read_writes_cons_unit_of_not_mem v f inb _ _ _ rfl (2 : Fin 4) (.inl hlt)).trans
      ((View.read_writes_cons_unit_of_not_mem v f inb _ _ _ rfl (2 : Fin 4) (.inl hlt)).trans (hL f y hlt))

end Cert.Fill

end
-- ==== Proof.KernelIdealRunVals.lean ====
/- What the body's runs leave in the buffers, on the extended reals: the codes, the scales and the dequantised values of the tile
   a point quantises, the dequantised weights and the tables of the first point, and the heads of the tile a point projects. -/
module

public import proofs.«01_k».proof.Proof.KernelIdealRuns
public import proofs.«01_k».proof.Proof.KernelIdealTrips
public import proofs.«01_k».proof.Proof.KernelIdealWeights
public import proofs.«01_k».proof.Proof.KernelIdealHeads
public import proofs.«01_k».proof.Proof.Slab

@[expose] public section

set_option maxHeartbeats 1000000
set_option maxRecDepth 16384

noncomputable section

namespace Cert.KernelIdeal.Hand

open Cert.KernelIdeal Cert.KernelIdeal.Gen Cert.Rows Cert.Fill Cert.Rope
open Idealize.ShloMosaic Idealize.ShloMosaic.TcCoe Idealize.ShloMosaic.Tactic

section
variable (c : Dev nD) (i : grid0.Coords) (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole)

/-! ## The first point -/

section
variable (h1 : k0_cond1 i = 1#1) (h2 : ¬ k0_cond2 i = 1#1) (h3 : ¬ k0_cond3 i = 1#1) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (xt : TbBuf0 (F := Ideal) c tbM0_0)

/-- The codes of the tile. -/
theorem runA_codes : arg10.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 h1 h2 h3 f2 f3 f4 f5 f6 f10 f11 f12 f13 f14 xt).1
    = codesT (arg2.view.read (Elt Ideal) f2) (arg3.view.read (Elt Ideal) f3) := by
  unfold runA
  dsimp only
  sl_unfold_run_names
  funext y
  exact (chunksA c i tbM0_0 htbM0_0 arg2 harg2 arg3 harg3 arg4 harg4 arg5 harg5 arg6 harg6 arg7 harg7 arg8 harg8 arg9 harg9 arg10 harg10 arg11 harg11 arg12 harg12 arg13 harg13 arg14 harg14 h1 _ f2 f3 8 le_rfl).codes.read _ _ (Nat.div_lt_of_lt_mul (show (y 1).val < 32 * 8 from (y 1).isLt))

/-- The scales of the tile. -/
theorem runA_scales : arg11.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 h1 h2 h3 f2 f3 f4 f5 f6 f10 f11 f12 f13 f14 xt).2.1
    = scalesT (arg2.view.read (Elt Ideal) f2) (arg3.view.read (Elt Ideal) f3) := by
  unfold runA
  dsimp only
  sl_unfold_run_names
  funext y
  exact (chunksA c i tbM0_0 htbM0_0 arg2 harg2 arg3 harg3 arg4 harg4 arg5 harg5 arg6 harg6 arg7 harg7 arg8 harg8 arg9 harg9 arg10 harg10 arg11 harg11 arg12 harg12 arg13 harg13 arg14 harg14 h1 _ f2 f3 8 le_rfl).scales.read _ _ (Nat.div_lt_of_lt_mul (show (y 1).val < 32 * 8 from (y 1).isLt))

/-- The dequantised weights. -/
theorem runA_weights : arg12.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 h1 h2 h3 f2 f3 f4 f5 f6 f10 f11 f12 f13 f14 xt).2.2.1
    = waT (arg4.view.read (Elt Ideal) f4) (arg5.view.read (Elt Ideal) f5) := by
  unfold runA
  dsimp only
  sl_unfold_run_names
  funext y
  exact (weights c i tbM0_0 htbM0_0 arg2 harg2 arg3 harg3 arg4 harg4 arg5 harg5 arg6 harg6 arg7 harg7 arg8 harg8 arg9 harg9 arg10 harg10 arg11 harg11 arg12 harg12 arg13 harg13 arg14 harg14 h1 f4 f5 40 le_rfl).read _ _ (Nat.div_lt_of_lt_mul (show (y 0).val < 128 * 40 from (y 0).isLt))

/-- The dequantised values of the tile, in the point's slot. -/
theorem runA_xa (y : S2x256x5120.Idx) (hy : (y 0).val = (i 0).val % 2) :
    arg13.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 h1 h2 h3 f2 f3 f4 f5 f6 f10 f11 f12 f13 f14 xt).2.2.2.1 y
    = xaT (arg2.view.read (Elt Ideal) f2) (arg3.view.read (Elt Ideal) f3) y := by
  unfold runA
  dsimp only
  sl_unfold_run_names
  exact (chunksA c i tbM0_0 htbM0_0 arg2 harg2 arg3 harg3 arg4 harg4 arg5 harg5 arg6 harg6 arg7 harg7 arg8 harg8 arg9 harg9 arg10 harg10 arg11 harg11 arg12 harg12 arg13 harg13 arg14 harg14 h1 _ f2 f3 8 le_rfl).xa.read _ _ ⟨hy, Nat.div_lt_of_lt_mul (show (y 1).val < 32 * 8 from (y 1).isLt)⟩

/-- The tables' first half: cosines of the row times the inverse frequency, -/
theorem runA_cos (r : Fin 256) (l : Fin 128) :
    arg14.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 h1 h2 h3 f2 f3 f4 f5 f6 f10 f11 f12 f13 f14 xt).2.2.2.2.1 (ix3 0 r l)
    = Ideal.cos (FloatOps.sitofp (F := Ideal) .f32 (BitVec.ofNat 32 r.val) * arg6.view.read (Elt Ideal) f6 (ix2 0 l)) := by
  unfold runA
  dsimp only
  sl_unfold_run_names
  refine (View.read_writes_cons_unit_of_not_mem _ _ _ _ _ _ rfl (0 : Fin 3) (.inl Nat.zero_lt_one)).trans ?_
  refine (View.read_writes_cons_unit_of_mem _ _ _ _ _ _ (ix3 (n0 := 1) (n1 := 256) (n2 := 128) 0 r l) rfl (fun a => ?_)).trans ?_
  · match a with
    | ⟨0, _⟩ => rfl
    | ⟨1, _⟩ => exact (Nat.zero_add _).symm
    | ⟨2, _⟩ => exact (Nat.zero_add _).symm
  rw [pay6_apply]
  refine congrArg (fun z => Ideal.cos (_ * z)) ?_
  exact View.ld_unit_apply_of _ _ _ _ _ (ix2 0 l) fun a => match a with
    | ⟨0, _⟩ => rfl
    | ⟨1, _⟩ => (Nat.zero_add _).symm

/-- the second half: sines. -/
theorem runA_sin (r : Fin 256) (l : Fin 128) :
    arg14.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 h1 h2 h3 f2 f3 f4 f5 f6 f10 f11 f12 f13 f14 xt).2.2.2.2.1 (ix3 1 r l)
    = Ideal.sin (FloatOps.sitofp (F := Ideal) .f32 (BitVec.ofNat 32 r.val) * arg6.view.read (Elt Ideal) f6 (ix2 0 l)) := by
  unfold runA
  dsimp only
  sl_unfold_run_names
  refine (View.read_writes_cons_unit_of_mem _ _ _ _ _ _ (ix3 (n0 := 1) (n1 := 256) (n2 := 128) 0 r l) rfl (fun a => ?_)).trans ?_
  · match a with
    | ⟨0, _⟩ => rfl
    | ⟨1, _⟩ => exact (Nat.zero_add _).symm
    | ⟨2, _⟩ => exact (Nat.zero_add _).symm
  rw [pay7_apply]
  refine congrArg (fun z => Ideal.sin (_ * z)) ?_
  exact View.ld_unit_apply_of _ _ _ _ _ (ix2 0 l) fun a => match a with
    | ⟨0, _⟩ => rfl
    | ⟨1, _⟩ => (Nat.zero_add _).symm

end

end

end Cert.KernelIdeal.Hand

end
-- ==== Proof.KernelIdealRunValsB.lean ====
/- What the body leaves in the buffers at the later points, on the extended reals: the codes, the scales and the dequantised values of
   the tile a point quantises, and the heads of the tile it projects. -/
module

public import proofs.«01_k».proof.Proof.KernelIdealRuns
public import proofs.«01_k».proof.Proof.KernelIdealTrips
public import proofs.«01_k».proof.Proof.KernelIdealWeights
public import proofs.«01_k».proof.Proof.KernelIdealHeads
public import proofs.«01_k».proof.Proof.Slab

@[expose] public section

set_option maxHeartbeats 1000000
set_option maxRecDepth 16384

noncomputable section

namespace Cert.KernelIdeal.Hand

open Cert.KernelIdeal Cert.KernelIdeal.Gen Cert.Rows Cert.Fill Cert.Rope
open Idealize.ShloMosaic Idealize.ShloMosaic.TcCoe Idealize.ShloMosaic.Tactic

/-- The slot a point's projection reads. -/
def prev (t : Fin grid0.N) : Fin 2 := ⟨(t.val - 1) % 2, Nat.mod_lt _ (by decide)⟩

/-- A grid point's coordinate is its number. -/
theorem coord_val : ∀ t : Fin grid0.N, (grid0.coords t 0).val = t.val := by decide +kernel
/-- The slot that is projected is the one filled at the point before. -/
theorem off40_eq : ∀ t : Fin grid0.N, 0 < t.val → k0_off40 (grid0.coords t) = ![(prev t).val, 0, 0] := by decide +kernel
/-- The slot that is projected is the one filled at the point before, in the last point's branch. -/
theorem off42_eq : ∀ t : Fin grid0.N, 0 < t.val → k0_off42 (grid0.coords t) = ![(prev t).val, 0, 0] := by decide +kernel

/-- The position word a point reads: of the sequence its projected tile belongs to. -/
def posRead (c : Dev nD) (xt : TbBuf0 (F := Ideal) c tbM0_0) (t : Fin grid0.N) : BitVec 32 :=
  tbM0_0.view.read (Elt Ideal) xt (ix1 ⟨(t.val - 1) / 24 % 4, Nat.mod_lt _ (by decide)⟩)

/-- The position offset read is that of the sequence of the tile before. -/
theorem off39_eq : ∀ t : Fin grid0.N, 0 < t.val → k0_off39 (grid0.coords t) = ![(t.val - 1) / 24 % 4] := by decide +kernel
/-- The position offset read is that of the sequence of the tile before, in the last point's branch. -/
theorem off41_eq : ∀ t : Fin grid0.N, 0 < t.val → k0_off41 (grid0.coords t) = ![(t.val - 1) / 24 % 4] := by decide +kernel

/-- The rotated heads a point writes, as the window of `n` heads from head `s` on: of its dequantised rows and weights, the position
    word, the frequencies and the two tables. -/
def ropeT (X : S2x256x5120.Idx → EReal) (W : S5120x1792.Idx → EReal) (p : EReal) (f : S1x128.Idx → EReal) (T : S2x256x128.Idx → EReal) (z : Fin 2)
    (s n : Nat) (hs : s + n ≤ 14) (y : (⟨4, ![1, 256, n, 128]⟩ : Shape).Idx) : EReal :=
  ropeOf (fun k => X (ix3 z (y 1) k)) (fun k m => W (ix2 k m)) p (fun l => f (ix2 0 l)) (fun l => T (ix3 0 (y 1) l)) (fun l => T (ix3 1 (y 1) l))
    ⟨s + (y 2).val, Nat.lt_of_lt_of_le (Nat.add_lt_add_left (show (y 2).val < n from (y 2).isLt) s) hs⟩ (y 3)

/-- The heads a point writes without rotating them. -/
def plainT (X : S2x256x5120.Idx → EReal) (W : S5120x1792.Idx → EReal) (z : Fin 2)
    (s n : Nat) (hs : s + n ≤ 14) (y : (⟨4, ![1, 256, n, 128]⟩ : Shape).Idx) : EReal :=
  headOf (fun k => X (ix3 z (y 1) k)) (fun k m => W (ix2 k m))
    ⟨s + (y 2).val, Nat.lt_of_lt_of_le (Nat.add_lt_add_left (show (y 2).val < n from (y 2).isLt) s) hs⟩ (y 3)

section
variable (c : Dev nD) (t : Fin grid0.N)

/-- The first position of the tile a point projects. -/
def wordBase (xt : TbBuf0 (F := Ideal) c tbM0_0) : EReal := baseOf (BitVec.ofNat 32 (grid0.coords t 0).val) (posRead c xt t)

/-- The load of the position word. -/
theorem load_pos (xt : TbBuf0 (F := Ideal) c tbM0_0) {off : Fin 1 → Nat} (hoff : off = ![(t.val - 1) / 24 % 4]) (inb) (h0) :
    tbM0_0.view.readAt (Elt Ideal) (Rect.unit (s := S4) off S1.size inb).toLoadRect xt (Shape.Idx.first h0) = posRead c xt t := by
  subst hoff
  exact View.ld_unit_apply_of _ _ _ _ _ (ix1 _) fun a => match a with
    | ⟨0, _⟩ => rfl

/-! ## A point in the middle -/

section
variable (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole)
variable (h1 : ¬ k0_cond1 (grid0.coords t) = 1#1) (h2 : k0_cond2 (grid0.coords t) = 1#1) (h3 : ¬ k0_cond3 (grid0.coords t) = 1#1) (f2 : BufTy.Contents (Elt Ideal) arg2.view.ty) (f3 : BufTy.Contents (Elt Ideal) arg3.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (xt : TbBuf0 (F := Ideal) c tbM0_0)

/-- The codes of the tile. -/
theorem runB_codes : arg10.view.read (Elt Ideal) (runB (F := Ideal) c (grid0.coords t) arg2 harg2 arg3 harg3 arg4 harg4 arg5 harg5 arg6 harg6 arg7 harg7 arg8 harg8 arg9 harg9 arg10 harg10 arg11 harg11 arg12 harg12 arg13 harg13 arg14 harg14 h1 h2 h3 f2 f3 f6 f7 f8 f9 f10 f11 f12 f13 f14 xt).2.2.2.1
    = codesT (arg2.view.read (Elt Ideal) f2) (arg3.view.read (Elt Ideal) f3) := by
  unfold runB
  dsimp only
  sl_unfold_run_names
  funext y
  exact (chunksB c (grid0.coords t) tbM0_0 htbM0_0 arg2 harg2 arg3 harg3 arg4 harg4 arg5 harg5 arg6 harg6 arg7 harg7 arg8 harg8 arg9 harg9 arg10 harg10 arg11 harg11 arg12 harg12 arg13 harg13 arg14 harg14 _ h2 _ f2 f3 8 le_rfl).codes.read _ _ (Nat.div_lt_of_lt_mul (show (y 1).val < 32 * 8 from (y 1).isLt))

/-- The scales of the tile. -/
theorem runB_scales : arg11.view.read (Elt Ideal) (runB (F := Ideal) c (grid0.coords t) arg2 harg2 arg3 harg3 arg4 harg4 arg5 harg5 arg6 harg6 arg7 harg7 arg8 harg8 arg9 harg9 arg10 harg10 arg11 harg11 arg12 harg12 arg13 harg13 arg14 harg14 h1 h2 h3 f2 f3 f6 f7 f8 f9 f10 f11 f12 f13 f14 xt).2.2.2.2.1
    = scalesT (arg2.view.read (Elt Ideal) f2) (arg3.view.read (Elt Ideal) f3) := by
  unfold runB
  dsimp only
  sl_unfold_run_names
  funext y
  exact (chunksB c (grid0.coords t) tbM0_0 htbM0_0 arg2 harg2 arg3 harg3 arg4 harg4 arg5 harg5 arg6 harg6 arg7 harg7 arg8 harg8 arg9 harg9 arg10 harg10 arg11 harg11 arg12 harg12 arg13 harg13 arg14 harg14 _ h2 _ f2 f3 8 le_rfl).scales.read _ _ (Nat.div_lt_of_lt_mul (show (y 1).val < 32 * 8 from (y 1).isLt))

/-- The dequantised values of the tile, in the point's slot. -/
theorem runB_xa (y : S2x256x5120.Idx) (hy : (y 0).val = t.val % 2) :
    arg13.view.read (Elt Ideal) (runB (F := Ideal) c (grid0.coords t) arg2 harg2 arg3 harg3 arg4 harg4 arg5 harg5 arg6 harg6 arg7 harg7 arg8 harg8 arg9 harg9 arg10 harg10 arg11 harg11 arg12 harg12 arg13 harg13 arg14 harg14 h1 h2 h3 f2 f3 f6 f7 f8 f9 f10 f11 f12 f13 f14 xt).2.2.2.2.2.1 y
    = xaT (arg2.view.read (Elt Ideal) f2) (arg3.view.read (Elt Ideal) f3) y := by
  unfold runB
  dsimp only
  sl_unfold_run_names
  exact (chunksB c (grid0.coords t) tbM0_0 htbM0_0 arg2 harg2 arg3 harg3 arg4 harg4 arg5 harg5 arg6 harg6 arg7 harg7 arg8 harg8 arg9 harg9 arg10 harg10 arg11 harg11 arg12 harg12 arg13 harg13 arg14 harg14 _ h2 _ f2 f3 8 le_rfl).xa.read _ _
    ⟨by rw [coord_val]; exact hy, Nat.div_lt_of_lt_mul (show (y 1).val < 32 * 8 from (y 1).isLt)⟩

/-- The values heads: columns of the projection of the tile in the other slot. -/
theorem runB_v (ht : 0 < t.val) : arg9.view.read (Elt Ideal) (runB (F := Ideal) c (grid0.coords t) arg2 harg2 arg3 harg3 arg4 harg4 arg5 harg5 arg6 harg6 arg7 harg7 arg8 harg8 arg9 harg9 arg10 harg10 arg11 harg11 arg12 harg12 arg13 harg13 arg14 harg14 h1 h2 h3 f2 f3 f6 f7 f8 f9 f10 f11 f12 f13 f14 xt).2.2.1
    = plainT (arg13.view.read (Elt Ideal) f13) (arg12.view.read (Elt Ideal) f12) (prev t) 12 2 (by decide) := by
  unfold runB
  dsimp only
  sl_unfold_run_names
  funext y
  have hA := fun r k => (load_xa arg13.view (arg13.view.writes (Elt Ideal) f13 (beforeB (F := Ideal) c (grid0.coords t) tbM0_0 htbM0_0 arg2 harg2 arg3 harg3 arg4 harg4 arg5 harg5 arg6 harg6 arg7 harg7 arg8 harg8 arg9 harg9 arg10 harg10 arg11 harg11 arg12 harg12 arg13 harg13 arg14 harg14 (BitVec.ofNat 32 (grid0.coords t 0).val) h2 (Scalar.remsi (BitVec.ofNat 32 (grid0.coords t 0).val) 2#32) f2 f3 8).2.2) (prev t) (off40_eq t ht) (k0_off40_inb _ h2) r k).trans
    ((chunksB c (grid0.coords t) tbM0_0 htbM0_0 arg2 harg2 arg3 harg3 arg4 harg4 arg5 harg5 arg6 harg6 arg7 harg7 arg8 harg8 arg9 harg9 arg10 harg10 arg11 harg11 arg12 harg12 arg13 harg13 arg14 harg14 _ h2 _ f2 f3 8 le_rfl).xa.read_not _ _ (fun h => by
      have h0 : (t.val - 1) % 2 = (grid0.coords t 0).val % 2 := h.1
      rw [coord_val] at h0
      omega))
  have hB := load_whole arg12.view f12 inb_S5120x1792_S5120x1792_0_0
  refine Lays.slab (v := arg9.view) (G := plainT (arg13.view.read (Elt Ideal) f13) (arg12.view.read (Elt Ideal) f12) (prev t) 12 2 (by decide)) 0 rfl (fun h r l hh => ?_) (fun h r l hh => ?_) (Lays.zero _ _ _) f9 y (y 2).isLt
  · obtain rfl : h = 0 := Fin.ext hh
    exact plain_head hA hB 12 rfl slices_S256x1792_o0_1536_S256x128 r l
  · obtain rfl : h = 1 := Fin.ext hh
    exact plain_head hA hB 13 rfl slices_S256x1792_o0_1664_S256x128 r l

/-- The query heads, rotated. -/
theorem runB_q (ht : 0 < t.val) : arg7.view.read (Elt Ideal) (runB (F := Ideal) c (grid0.coords t) arg2 harg2 arg3 harg3 arg4 harg4 arg5 harg5 arg6 harg6 arg7 harg7 arg8 harg8 arg9 harg9 arg10 harg10 arg11 harg11 arg12 harg12 arg13 harg13 arg14 harg14 h1 h2 h3 f2 f3 f6 f7 f8 f9 f10 f11 f12 f13 f14 xt).1
    = ropeT (arg13.view.read (Elt Ideal) f13) (arg12.view.read (Elt Ideal) f12) (wordBase c t xt) (arg6.view.read (Elt Ideal) f6) (arg14.view.read (Elt Ideal) f14) (prev t) 0 10 (by decide) := by
  unfold runB
  dsimp only
  sl_unfold_run_names
  funext y
  have hA := fun r k => (load_xa arg13.view (arg13.view.writes (Elt Ideal) f13 (beforeB (F := Ideal) c (grid0.coords t) tbM0_0 htbM0_0 arg2 harg2 arg3 harg3 arg4 harg4 arg5 harg5 arg6 harg6 arg7 harg7 arg8 harg8 arg9 harg9 arg10 harg10 arg11 harg11 arg12 harg12 arg13 harg13 arg14 harg14 (BitVec.ofNat 32 (grid0.coords t 0).val) h2 (Scalar.remsi (BitVec.ofNat 32 (grid0.coords t 0).val) 2#32) f2 f3 8).2.2) (prev t) (off40_eq t ht) (k0_off40_inb _ h2) r k).trans
    ((chunksB c (grid0.coords t) tbM0_0 htbM0_0 arg2 harg2 arg3 harg3 arg4 harg4 arg5 harg5 arg6 harg6 arg7 harg7 arg8 harg8 arg9 harg9 arg10 harg10 arg11 harg11 arg12 harg12 arg13 harg13 arg14 harg14 _ h2 _ f2 f3 8 le_rfl).xa.read_not _ _ (fun h => by
      have h0 : (t.val - 1) % 2 = (grid0.coords t 0).val % 2 := h.1
      rw [coord_val] at h0
      omega))
  have hB := load_whole arg12.view f12 inb_S5120x1792_S5120x1792_0_0
  have hp := congrArg (baseOf (BitVec.ofNat 32 (grid0.coords t 0).val)) (load_pos c t xt (off39_eq t ht) (k0_off39_inb _ h2) (Nat.one_pos))
  have hf := load_whole arg6.view f6 inb_S1x128_S1x128_0_0 0
  have hc := load_table arg14.view f14 0 rfl inb_S2x256x128_S1x256x128_0_0_0
  have hs := load_table arg14.view f14 1 rfl inb_S2x256x128_S1x256x128_1_0_0
  refine Lays.slab (v := arg7.view) (G := ropeT (arg13.view.read (Elt Ideal) f13) (arg12.view.read (Elt Ideal) f12) (wordBase c t xt) (arg6.view.read (Elt Ideal) f6) (arg14.view.read (Elt Ideal) f14) (prev t) 0 10 (by decide)) 4 rfl (fun h r l hh => ?_) (fun h r l hh => ?_) (Lays.slab 3 rfl (fun h r l hh => ?_) (fun h r l hh => ?_) (Lays.slab 2 rfl (fun h r l hh => ?_) (fun h r l hh => ?_) (Lays.slab 1 rfl (fun h r l hh => ?_) (fun h r l hh => ?_) (Lays.slab 0 rfl (fun h r l hh => ?_) (fun h r l hh => ?_) (Lays.zero _ _ _))))) f7 y (y 2).isLt
  · obtain rfl : h = 8 := Fin.ext hh
    exact rope_head hA hB 8 rfl slices_S256x1792_o0_1024_S256x128 hp hf hc hs r l
  · obtain rfl : h = 9 := Fin.ext hh
    exact rope_head hA hB 9 rfl slices_S256x1792_o0_1152_S256x128 hp hf hc hs r l
  · obtain rfl : h = 6 := Fin.ext hh
    exact rope_head hA hB 6 rfl slices_S256x1792_o0_768_S256x128 hp hf hc hs r l
  · obtain rfl : h = 7 := Fin.ext hh
    exact rope_head hA hB 7 rfl slices_S256x1792_o0_896_S256x128 hp hf hc hs r l
  · obtain rfl : h = 4 := Fin.ext hh
    exact rope_head hA hB 4 rfl slices_S256x1792_o0_512_S256x128 hp hf hc hs r l
  · obtain rfl : h = 5 := Fin.ext hh
    exact rope_head hA hB 5 rfl slices_S256x1792_o0_640_S256x128 hp hf hc hs r l
  · obtain rfl : h = 2 := Fin.ext hh
    exact rope_head hA hB 2 rfl slices_S256x1792_o0_256_S256x128 hp hf hc hs r l
  · obtain rfl : h = 3 := Fin.ext hh
    exact rope_head hA hB 3 rfl slices_S256x1792_o0_384_S256x128 hp hf hc hs r l
  · obtain rfl : h = 0 := Fin.ext hh
    exact rope_head hA hB 0 rfl slices_S256x1792_o0_0_S256x128 hp hf hc hs r l
  · obtain rfl : h = 1 := Fin.ext hh
    exact rope_head hA hB 1 rfl slices_S256x1792_o0_128_S256x128 hp hf hc hs r l

/-- The key heads, rotated. -/
theorem runB_k (ht : 0 < t.val) : arg8.view.read (Elt Ideal) (runB (F := Ideal) c (grid0.coords t) arg2 harg2 arg3 harg3 arg4 harg4 arg5 harg5 arg6 harg6 arg7 harg7 arg8 harg8 arg9 harg9 arg10 harg10 arg11 harg11 arg12 harg12 arg13 harg13 arg14 harg14 h1 h2 h3 f2 f3 f6 f7 f8 f9 f10 f11 f12 f13 f14 xt).2.1
    = ropeT (arg13.view.read (Elt Ideal) f13) (arg12.view.read (Elt Ideal) f12) (wordBase c t xt) (arg6.view.read (Elt Ideal) f6) (arg14.view.read (Elt Ideal) f14) (prev t) 10 2 (by decide) := by
  unfold runB
  dsimp only
  sl_unfold_run_names
  funext y
  have hA := fun r k => (load_xa arg13.view (arg13.view.writes (Elt Ideal) f13 (beforeB (F := Ideal) c (grid0.coords t) tbM0_0 htbM0_0 arg2 harg2 arg3 harg3 arg4 harg4 arg5 harg5 arg6 harg6 arg7 harg7 arg8 harg8 arg9 harg9 arg10 harg10 arg11 harg11 arg12 harg12 arg13 harg13 arg14 harg14 (BitVec.ofNat 32 (grid0.coords t 0).val) h2 (Scalar.remsi (BitVec.ofNat 32 (grid0.coords t 0).val) 2#32) f2 f3 8).2.2) (prev t) (off40_eq t ht) (k0_off40_inb _ h2) r k).trans
    ((chunksB c (grid0.coords t) tbM0_0 htbM0_0 arg2 harg2 arg3 harg3 arg4 harg4 arg5 harg5 arg6 harg6 arg7 harg7 arg8 harg8 arg9 harg9 arg10 harg10 arg11 harg11 arg12 harg12 arg13 harg13 arg14 harg14 _ h2 _ f2 f3 8 le_rfl).xa.read_not _ _ (fun h => by
      have h0 : (t.val - 1) % 2 = (grid0.coords t 0).val % 2 := h.1
      rw [coord_val] at h0
      omega))
  have hB := load_whole arg12.view f12 inb_S5120x1792_S5120x1792_0_0
  have hp := congrArg (baseOf (BitVec.ofNat 32 (grid0.coords t 0).val)) (load_pos c t xt (off39_eq t ht) (k0_off39_inb _ h2) (Nat.one_pos))
  have hf := load_whole arg6.view f6 inb_S1x128_S1x128_0_0 0
  have hc := load_table arg14.view f14 0 rfl inb_S2x256x128_S1x256x128_0_0_0
  have hs := load_table arg14.view f14 1 rfl inb_S2x256x128_S1x256x128_1_0_0
  refine Lays.slab (v := arg8.view) (G := ropeT (arg13.view.read (Elt Ideal) f13) (arg12.view.read (Elt Ideal) f12) (wordBase c t xt) (arg6.view.read (Elt Ideal) f6) (arg14.view.read (Elt Ideal) f14) (prev t) 10 2 (by decide)) 0 rfl (fun h r l hh => ?_) (fun h r l hh => ?_) (Lays.zero _ _ _) f8 y (y 2).isLt
  · obtain rfl : h = 0 := Fin.ext hh
    exact rope_head hA hB 10 rfl slices_S256x1792_o0_1280_S256x128 hp hf hc hs r l
  · obtain rfl : h = 1 := Fin.ext hh
    exact rope_head hA hB 11 rfl slices_S256x1792_o0_1408_S256x128 hp hf hc hs r l

end

/-! ## The last point -/

section
variable (arg2 : Memref sig .tc .vmem S1x256x5120 .bf16) (harg2 : arg2.IsWhole) (arg3 : Memref sig .tc .vmem S1x5120 .f32) (harg3 : arg3.IsWhole) (arg4 : Memref sig .tc .vmem S5120x1792 .fp8e4m3) (harg4 : arg4.IsWhole) (arg5 : Memref sig .tc .smem S40x14 .f32) (harg5 : arg5.IsWhole) (arg6 : Memref sig .tc .vmem S1x128 .f32) (harg6 : arg6.IsWhole) (arg7 : Memref sig .tc .vmem S1x256x10x128 .bf16) (harg7 : arg7.IsWhole) (arg8 : Memref sig .tc .vmem S1x256x2x128 .bf16) (harg8 : arg8.IsWhole) (arg9 : Memref sig .tc .vmem S1x256x2x128 .bf16) (harg9 : arg9.IsWhole) (arg10 : Memref sig .tc .vmem S1x256x5120 .fp8e4m3) (harg10 : arg10.IsWhole) (arg11 : Memref sig .tc .vmem S1x256x40 .f32) (harg11 : arg11.IsWhole) (arg12 : Memref sig .tc .vmem S5120x1792 .bf16) (harg12 : arg12.IsWhole) (arg13 : Memref sig .tc .vmem S2x256x5120 .bf16) (harg13 : arg13.IsWhole) (arg14 : Memref sig .tc .vmem S2x256x128 .f32) (harg14 : arg14.IsWhole)
variable (h1 : ¬ k0_cond1 (grid0.coords t) = 1#1) (h2 : ¬ k0_cond2 (grid0.coords t) = 1#1) (h3 : k0_cond3 (grid0.coords t) = 1#1) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f12 : BufTy.Contents (Elt Ideal) arg12.view.ty) (f13 : BufTy.Contents (Elt Ideal) arg13.view.ty) (f14 : BufTy.Contents (Elt Ideal) arg14.view.ty) (xt : TbBuf0 (F := Ideal) c tbM0_0)

/-- The values heads: columns of the projection of the tile in the other slot. -/
theorem runC_v (ht : 0 < t.val) : arg9.view.read (Elt Ideal) (runC (F := Ideal) c (grid0.coords t) arg2 harg2 arg3 harg3 arg4 harg4 arg5 harg5 arg6 harg6 arg7 harg7 arg8 harg8 arg9 harg9 arg10 harg10 arg11 harg11 arg12 harg12 arg13 harg13 arg14 harg14 h1 h2 h3 f6 f7 f8 f9 f12 f13 f14 xt).2.2.1
    = plainT (arg13.view.read (Elt Ideal) f13) (arg12.view.read (Elt Ideal) f12) (prev t) 12 2 (by decide) := by
  unfold runC
  dsimp only
  sl_unfold_run_names
  funext y
  have hA := load_xa arg13.view f13 (prev t) (off42_eq t ht) (k0_off42_inb _ h3)
  have hB := load_whole arg12.view f12 inb_S5120x1792_S5120x1792_0_0
  refine Lays.slab (v := arg9.view) (G := plainT (arg13.view.read (Elt Ideal) f13) (arg12.view.read (Elt Ideal) f12) (prev t) 12 2 (by decide)) 0 rfl (fun h r l hh => ?_) (fun h r l hh => ?_) (Lays.zero _ _ _) f9 y (y 2).isLt
  · obtain rfl : h = 0 := Fin.ext hh
    exact plain_head hA hB 12 rfl slices_S256x1792_o0_1536_S256x128 r l
  · obtain rfl : h = 1 := Fin.ext hh
    exact plain_head hA hB 13 rfl slices_S256x1792_o0_1664_S256x128 r l

/-- The query heads, rotated. -/
theorem runC_q (ht : 0 < t.val) : arg7.view.read (Elt Ideal) (runC (F := Ideal) c (grid0.coords t) arg2 harg2 arg3 harg3 arg4 harg4 arg5 harg5 arg6 harg6 arg7 harg7 arg8 harg8 arg9 harg9 arg10 harg10 arg11 harg11 arg12 harg12 arg13 harg13 arg14 harg14 h1 h2 h3 f6 f7 f8 f9 f12 f13 f14 xt).1
    = ropeT (arg13.view.read (Elt Ideal) f13) (arg12.view.read (Elt Ideal) f12) (wordBase c t xt) (arg6.view.read (Elt Ideal) f6) (arg14.view.read (Elt Ideal) f14) (prev t) 0 10 (by decide) := by
  unfold runC
  dsimp only
  sl_unfold_run_names
  funext y
  have hA := load_xa arg13.view f13 (prev t) (off42_eq t ht) (k0_off42_inb _ h3)
  have hB := load_whole arg12.view f12 inb_S5120x1792_S5120x1792_0_0
  have hp := congrArg (baseOf (BitVec.ofNat 32 (grid0.coords t 0).val)) (load_pos c t xt (off41_eq t ht) (k0_off41_inb _ h3) (Nat.one_pos))
  have hf := load_whole arg6.view f6 inb_S1x128_S1x128_0_0 0
  have hc := load_table arg14.view f14 0 rfl inb_S2x256x128_S1x256x128_0_0_0
  have hs := load_table arg14.view f14 1 rfl inb_S2x256x128_S1x256x128_1_0_0
  refine Lays.slab (v := arg7.view) (G := ropeT (arg13.view.read (Elt Ideal) f13) (arg12.view.read (Elt Ideal) f12) (wordBase c t xt) (arg6.view.read (Elt Ideal) f6) (arg14.view.read (Elt Ideal) f14) (prev t) 0 10 (by decide)) 4 rfl (fun h r l hh => ?_) (fun h r l hh => ?_) (Lays.slab 3 rfl (fun h r l hh => ?_) (fun h r l hh => ?_) (Lays.slab 2 rfl (fun h r l hh => ?_) (fun h r l hh => ?_) (Lays.slab 1 rfl (fun h r l hh => ?_) (fun h r l hh => ?_) (Lays.slab 0 rfl (fun h r l hh => ?_) (fun h r l hh => ?_) (Lays.zero _ _ _))))) f7 y (y 2).isLt
  · obtain rfl : h = 8 := Fin.ext hh
    exact rope_head hA hB 8 rfl slices_S256x1792_o0_1024_S256x128 hp hf hc hs r l
  · obtain rfl : h = 9 := Fin.ext hh
    exact rope_head hA hB 9 rfl slices_S256x1792_o0_1152_S256x128 hp hf hc hs r l
  · obtain rfl : h = 6 := Fin.ext hh
    exact rope_head hA hB 6 rfl slices_S256x1792_o0_768_S256x128 hp hf hc hs r l
  · obtain rfl : h = 7 := Fin.ext hh
    exact rope_head hA hB 7 rfl slices_S256x1792_o0_896_S256x128 hp hf hc hs r l
  · obtain rfl : h = 4 := Fin.ext hh
    exact rope_head hA hB 4 rfl slices_S256x1792_o0_512_S256x128 hp hf hc hs r l
  · obtain rfl : h = 5 := Fin.ext hh
    exact rope_head hA hB 5 rfl slices_S256x1792_o0_640_S256x128 hp hf hc hs r l
  · obtain rfl : h = 2 := Fin.ext hh
    exact rope_head hA hB 2 rfl slices_S256x1792_o0_256_S256x128 hp hf hc hs r l
  · obtain rfl : h = 3 := Fin.ext hh
    exact rope_head hA hB 3 rfl slices_S256x1792_o0_384_S256x128 hp hf hc hs r l
  · obtain rfl : h = 0 := Fin.ext hh
    exact rope_head hA hB 0 rfl slices_S256x1792_o0_0_S256x128 hp hf hc hs r l
  · obtain rfl : h = 1 := Fin.ext hh
    exact rope_head hA hB 1 rfl slices_S256x1792_o0_128_S256x128 hp hf hc hs r l

/-- The key heads, rotated. -/
theorem runC_k (ht : 0 < t.val) : arg8.view.read (Elt Ideal) (runC (F := Ideal) c (grid0.coords t) arg2 harg2 arg3 harg3 arg4 harg4 arg5 harg5 arg6 harg6 arg7 harg7 arg8 harg8 arg9 harg9 arg10 harg10 arg11 harg11 arg12 harg12 arg13 harg13 arg14 harg14 h1 h2 h3 f6 f7 f8 f9 f12 f13 f14 xt).2.1
    = ropeT (arg13.view.read (Elt Ideal) f13) (arg12.view.read (Elt Ideal) f12) (wordBase c t xt) (arg6.view.read (Elt Ideal) f6) (arg14.view.read (Elt Ideal) f14) (prev t) 10 2 (by decide) := by
  unfold runC
  dsimp only
  sl_unfold_run_names
  funext y
  have hA := load_xa arg13.view f13 (prev t) (off42_eq t ht) (k0_off42_inb _ h3)
  have hB := load_whole arg12.view f12 inb_S5120x1792_S5120x1792_0_0
  have hp := congrArg (baseOf (BitVec.ofNat 32 (grid0.coords t 0).val)) (load_pos c t xt (off41_eq t ht) (k0_off41_inb _ h3) (Nat.one_pos))
  have hf := load_whole arg6.view f6 inb_S1x128_S1x128_0_0 0
  have hc := load_table arg14.view f14 0 rfl inb_S2x256x128_S1x256x128_0_0_0
  have hs := load_table arg14.view f14 1 rfl inb_S2x256x128_S1x256x128_1_0_0
  refine Lays.slab (v := arg8.view) (G := ropeT (arg13.view.read (Elt Ideal) f13) (arg12.view.read (Elt Ideal) f12) (wordBase c t xt) (arg6.view.read (Elt Ideal) f6) (arg14.view.read (Elt Ideal) f14) (prev t) 10 2 (by decide)) 0 rfl (fun h r l hh => ?_) (fun h r l hh => ?_) (Lays.zero _ _ _) f8 y (y 2).isLt
  · obtain rfl : h = 0 := Fin.ext hh
    exact rope_head hA hB 10 rfl slices_S256x1792_o0_1280_S256x128 hp hf hc hs r l
  · obtain rfl : h = 1 := Fin.ext hh
    exact rope_head hA hB 11 rfl slices_S256x1792_o0_1408_S256x128 hp hf hc hs r l

end

end

end Cert.KernelIdeal.Hand

end
-- ==== Proof.KernelIdealBlocks.lean ====
/- The blocks that the windows stage, at the coordinates of their arrays. -/
module

public import proofs.«01_k».proof.Proof.KernelIdealKit
public import Idealize.ShloMosaic.Lib.ValueIdx
public import Idealize.ShloMosaic.Lib.Pipeline.ValueKit.Tiles
public import Idealize.ShloMosaic.Lib.Pipeline.ValueKit.Point
public import Idealize.ShloMosaic.PureOps.Ideal
public import Idealize.ShloMosaic.Lib.Pipeline.Cells

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ) (hO : Ok m) (c : Dev nD)

/-- The row of the activations that row `r` of tile `k` is. -/
def rowOf (k : Nat) (r : Fin 256) : Fin 6144 := ⟨256 * (k % 24) + r.val, by omega⟩
/-- The sequence that tile `k` belongs to. -/
def seqOf (k : Nat) : Fin 4 := ⟨k / 24 % 4, by omega⟩

/-- A place in a block whose index is known. -/
theorem at_block {i n y j : Nat} (hi : i = j) : i * n + y = n * j + y := by rw [hi, Nat.mul_comm]

/-- A place in a block at the origin. -/
theorem at_origin {i n y : Nat} (hi : i = 0) : i * n + y = y := by rw [hi, Nat.zero_mul, Nat.zero_add]

/-- Tile `k` of the activations. -/
def xTile (k : Nat) (y : S1x256x5120.Idx) : EReal := V m c main_arg0 (ix3 (seqOf k) (rowOf k (y 1)) (y 2))

/-- Which block of the activations a grid point reads: its own tile, and the last tile at the last point. -/
theorem tr0 : ∀ t : Fin grid0.N, cc0_transform_0 (grid0.coords t) 0 = min t.val 95 / 24 % 4 ∧ cc0_transform_0 (grid0.coords t) 1 = min t.val 95 % 24
    ∧ cc0_transform_0 (grid0.coords t) 2 = 0 := by decide +kernel

/-- Window 0 stages tile `min t 95`. -/
theorem iblk0_eq (t : Fin (cfgM m hO).N) : iblk m hO c 0 t = xTile m c (min t.val 95) := by
  funext y
  have e0 : (pcfg0.win (adm m hO) 0).index t 0 = min t.val 95 / 24 % 4 := (tr0 t).1
  have e1 : (pcfg0.win (adm m hO) 0).index t 1 = min t.val 95 % 24 := (tr0 t).2.1
  have e2 : (pcfg0.win (adm m hO) 0).index t 2 = 0 := (tr0 t).2.2
  unfold iblk xTile seqOf rowOf
  blk_ext
  · exact e0
  · exact at_block e1
  · exact at_origin e2

/-- Window 1 stages the norm weights whole, -/
theorem iblk1_eq (t : Fin (cfgM m hO).N) : iblk m hO c 1 t = V m c main_v2 := by
  funext y
  have e0 : (pcfg0.win (adm m hO) 1).index t 0 = 0 := rfl
  have e1 : (pcfg0.win (adm m hO) 1).index t 1 = 0 := rfl
  unfold iblk
  blk_ext
  · exact e0
  · exact at_origin e1

/-- window 2 the weights whole, -/
theorem iblk2_eq (t : Fin (cfgM m hO).N) : iblk m hO c 2 t = V m c main_arg2 := by
  funext y
  have e0 : (pcfg0.win (adm m hO) 2).index t 0 = 0 := rfl
  have e1 : (pcfg0.win (adm m hO) 2).index t 1 = 0 := rfl
  unfold iblk
  blk_ext
  · exact at_origin e0
  · exact at_origin e1

/-- window 3 the weights' scales whole, -/
theorem iblk3_eq (t : Fin (cfgM m hO).N) : iblk m hO c 3 t = V m c main_arg3 := by
  funext y
  have e0 : (pcfg0.win (adm m hO) 3).index t 0 = 0 := rfl
  have e1 : (pcfg0.win (adm m hO) 3).index t 1 = 0 := rfl
  unfold iblk
  blk_ext
  · exact at_origin e0
  · exact at_origin e1

/-- and window 4 the frequencies whole. -/
theorem iblk4_eq (t : Fin (cfgM m hO).N) : iblk m hO c 4 t = V m c main_v0 := by
  funext y
  have e0 : (pcfg0.win (adm m hO) 4).index t 0 = 0 := rfl
  have e1 : (pcfg0.win (adm m hO) 4).index t 1 = 0 := rfl
  unfold iblk
  blk_ext
  · exact e0
  · exact at_origin e1

end Cert.KernelIdeal.Hand

end
-- ==== Proof.KernelIdealLaunch.lean ====
/- The kernel's launch on the extended reals: what the body carries from point to point in its scratch buffers, and what it leaves in
   each window's buffer. -/
module

public import proofs.«01_k».proof.Proof.KernelIdealRunVals
public import proofs.«01_k».proof.Proof.KernelIdealRunValsB
public import proofs.«01_k».proof.Proof.KernelIdealBlocks

@[expose] public section

set_option maxRecDepth 16384

noncomputable section

namespace Cert.KernelIdeal.Hand

open Cert.KernelIdeal Cert.KernelIdeal.Gen Cert.Rows Cert.Fill Cert.Rope
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (hO : Ok m) (c : Dev nD)

/-! ## What the buffers hold -/

/-- The codes of tile `k`. -/
def codesM (k : Nat) : S1x256x5120.Idx → Elt Ideal .fp8e4m3 := codesT (xTile m c k) (V m c main_v2)
/-- The scales of tile `k`. -/
def scalesM (k : Nat) : S1x256x40.Idx → Elt Ideal .f32 := scalesT (xTile m c k) (V m c main_v2)
/-- The dequantised values of tile `k`. -/
def xaM (k : Nat) : S2x256x5120.Idx → Elt Ideal .bf16 := xaT (xTile m c k) (V m c main_v2)
/-- The dequantised weights. -/
def waM : S5120x1792.Idx → Elt Ideal .bf16 := waT (V m c main_arg2) (V m c main_arg3)
/-- The table of cosines, -/
def cosM (r : Fin 256) (l : Fin 128) : EReal := Ideal.cos (FloatOps.sitofp (F := Ideal) .f32 (BitVec.ofNat 32 r.val) * V m c main_v0 (ix2 0 l))
/-- and the table of sines. -/
def sinM (r : Fin 256) (l : Fin 128) : EReal := Ideal.sin (FloatOps.sitofp (F := Ideal) .f32 (BitVec.ofNat 32 r.val) * V m c main_v0 (ix2 0 l))

/-- The rotated heads that point `t` writes, `n` of them from head `s` on. -/
def ropeM (t : Fin grid0.N) (s n : Nat) (hs : s + n ≤ 14) (y : (⟨4, ![1, 256, n, 128]⟩ : Shape).Idx) : EReal :=
  ropeOf (fun k => xaM m c (t.val - 1) (ix3 (prev t) (y 1) k)) (fun k j => waM m c (ix2 k j)) (wordBase c t (tbl m 0)) (fun l => V m c main_v0 (ix2 0 l))
    (fun l => cosM m c (y 1) l) (fun l => sinM m c (y 1) l)
    ⟨s + (y 2).val, Nat.lt_of_lt_of_le (Nat.add_lt_add_left (show (y 2).val < n from (y 2).isLt) s) hs⟩ (y 3)

/-- The heads that point `t` writes without rotating them. -/
def plainM (t : Fin grid0.N) (s n : Nat) (hs : s + n ≤ 14) (y : (⟨4, ![1, 256, n, 128]⟩ : Shape).Idx) : EReal :=
  headOf (fun k => xaM m c (t.val - 1) (ix3 (prev t) (y 1) k)) (fun k j => waM m c (ix2 k j))
    ⟨s + (y 2).val, Nat.lt_of_lt_of_le (Nat.add_lt_add_left (show (y 2).val < n from (y 2).isLt) s) hs⟩ (y 3)

/-- What the scratch buffers hold before point `t`: nothing is known at the first; after it the dequantised weights, the dequantised
    values of the tile just quantised in its slot, and the two tables. -/
structure Carried (t : Nat) (d12 : S5120x1792.Idx → Elt Ideal .bf16) (d13 : S2x256x5120.Idx → Elt Ideal .bf16) (d14 : S2x256x128.Idx → Elt Ideal .f32) : Prop where
  weights : 0 < t → d12 = waM m c
  xa : 0 < t → t < 97 → ∀ y, (y 0).val = (t - 1) % 2 → d13 y = xaM m c (t - 1) y
  cos : 0 < t → ∀ r l, d14 (ix3 0 r l) = cosM m c r l
  sin : 0 < t → ∀ r l, d14 (ix3 1 r l) = sinM m c r l

section
variable {m c} {t : Fin grid0.N} (ht : 0 < t.val) {d12 : S5120x1792.Idx → Elt Ideal .bf16} {d13 : S2x256x5120.Idx → Elt Ideal .bf16}
  {d14 : S2x256x128.Idx → Elt Ideal .f32} (hC : Carried m c t.val d12 d13 d14)

include ht hC in
/-- The rotated heads, from the carried buffers. -/
theorem Carried.rope {f : S1x128.Idx → Elt Ideal .f32} (hf : f = V m c main_v0) (s n : Nat) (hs : s + n ≤ 14) :
    ropeT d13 d12 (wordBase c t (tbl m 0)) f d14 (prev t) s n hs = ropeM m c t s n hs := by
  funext y
  subst hf
  have hx : ∀ k, d13 (ix3 (prev t) (y 1) k) = xaM m c (t.val - 1) (ix3 (prev t) (y 1) k) := fun k => hC.xa ht t.isLt _ rfl
  have hc : ∀ l, d14 (ix3 0 (y 1) l) = cosM m c (y 1) l := fun l => hC.cos ht (y 1) l
  have hs : ∀ l, d14 (ix3 1 (y 1) l) = sinM m c (y 1) l := fun l => hC.sin ht (y 1) l
  unfold ropeT ropeM
  simp only [hx, hC.weights ht, hc, hs]

include ht hC in
/-- The plain heads, from the carried buffers. -/
theorem Carried.plain (s n : Nat) (hs : s + n ≤ 14) : plainT d13 d12 (prev t) s n hs = plainM m c t s n hs := by
  funext y
  have hx : ∀ k, d13 (ix3 (prev t) (y 1) k) = xaM m c (t.val - 1) (ix3 (prev t) (y 1) k) := fun k => hC.xa ht t.isLt _ rfl
  unfold plainT plainM
  simp only [hx, hC.weights ht]

end

/-! ## The proof data -/

/-- The pipeline's proof data: an input's buffer is left as found; a codes or scales buffer holds its tile's from the first point on,
    and at the last point still those of the last tile; a heads buffer holds, from the second point on, the heads of the tile before. -/
def rdat : Pipeline.RDat τ (Elt Ideal) Unit ℕ (UR sig nD τ) ℕ (cfgM m hO) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun _ X => 0 < t.val → X = ropeM m c t 0 10 (by decide)
    | ⟨6, _⟩ => fun _ X => 0 < t.val → X = ropeM m c t 10 2 (by decide)
    | ⟨7, _⟩ => fun _ X => 0 < t.val → X = plainM m c t 12 2 (by decide)
    | ⟨8, _⟩ => fun _ X => X = codesM m c (min t.val 95)
    | ⟨9, _⟩ => fun _ X => X = scalesM m c (min t.val 95)
  Φ t := iprop((∃ d12 d13 d14, ⌜Carried m c t.val d12 d13 d14⌝ ∗ owns (c : Thread nD τ) scM0_0 fullShare d12
      ∗ owns (c : Thread nD τ) scM0_1 fullShare d13 ∗ owns (c : Thread nD τ) scM0_2 fullShare d14)
    ∗ (∃ r, prngReg c r) ∗ Pipeline.ΦT pre0 (tbl m) c)
  q _ := fullShare
  owed _ := 0

/-- The proof data's arrays are the region-entry contents. -/
theorem rdat_A (w : Fin (cfgM m hO).W) : (rdat m hO c).A w = V m c (Pipeline.arrRef spec0 w) := by dsimp only [rdat]

/-- What the input windows hold wherever the body is handed them. -/
theorem found0 (t) (Y) (h : (rdat m hO c).Finds 0 t Y) : Y = xTile m c (min t.val 95) := by
  obtain ⟨d, rfl⟩ := (rdat m hO c).finds_in_eq_fetched 0 rfl (fun _ _ _ => rfl) (fun t Y X h => h) t Y h
  rw [← iblk0_eq m hO c t]
  rfl
/-- At each point the window of the norm weights holds the whole argument. -/
theorem found1 (t) (Y) (h : (rdat m hO c).Finds 1 t Y) : Y = V m c main_v2 := by
  obtain ⟨d, rfl⟩ := (rdat m hO c).finds_in_eq_fetched 1 rfl (fun _ _ _ => rfl) (fun t Y X h => h) t Y h
  rw [← iblk1_eq m hO c t]
  rfl
/-- At each point the window of the weights holds the whole argument. -/
theorem found2 (t) (Y) (h : (rdat m hO c).Finds 2 t Y) : Y = V m c main_arg2 := by
  obtain ⟨d, rfl⟩ := (rdat m hO c).finds_in_eq_fetched 2 rfl (fun _ _ _ => rfl) (fun t Y X h => h) t Y h
  rw [← iblk2_eq m hO c t]
  rfl
/-- At each point the window of the weights' scales holds the whole argument. -/
theorem found3 (t) (Y) (h : (rdat m hO c).Finds 3 t Y) : Y = V m c main_arg3 := by
  obtain ⟨d, rfl⟩ := (rdat m hO c).finds_in_eq_fetched 3 rfl (fun _ _ _ => rfl) (fun t Y X h => h) t Y h
  rw [← iblk3_eq m hO c t]
  rfl
/-- At each point the window of the inverse frequencies holds the whole argument. -/
theorem found4 (t) (Y) (h : (rdat m hO c).Finds 4 t Y) : Y = V m c main_v0 := by
  obtain ⟨d, rfl⟩ := (rdat m hO c).finds_in_eq_fetched 4 rfl (fun _ _ _ => rfl) (fun t Y X h => h) t Y h
  rw [← iblk4_eq m hO c t]
  rfl

/-! ## The body at a point -/

/-- A buffer at known contents, given back as one at contents with a property. -/
theorem give {sp : Space} {sh : Shape} {e : EltTy} (M : Memref sig .tc sp sh e) (f : M.view.ty.Contents (Elt Ideal)) (P : (sh.Idx → Elt Ideal e) → Prop)
    (h : P (M.view.read (Elt Ideal) f)) :
    (M.view.loc (c : Thread nD τ) ↦[M.view.set]{fullShare} f : sProp 𝕄) ⊢ iprop(∃ X, ⌜P X⌝ ∗ owns (c : Thread nD τ) M fullShare X) := by
  unfold owns
  iintro H
  iexists _
  isplitr
  swap
  · iexists _
    isplitr
    swap
    · iexact H
    ipureintro
    rfl
  ipureintro
  exact h

variable (t : Fin (cfgM m hO).N) (Y0 : S1x256x5120.Idx → Elt Ideal .bf16) (Y1 : S1x5120.Idx → Elt Ideal .f32) (Y2 : S5120x1792.Idx → Elt Ideal .fp8e4m3) (Y3 : S40x14.Idx → Elt Ideal .f32) (Y4 : S1x128.Idx → Elt Ideal .f32) (Y5 : S1x256x10x128.Idx → Elt Ideal .bf16) (Y6 : S1x256x2x128.Idx → Elt Ideal .bf16) (Y7 : S1x256x2x128.Idx → Elt Ideal .bf16) (Y8 : S1x256x5120.Idx → Elt Ideal .fp8e4m3) (Y9 : S1x256x40.Idx → Elt Ideal .f32)

/-- What the body is handed at point `t`. -/
def vPre : sProp 𝕄 :=
  iprop((rdat m hO c).Φ t.castSucc ∗ (rdat m hO c).owesAt () t.castSucc
    ∗ owns (c : Thread nD τ) (ms0_0 m hO t) fullShare Y0
    ∗ owns (c : Thread nD τ) (ms0_1 m hO t) fullShare Y1
    ∗ owns (c : Thread nD τ) (ms0_2 m hO t) fullShare Y2
    ∗ owns (c : Thread nD τ) (ms0_3 m hO t) fullShare Y3
    ∗ owns (c : Thread nD τ) (ms0_4 m hO t) fullShare Y4
    ∗ owns (c : Thread nD τ) (ms0_5 m hO t) fullShare Y5
    ∗ owns (c : Thread nD τ) (ms0_6 m hO t) fullShare Y6
    ∗ owns (c : Thread nD τ) (ms0_7 m hO t) fullShare Y7
    ∗ owns (c : Thread nD τ) (ms0_8 m hO t) fullShare Y8
    ∗ owns (c : Thread nD τ) (ms0_9 m hO t) fullShare Y9)

/-- What it hands back. -/
def vPost : sProp 𝕄 :=
  iprop((rdat m hO c).Φ t.succ ∗ (rdat m hO c).owesAt () t.succ
    ∗ (∃ X, ⌜(fun X => X = Y0) X⌝ ∗ owns (c : Thread nD τ) (ms0_0 m hO t) fullShare X)
    ∗ (∃ X, ⌜(fun X => X = Y1) X⌝ ∗ owns (c : Thread nD τ) (ms0_1 m hO t) fullShare X)
    ∗ (∃ X, ⌜(fun X => X = Y2) X⌝ ∗ owns (c : Thread nD τ) (ms0_2 m hO t) fullShare X)
    ∗ (∃ X, ⌜(fun X => X = Y3) X⌝ ∗ owns (c : Thread nD τ) (ms0_3 m hO t) fullShare X)
    ∗ (∃ X, ⌜(fun X => X = Y4) X⌝ ∗ owns (c : Thread nD τ) (ms0_4 m hO t) fullShare X)
    ∗ (∃ X, ⌜(fun X => 0 < t.val → X = ropeM m c t 0 10 (by decide)) X⌝ ∗ owns (c : Thread nD τ) (ms0_5 m hO t) fullShare X)
    ∗ (∃ X, ⌜(fun X => 0 < t.val → X = ropeM m c t 10 2 (by decide)) X⌝ ∗ owns (c : Thread nD τ) (ms0_6 m hO t) fullShare X)
    ∗ (∃ X, ⌜(fun X => 0 < t.val → X = plainM m c t 12 2 (by decide)) X⌝ ∗ owns (c : Thread nD τ) (ms0_7 m hO t) fullShare X)
    ∗ (∃ X, ⌜(fun X => X = codesM m c (min t.val 95)) X⌝ ∗ owns (c : Thread nD τ) (ms0_8 m hO t) fullShare X)
    ∗ (∃ X, ⌜(fun X => X = scalesM m c (min t.val 95)) X⌝ ∗ owns (c : Thread nD τ) (ms0_9 m hO t) fullShare X))

/-- The body's own part of the invariant, from the three scratch buffers. -/
theorem keep (k : Nat) (f12 f13 f14) (h : Carried m c k (scM0_0.view.read (Elt Ideal) f12) (scM0_1.view.read (Elt Ideal) f13) (scM0_2.view.read (Elt Ideal) f14)) :
    iprop((scM0_0.view.loc (c : Thread nD τ) ↦[scM0_0.view.set]{fullShare} f12) ∗ (scM0_1.view.loc (c : Thread nD τ) ↦[scM0_1.view.set]{fullShare} f13)
      ∗ (scM0_2.view.loc (c : Thread nD τ) ↦[scM0_2.view.set]{fullShare} f14) : sProp 𝕄)
    ⊢ iprop(∃ d12 d13 d14, ⌜Carried m c k d12 d13 d14⌝ ∗ owns (c : Thread nD τ) scM0_0 fullShare d12
      ∗ owns (c : Thread nD τ) scM0_1 fullShare d13 ∗ owns (c : Thread nD τ) scM0_2 fullShare d14) := by
  unfold owns
  iintro ⟨H12, H13, H14⟩
  iexists _, _, _
  isplitr
  swap
  · isplitl [H12]
    · iexists _; isplitr; swap; · iexact H12
      ipureintro; rfl
    isplitl [H13]
    · iexists _; isplitr; swap; · iexact H13
      ipureintro; rfl
    iexists _; isplitr; swap; · iexact H14
    ipureintro; rfl
  ipureintro
  exact h

set_option maxHeartbeats 4000000 in
/-- The body at the first point. -/
theorem bodyA (h0 : t.val = 0) (e0 : Y0 = xTile m c (min t.val 95)) (e1 : Y1 = V m c main_v2) (e2 : Y2 = V m c main_arg2) (e3 : Y3 = V m c main_arg3) (e4 : Y4 = V m c main_v0) :
    vPre m hO c t Y0 Y1 Y2 Y3 Y4 Y5 Y6 Y7 Y8 Y9 ⊢ wp frame (wpE (defs₀ (F := Ideal)) Variants.none c none) Set.univ (bodyAt0 (adm m hO) t) (fun _ => vPost m hO c t Y0 Y1 Y2 Y3 Y4) := by
  unfold vPre vPost bodyAt0
  rw [show (rdat m hO c).owesAt () t.succ = (rdat m hO c).owesAt () t.castSucc from rfl]
  dsimp only [rdat]
  rw [PhiT0_eq]
  unfold owns
  iintro ⟨⟨⟨%d12, %d13, %d14, %hC0, ⟨%f12, %r12, H12⟩, ⟨%f13, %r13, H13⟩, ⟨%f14, %r14, H14⟩⟩, Hg, HT⟩, Ho, ⟨%f2, %r2, H2⟩, ⟨%f3, %r3, H3⟩, ⟨%f4, %r4, H4⟩, ⟨%f5, %r5, H5⟩, ⟨%f6, %r6, H6⟩, ⟨%f7, %r7, H7⟩, ⟨%f8, %r8, H8⟩, ⟨%f9, %r9, H9⟩, ⟨%f10, %r10, H10⟩, ⟨%f11, %r11, H11⟩⟩
  have h1 := (cond1_iff t).2 h0
  have h2 : ¬ k0_cond2 (grid0.coords t) = 1#1 := fun h => by have := (cond2_iff t).1 h; omega
  have h3 : ¬ k0_cond3 (grid0.coords t) = 1#1 := fun h => by have := (cond3_iff t).1 h; omega
  have q5 : (fun X => 0 < t.val → X = ropeM m c t 0 10 (by decide)) ((ms0_5 m hO t).view.read (Elt Ideal) f7) := fun h => by omega
  have q6 : (fun X => 0 < t.val → X = ropeM m c t 10 2 (by decide)) ((ms0_6 m hO t).view.read (Elt Ideal) f8) := fun h => by omega
  have q7 : (fun X => 0 < t.val → X = plainM m c t 12 2 (by decide)) ((ms0_7 m hO t).view.read (Elt Ideal) f9) := fun h => by omega
  have q8 := (runA_codes c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) h1 h2 h3 f2 f3 f4 f5 f6 f10 f11 f12 f13 f14 (tbl m 0))
  rw [r2, r3, e0, e1] at q8
  have q9 := (runA_scales c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) h1 h2 h3 f2 f3 f4 f5 f6 f10 f11 f12 f13 f14 (tbl m 0))
  rw [r2, r3, e0, e1] at q9
  have k12 := (runA_weights c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) h1 h2 h3 f2 f3 f4 f5 f6 f10 f11 f12 f13 f14 (tbl m 0))
  rw [r4, r5, e2, e3] at k12
  have k13 := (runA_xa c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) h1 h2 h3 f2 f3 f4 f5 f6 f10 f11 f12 f13 f14 (tbl m 0))
  rw [r2, r3, e0, e1] at k13
  have k14 := (runA_cos c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) h1 h2 h3 f2 f3 f4 f5 f6 f10 f11 f12 f13 f14 (tbl m 0))
  rw [r6, e4] at k14
  have k15 := (runA_sin c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) h1 h2 h3 f2 f3 f4 f5 f6 f10 f11 f12 f13 f14 (tbl m 0))
  rw [r6, e4] at k15
  have hC : Carried m c (t.val + 1) _ _ _ := ⟨fun _ => k12, fun _ _ y hy => (k13 y (by rw [coord_val]; exact hy)).trans (by rw [show min t.val 95 = t.val + 1 - 1 by omega]; rfl), fun _ => k14, fun _ => k15⟩
  iapply ((runA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) h1 h2 h3 f2 f3 f4 f5 f6 f10 f11 f12 f13 f14 (tbl m 0)).2.2.2.2.2 Set.univ _)
  isplitl [H2]; · iexact H2
  isplitl [H3]; · iexact H3
  isplitl [H4]; · iexact H4
  isplitl [H5]; · iexact H5
  isplitl [H6]; · iexact H6
  isplitl [H10]; · iexact H10
  isplitl [H11]; · iexact H11
  isplitl [H12]; · iexact H12
  isplitl [H13]; · iexact H13
  isplitl [H14]; · iexact H14
  isplitl [HT]; · iexact HT
  iintro ⟨H2, H3, H4, H5, H6, H10, H11, H12, H13, H14, HT⟩
  isplitl [H12 H13 H14 Hg HT]
  · isplitl [H12 H13 H14]
    · iapply (keep m c _ _ _ _ hC)
      isplitl [H12]; · iexact H12
      isplitl [H13]; · iexact H13
      iexact H14
    isplitl [Hg]; · iexact Hg
    iexact HT
  isplitl [Ho]; · iexact Ho
  isplitl [H2]
  · iapply (give c (ms0_0 m hO t) _ (fun X => X = Y0) r2)
    iexact H2
  isplitl [H3]
  · iapply (give c (ms0_1 m hO t) _ (fun X => X = Y1) r3)
    iexact H3
  isplitl [H4]
  · iapply (give c (ms0_2 m hO t) _ (fun X => X = Y2) r4)
    iexact H4
  isplitl [H5]
  · iapply (give c (ms0_3 m hO t) _ (fun X => X = Y3) r5)
    iexact H5
  isplitl [H6]
  · iapply (give c (ms0_4 m hO t) _ (fun X => X = Y4) r6)
    iexact H6
  isplitl [H7]
  · iapply (give c (ms0_5 m hO t) _ (fun X => 0 < t.val → X = ropeM m c t 0 10 (by decide)) q5)
    iexact H7
  isplitl [H8]
  · iapply (give c (ms0_6 m hO t) _ (fun X => 0 < t.val → X = ropeM m c t 10 2 (by decide)) q6)
    iexact H8
  isplitl [H9]
  · iapply (give c (ms0_7 m hO t) _ (fun X => 0 < t.val → X = plainM m c t 12 2 (by decide)) q7)
    iexact H9
  isplitl [H10]
  · iapply (give c (ms0_8 m hO t) _ (fun X => X = codesM m c (min t.val 95)) q8)
    iexact H10
  iapply (give c (ms0_9 m hO t) _ (fun X => X = scalesM m c (min t.val 95)) q9)
  iexact H11

set_option maxHeartbeats 4000000 in
/-- The body at a point in the middle. -/
theorem bodyB (h0 : 0 < t.val) (h9 : t.val < 96) (e0 : Y0 = xTile m c (min t.val 95)) (e1 : Y1 = V m c main_v2) (e4 : Y4 = V m c main_v0) :
    vPre m hO c t Y0 Y1 Y2 Y3 Y4 Y5 Y6 Y7 Y8 Y9 ⊢ wp frame (wpE (defs₀ (F := Ideal)) Variants.none c none) Set.univ (bodyAt0 (adm m hO) t) (fun _ => vPost m hO c t Y0 Y1 Y2 Y3 Y4) := by
  unfold vPre vPost bodyAt0
  rw [show (rdat m hO c).owesAt () t.succ = (rdat m hO c).owesAt () t.castSucc from rfl]
  dsimp only [rdat]
  rw [PhiT0_eq]
  unfold owns
  iintro ⟨⟨⟨%d12, %d13, %d14, %hC0, ⟨%f12, %r12, H12⟩, ⟨%f13, %r13, H13⟩, ⟨%f14, %r14, H14⟩⟩, Hg, HT⟩, Ho, ⟨%f2, %r2, H2⟩, ⟨%f3, %r3, H3⟩, ⟨%f4, %r4, H4⟩, ⟨%f5, %r5, H5⟩, ⟨%f6, %r6, H6⟩, ⟨%f7, %r7, H7⟩, ⟨%f8, %r8, H8⟩, ⟨%f9, %r9, H9⟩, ⟨%f10, %r10, H10⟩, ⟨%f11, %r11, H11⟩⟩
  have h1 : ¬ k0_cond1 (grid0.coords t) = 1#1 := fun h => by have := (cond1_iff t).1 h; omega
  have h2 := (cond2_iff t).2 ⟨h0, h9⟩
  have h3 : ¬ k0_cond3 (grid0.coords t) = 1#1 := fun h => by have := (cond3_iff t).1 h; omega
  have q5 := (runB_q c t (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) h1 h2 h3 f2 f3 f6 f7 f8 f9 f10 f11 f12 f13 f14 (tbl m 0) h0)
  rw [r12, r13, r14, hC0.rope h0 (r6.trans e4)] at q5
  have q6 := (runB_k c t (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) h1 h2 h3 f2 f3 f6 f7 f8 f9 f10 f11 f12 f13 f14 (tbl m 0) h0)
  rw [r12, r13, r14, hC0.rope h0 (r6.trans e4)] at q6
  have q7 := (runB_v c t (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) h1 h2 h3 f2 f3 f6 f7 f8 f9 f10 f11 f12 f13 f14 (tbl m 0) h0)
  rw [r12, r13, hC0.plain h0] at q7
  have q8 := (runB_codes c t (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) h1 h2 h3 f2 f3 f6 f7 f8 f9 f10 f11 f12 f13 f14 (tbl m 0))
  rw [r2, r3, e0, e1] at q8
  have q9 := (runB_scales c t (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) h1 h2 h3 f2 f3 f6 f7 f8 f9 f10 f11 f12 f13 f14 (tbl m 0))
  rw [r2, r3, e0, e1] at q9
  have k13 := (runB_xa c t (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) h1 h2 h3 f2 f3 f6 f7 f8 f9 f10 f11 f12 f13 f14 (tbl m 0))
  rw [r2, r3, e0, e1] at k13
  have hC : Carried m c (t.val + 1) (scM0_0.view.read (Elt Ideal) f12) _ (scM0_2.view.read (Elt Ideal) f14) :=
    ⟨fun _ => by rw [r12]; exact hC0.weights h0, fun _ _ y hy => (k13 y hy).trans (by rw [show min t.val 95 = t.val + 1 - 1 by omega]; rfl),
      fun _ => by rw [r14]; exact hC0.cos h0, fun _ => by rw [r14]; exact hC0.sin h0⟩
  iapply ((runB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) h1 h2 h3 f2 f3 f6 f7 f8 f9 f10 f11 f12 f13 f14 (tbl m 0)).2.2.2.2.2.2 Set.univ _)
  isplitl [H2]; · iexact H2
  isplitl [H3]; · iexact H3
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HT]; · iexact HT
  iintro ⟨H2, H3, H6, H7, H8, H9, H10, H11, H12, H13, H14, HT⟩
  isplitl [H12 H13 H14 Hg HT]
  · isplitl [H12 H13 H14]
    · iapply (keep m c _ _ _ _ hC)
      isplitl [H12]; · iexact H12
      isplitl [H13]; · iexact H13
      iexact H14
    isplitl [Hg]; · iexact Hg
    iexact HT
  isplitl [Ho]; · iexact Ho
  isplitl [H2]
  · iapply (give c (ms0_0 m hO t) _ (fun X => X = Y0) r2)
    iexact H2
  isplitl [H3]
  · iapply (give c (ms0_1 m hO t) _ (fun X => X = Y1) r3)
    iexact H3
  isplitl [H4]
  · iapply (give c (ms0_2 m hO t) _ (fun X => X = Y2) r4)
    iexact H4
  isplitl [H5]
  · iapply (give c (ms0_3 m hO t) _ (fun X => X = Y3) r5)
    iexact H5
  isplitl [H6]
  · iapply (give c (ms0_4 m hO t) _ (fun X => X = Y4) r6)
    iexact H6
  isplitl [H7]
  · iapply (give c (ms0_5 m hO t) _ (fun X => 0 < t.val → X = ropeM m c t 0 10 (by decide)) (fun _ => q5))
    iexact H7
  isplitl [H8]
  · iapply (give c (ms0_6 m hO t) _ (fun X => 0 < t.val → X = ropeM m c t 10 2 (by decide)) (fun _ => q6))
    iexact H8
  isplitl [H9]
  · iapply (give c (ms0_7 m hO t) _ (fun X => 0 < t.val → X = plainM m c t 12 2 (by decide)) (fun _ => q7))
    iexact H9
  isplitl [H10]
  · iapply (give c (ms0_8 m hO t) _ (fun X => X = codesM m c (min t.val 95)) q8)
    iexact H10
  iapply (give c (ms0_9 m hO t) _ (fun X => X = scalesM m c (min t.val 95)) q9)
  iexact H11

set_option maxHeartbeats 4000000 in
/-- The body at the last point. -/
theorem bodyC (h0 : t.val = 96) (e4 : Y4 = V m c main_v0) (e8 : Y8 = codesM m c 95) (e9 : Y9 = scalesM m c 95) :
    vPre m hO c t Y0 Y1 Y2 Y3 Y4 Y5 Y6 Y7 Y8 Y9 ⊢ wp frame (wpE (defs₀ (F := Ideal)) Variants.none c none) Set.univ (bodyAt0 (adm m hO) t) (fun _ => vPost m hO c t Y0 Y1 Y2 Y3 Y4) := by
  unfold vPre vPost bodyAt0
  rw [show (rdat m hO c).owesAt () t.succ = (rdat m hO c).owesAt () t.castSucc from rfl]
  dsimp only [rdat]
  rw [PhiT0_eq]
  unfold owns
  iintro ⟨⟨⟨%d12, %d13, %d14, %hC0, ⟨%f12, %r12, H12⟩, ⟨%f13, %r13, H13⟩, ⟨%f14, %r14, H14⟩⟩, Hg, HT⟩, Ho, ⟨%f2, %r2, H2⟩, ⟨%f3, %r3, H3⟩, ⟨%f4, %r4, H4⟩, ⟨%f5, %r5, H5⟩, ⟨%f6, %r6, H6⟩, ⟨%f7, %r7, H7⟩, ⟨%f8, %r8, H8⟩, ⟨%f9, %r9, H9⟩, ⟨%f10, %r10, H10⟩, ⟨%f11, %r11, H11⟩⟩
  have h1 : ¬ k0_cond1 (grid0.coords t) = 1#1 := fun h => by have := (cond1_iff t).1 h; omega
  have h2 : ¬ k0_cond2 (grid0.coords t) = 1#1 := fun h => by have := (cond2_iff t).1 h; omega
  have h3 := (cond3_iff t).2 h0
  have hp : 0 < t.val := by omega
  have q5 := (runC_q c t (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) h1 h2 h3 f6 f7 f8 f9 f12 f13 f14 (tbl m 0) hp)
  rw [r12, r13, r14, hC0.rope hp (r6.trans e4)] at q5
  have q6 := (runC_k c t (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) h1 h2 h3 f6 f7 f8 f9 f12 f13 f14 (tbl m 0) hp)
  rw [r12, r13, r14, hC0.rope hp (r6.trans e4)] at q6
  have q7 := (runC_v c t (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) h1 h2 h3 f6 f7 f8 f9 f12 f13 f14 (tbl m 0) hp)
  rw [r12, r13, hC0.plain hp] at q7
  have h95 : min t.val 95 = 95 := by omega
  have q8 := r10.trans (e8.trans (congrArg (codesM m c) h95.symm))
  have q9 := r11.trans (e9.trans (congrArg (scalesM m c) h95.symm))
  have hC : Carried m c (t.val + 1) (scM0_0.view.read (Elt Ideal) f12) (scM0_1.view.read (Elt Ideal) f13) (scM0_2.view.read (Elt Ideal) f14) :=
    ⟨fun _ => by rw [r12]; exact hC0.weights hp, fun _ h => absurd h (by omega),
      fun _ => by rw [r14]; exact hC0.cos hp, fun _ => by rw [r14]; exact hC0.sin hp⟩
  iapply ((runC c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) h1 h2 h3 f6 f7 f8 f9 f12 f13 f14 (tbl m 0)).2.2.2 Set.univ _)
  isplitl [H6]; · iexact H6
  isplitl [H7]; · iexact H7
  isplitl [H8]; · iexact H8
  isplitl [H9]; · iexact H9
  isplitl [H12]; · iexact H12
  isplitl [H13]; · iexact H13
  isplitl [H14]; · iexact H14
  isplitl [HT]; · iexact HT
  iintro ⟨H6, H7, H8, H9, H12, H13, H14, HT⟩
  isplitl [H12 H13 H14 Hg HT]
  · isplitl [H12 H13 H14]
    · iapply (keep m c _ _ _ _ hC)
      isplitl [H12]; · iexact H12
      isplitl [H13]; · iexact H13
      iexact H14
    isplitl [Hg]; · iexact Hg
    iexact HT
  isplitl [Ho]; · iexact Ho
  isplitl [H2]
  · iapply (give c (ms0_0 m hO t) _ (fun X => X = Y0) r2)
    iexact H2
  isplitl [H3]
  · iapply (give c (ms0_1 m hO t) _ (fun X => X = Y1) r3)
    iexact H3
  isplitl [H4]
  · iapply (give c (ms0_2 m hO t) _ (fun X => X = Y2) r4)
    iexact H4
  isplitl [H5]
  · iapply (give c (ms0_3 m hO t) _ (fun X => X = Y3) r5)
    iexact H5
  isplitl [H6]
  · iapply (give c (ms0_4 m hO t) _ (fun X => X = Y4) r6)
    iexact H6
  isplitl [H7]
  · iapply (give c (ms0_5 m hO t) _ (fun X => 0 < t.val → X = ropeM m c t 0 10 (by decide)) (fun _ => q5))
    iexact H7
  isplitl [H8]
  · iapply (give c (ms0_6 m hO t) _ (fun X => 0 < t.val → X = ropeM m c t 10 2 (by decide)) (fun _ => q6))
    iexact H8
  isplitl [H9]
  · iapply (give c (ms0_7 m hO t) _ (fun X => 0 < t.val → X = plainM m c t 12 2 (by decide)) (fun _ => q7))
    iexact H9
  isplitl [H10]
  · iapply (give c (ms0_8 m hO t) _ (fun X => X = codesM m c (min t.val 95)) q8)
    iexact H10
  iapply (give c (ms0_9 m hO t) _ (fun X => X = scalesM m c (min t.val 95)) q9)
  iexact H11

end Cert.KernelIdeal.Hand

end
-- ==== Proof.KernelIdealRun.lean ====
/- The kernel's run on the extended reals. -/
module

public import proofs.«01_k».proof.Proof.KernelIdealLaunch

@[expose] public section

set_option maxRecDepth 16384

noncomputable section

namespace Cert.KernelIdeal.Hand

open Cert.KernelIdeal Cert.KernelIdeal.Gen Cert.Rows Cert.Fill Cert.Rope
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (hO : Ok m) (c : Dev nD)

/-- The codes are not written back at point 95: the last point holds the same block and writes it. -/
theorem flush8_95 : ((cfgM m hO).win 8).flush ⟨95, (by decide : 95 < grid0.N)⟩ = false :=
  (by decide +kernel : Pipeline.Window.flushOf grid0 true cc0_transform_8 ⟨95, by decide⟩ = false)
/-- The scales are not written back at point 95: the last point holds the same block and writes it. -/
theorem flush9_95 : ((cfgM m hO).win 9).flush ⟨95, (by decide : 95 < grid0.N)⟩ = false :=
  (by decide +kernel : Pipeline.Window.flushOf grid0 true cc0_transform_9 ⟨95, by decide⟩ = false)

/-- At the last point the codes buffer still holds the last tile's. -/
theorem found8 (t : Fin (cfgM m hO).N) (ht : t.val = 96) (Y) (h : (rdat m hO c).Finds 8 t Y) : Y = codesM m c 95 := by
  obtain rfl : t = ⟨96, (by decide : 96 < grid0.N)⟩ := Fin.ext ht
  rcases ((rdat m hO c).finds_of_pos (w := 8) rfl (show ¬ (96 : Nat) = 0 by decide) Y).1 h with h | ⟨Y', -, h⟩
  · exact Bool.noConfusion (h.symm.trans (flush8_95 m hO))
  · exact h

/-- At the last point the scales buffer still holds the last tile's. -/
theorem found9 (t : Fin (cfgM m hO).N) (ht : t.val = 96) (Y) (h : (rdat m hO c).Finds 9 t Y) : Y = scalesM m c 95 := by
  obtain rfl : t = ⟨96, (by decide : 96 < grid0.N)⟩ := Fin.ext ht
  rcases ((rdat m hO c).finds_of_pos (w := 9) rfl (show ¬ (96 : Nat) = 0 by decide) Y).1 h with h | ⟨Y', -, h⟩
  · exact Bool.noConfusion (h.symm.trans (flush9_95 m hO))
  · exact h

/-- The body table's row at point `t`'s slots is the body as `bodyAt0` spells it. -/
theorem defs₀_row' (t : Fin (cfgM m hO).N) :
    defs₀ (F := Ideal) .tc (cfgM m hO).body ((cfgM m hO).bodyArgs t ((cfgM m hO).slots t)) = bodyAt0 (adm m hO) t := by
  unfold defs₀; rw [Defs.onTc_tc]

/-- The body at every point. -/
theorem rbody : (rdat m hO c).BodyObligation (defs₀ (F := Ideal)) Variants.none () Set.univ := fun t Y hY => by
  rw [bigSep_W0, bigSep_W0, defs₀_row' m hO]
  have e0 := found0 m hO c t _ (hY 0)
  have e1 := found1 m hO c t _ (hY 1)
  have e2 := found2 m hO c t _ (hY 2)
  have e3 := found3 m hO c t _ (hY 3)
  have e4 := found4 m hO c t _ (hY 4)
  have hN : t.val < 97 := t.isLt
  have H : vPre m hO c t (Y 0) (Y 1) (Y 2) (Y 3) (Y 4) (Y 5) (Y 6) (Y 7) (Y 8) (Y 9) ⊢ wp frame (wpE (defs₀ (F := Ideal)) Variants.none c none) Set.univ (bodyAt0 (adm m hO) t) (fun _ => vPost m hO c t (Y 0) (Y 1) (Y 2) (Y 3) (Y 4)) := by
    rcases Nat.eq_zero_or_pos t.val with h0 | h0
    · exact bodyA m hO c t _ _ _ _ _ _ _ _ _ _ h0 e0 e1 e2 e3 e4
    rcases Nat.lt_or_ge t.val 96 with h9 | h9
    · exact bodyB m hO c t _ _ _ _ _ _ _ _ _ _ h0 h9 e0 e1 e4
    · have h96 : t.val = 96 := by omega
      exact bodyC m hO c t _ _ _ _ _ _ _ _ _ _ h96 e4 (found8 m hO c t h96 _ (hY 8)) (found9 m hO c t h96 _ (hY 9))
  exact triple_restated H rfl .rfl fun _ => .rfl

set_option backward.isDefEq.respectTransparency.types false in
/-- The launch: every window's array ends as the proof data say. -/
theorem rrun : θ_run defs (onTc (τ := τ) (main (F := Ideal))) (s₀ m ρ) (Pipeline.RDat.FramePost ((Pipeline.pin pcfgs fun _ => adm m hO) 0) (rdat m hO) (V m)) :=
  Pipeline.RDat.θ_run_frameP_track (Q' := _) pcfgs (fun _ => adm m hO) (0 : Fin 1) launch0 defs₀ Variants.none (rdat m hO) m ρ main
    (hbody := rbody m hO) (hshare := fun c => (rdat m hO c).share_full fun _ => rfl) (howed := fun _ _ => rfl) (V := V m) (hmain := hmain m Variants.none)
    (hA := rdat_A m hO) (hpf := V_pre m)
    (hin := fun c => by
      dsimp only [rdat]
      rw [PhiA0_eq]
      iintro ⟨⟨⟨⟨%d12, H12⟩, ⟨%d13, H13⟩, ⟨%d14, H14⟩⟩, Hg⟩, HT⟩
      isplitl [H12 H13 H14]
      · iexists d12, d13, d14
        isplitr
        · ipureintro
          exact ⟨fun h => absurd h (Nat.lt_irrefl 0), fun h => absurd h (Nat.lt_irrefl 0), fun h => absurd h (Nat.lt_irrefl 0), fun h => absurd h (Nat.lt_irrefl 0)⟩
        isplitl [H12]; · iexact H12
        isplitl [H13]; · iexact H13
        iexact H14
      isplitl [Hg]; · iexact Hg
      iexact HT)
    (hout := fun c => by
      dsimp only [rdat]
      rw [PhiA0_eq]
      iintro ⟨⟨%d12, %d13, %d14, -, H12, H13, H14⟩, Hg, -⟩
      isplitl [H12 H13 H14]
      · isplitl [H12]; · iexists d12; iexact H12
        isplitl [H13]; · iexists d13; iexact H13
        iexists d14; iexact H14
      iexact Hg)

end Cert.KernelIdeal.Hand

end
-- ==== Proof.KernelIdealOut.lean ====
/- The kernel's results on the extended reals, element by element in the arrays. -/
module

public import proofs.«01_k».proof.Proof.KernelIdealRun
public import Idealize.ShloMosaic.Lib.Pipeline.ArrRel
public import Idealize.ShloMosaic.Lib.StableHlo.RunRead

@[expose] public section

set_option maxRecDepth 16384

noncomputable section

namespace Cert.KernelIdeal.Hand

open Cert.KernelIdeal Cert.KernelIdeal.Gen Cert.Rows Cert.Rope
open Idealize.ShloMosaic Idealize.ShloMosaic.TcCoe Idealize.ShloMosaic.Tactic
open Idealize.ShloMosaic.Pipeline (Dat Cfg Window)

variable (m : (ℓ : Loc nD τ sig) → Buf (Elt Ideal) ℓ) (ρ : Dev nD → PrngReg) (hO : Ok m) (c : Dev nD)

/-! ## The results -/

/-- Row `s` of sequence `b` of the activations. -/
def rowX (b : Fin 4) (s : Fin 6144) (d : Fin 5120) : EReal := V m c main_arg0 (ix3 b s d)
/-- The norm weights. -/
def vecW (d : Fin 5120) : EReal := V m c main_v2 (ix2 0 d)
/-- The first position of the tile that row `s` of sequence `b` belongs to, as the kernel computes it. -/
def posBase (b : Fin 4) (s : Fin 6144) : EReal := baseOf (BitVec.ofNat 32 (24 * b.val + s.val / 256 + 1)) (tbM0_0.view.read (Elt Ideal) (tbl m 0) (ix1 b))

/-- The codes. -/
def codesOut (i : S4x6144x5120.Idx) : EReal := codeAt (rowX m c (i 0) (i 1)) (vecW m c) (i 2)
/-- The scales. -/
def scalesOut (i : S4x6144x40.Idx) : EReal := scaleAt (rowX m c (i 0) (i 1)) (vecW m c) (i 2)
/-- Rotated heads, `n` of them from head `s` on. -/
def ropeOut (s n : Nat) (hs : s + n ≤ 14) (i : (⟨4, ![4, 6144, n, 128]⟩ : Shape).Idx) : EReal :=
  ropeOf (xaAt (rowX m c (i 0) (i 1)) (vecW m c)) (fun k j => waM m c (ix2 k j)) (posBase m (i 0) (i 1)) (fun l => V m c main_v0 (ix2 0 l))
    (fun l => cosM m c ⟨(i 1).val % 256, Nat.mod_lt _ (by decide)⟩ l) (fun l => sinM m c ⟨(i 1).val % 256, Nat.mod_lt _ (by decide)⟩ l)
    ⟨s + (i 2).val, Nat.lt_of_lt_of_le (Nat.add_lt_add_left (show (i 2).val < n from (i 2).isLt) s) hs⟩ (i 3)
/-- Plain heads, `n` of them from head `s` on. -/
def plainOut (s n : Nat) (hs : s + n ≤ 14) (i : (⟨4, ![4, 6144, n, 128]⟩ : Shape).Idx) : EReal :=
  headOf (xaAt (rowX m c (i 0) (i 1)) (vecW m c)) (fun k j => waM m c (ix2 k j))
    ⟨s + (i 2).val, Nat.lt_of_lt_of_le (Nat.add_lt_add_left (show (i 2).val < n from (i 2).isLt) s) hs⟩ (i 3)

/-! ## A tile's results in the arrays -/

/-- A tile's codes are that part of the whole array of codes. -/
theorem codesOut_at (k : Nat) (r : Fin 256) (d : Fin 5120) : codesM m c k (ix3 0 r d) = codesOut m c (ix3 (seqOf k) (rowOf k r) d) := rfl
/-- A tile's scales are that part of the whole array of scales. -/
theorem scalesOut_at (k : Nat) (r : Fin 256) (g : Fin 40) : scalesM m c k (ix3 0 r g) = scalesOut m c (ix3 (seqOf k) (rowOf k r) g) := rfl

/-- A tile's row, taken modulo the tile's height, is the row in the tile. -/
theorem rowOf_mod (k : Nat) (r : Fin 256) : (⟨(rowOf k r).val % 256, Nat.mod_lt _ (by decide)⟩ : Fin 256) = r := by
  apply Fin.ext
  show (256 * (k % 24) + r.val) % 256 = r.val
  omega

/-- The first position of the tile a point projects is that of the rows of that tile. -/
theorem posBase_at (t : Fin grid0.N) (ht : 0 < t.val) (r : Fin 256) :
    wordBase c t (tbl m 0) = posBase m (seqOf (t.val - 1)) (rowOf (t.val - 1) r) := by
  have hN : t.val < 97 := t.isLt
  have e : 24 * (seqOf (t.val - 1)).val + (rowOf (t.val - 1) r).val / 256 + 1 = t.val := by
    show 24 * ((t.val - 1) / 24 % 4) + (256 * ((t.val - 1) % 24) + r.val) / 256 + 1 = t.val
    omega
  unfold wordBase posBase posRead
  rw [e, coord_val]
  rfl

/-- A tile of rotated heads is that part of the whole array of rotated heads. -/
theorem ropeOut_at (t : Fin grid0.N) (ht : 0 < t.val) (s n : Nat) (hs : s + n ≤ 14) (r : Fin 256) (h : Fin n) (l : Fin 128) :
    ropeM m c t s n hs (ix4 0 r h l) = ropeOut m c s n hs (ix4 (seqOf (t.val - 1)) (rowOf (t.val - 1) r) h l) := by
  unfold ropeM ropeOut
  rw [posBase_at m c t ht r]
  have e := rowOf_mod (t.val - 1) r
  show ropeOf _ _ _ _ (fun l => cosM m c r l) (fun l => sinM m c r l) _ _ = ropeOf _ _ _ _ (fun l => cosM m c ⟨(rowOf (t.val - 1) r).val % 256, _⟩ l) (fun l => sinM m c ⟨(rowOf (t.val - 1) r).val % 256, _⟩ l) _ _
  rw [e]
  rfl

/-- A tile of heads that are not rotated is that part of the whole array. -/
theorem plainOut_at (t : Fin grid0.N) (s n : Nat) (hs : s + n ≤ 14) (r : Fin 256) (h : Fin n) (l : Fin 128) :
    plainM m c t s n hs (ix4 0 r h l) = plainOut m c s n hs (ix4 (seqOf (t.val - 1)) (rowOf (t.val - 1) r) h l) := rfl

/-! ## Where a point's blocks lie -/

/-- Which block of q a grid point holds. -/
theorem tr5 : ∀ t : Fin grid0.N, cc0_transform_5 (grid0.coords t) 0 = (t.val - 1) / 24 % 4 ∧ cc0_transform_5 (grid0.coords t) 1 = (t.val - 1) % 24
    ∧ cc0_transform_5 (grid0.coords t) 2 = 0 ∧ cc0_transform_5 (grid0.coords t) 3 = 0 := by decide +kernel
/-- At which points the block of q is written back. -/
theorem fl5 : ∀ t : Fin grid0.N, Pipeline.Window.flushOf grid0 true cc0_transform_5 t = true ↔ 0 < t.val := by decide +kernel
/-- Which block of k a grid point holds. -/
theorem tr6 : ∀ t : Fin grid0.N, cc0_transform_6 (grid0.coords t) 0 = (t.val - 1) / 24 % 4 ∧ cc0_transform_6 (grid0.coords t) 1 = (t.val - 1) % 24
    ∧ cc0_transform_6 (grid0.coords t) 2 = 0 ∧ cc0_transform_6 (grid0.coords t) 3 = 0 := by decide +kernel
/-- At which points the block of k is written back. -/
theorem fl6 : ∀ t : Fin grid0.N, Pipeline.Window.flushOf grid0 true cc0_transform_6 t = true ↔ 0 < t.val := by decide +kernel
/-- Which block of v a grid point holds. -/
theorem tr7 : ∀ t : Fin grid0.N, cc0_transform_7 (grid0.coords t) 0 = (t.val - 1) / 24 % 4 ∧ cc0_transform_7 (grid0.coords t) 1 = (t.val - 1) % 24
    ∧ cc0_transform_7 (grid0.coords t) 2 = 0 ∧ cc0_transform_7 (grid0.coords t) 3 = 0 := by decide +kernel
/-- At which points the block of v is written back. -/
theorem fl7 : ∀ t : Fin grid0.N, Pipeline.Window.flushOf grid0 true cc0_transform_7 t = true ↔ 0 < t.val := by decide +kernel
/-- Which block of codes a grid point holds. -/
theorem tr8 : ∀ t : Fin grid0.N, cc0_transform_8 (grid0.coords t) 0 = min t.val 95 / 24 % 4 ∧ cc0_transform_8 (grid0.coords t) 1 = min t.val 95 % 24
    ∧ cc0_transform_8 (grid0.coords t) 2 = 0 := by decide +kernel
/-- At which points the block of codes is written back. -/
theorem fl8 : ∀ t : Fin grid0.N, Pipeline.Window.flushOf grid0 true cc0_transform_8 t = true ↔ t.val ≠ 95 := by decide +kernel
/-- Which block of scales a grid point holds. -/
theorem tr9 : ∀ t : Fin grid0.N, cc0_transform_9 (grid0.coords t) 0 = min t.val 95 / 24 % 4 ∧ cc0_transform_9 (grid0.coords t) 1 = min t.val 95 % 24
    ∧ cc0_transform_9 (grid0.coords t) 2 = 0 := by decide +kernel
/-- At which points the block of scales is written back. -/
theorem fl9 : ∀ t : Fin grid0.N, Pipeline.Window.flushOf grid0 true cc0_transform_9 t = true ↔ t.val ≠ 95 := by decide +kernel

variable (after : (w' : Fin (cfgM m hO).W) → Fin (cfgM m hO).N → ((cfgM m hO).win w').block.Idx → Elt Ideal ((cfgM m hO).win w').elt)

/-- The query heads' array. -/
theorem arr5 (h : ∀ u, ((cfgM m hO).win 5).flush u = true → (rdat m hO c).Leaves 5 u (after 5 u)) :
    ((rdat m hO c).withAfter after).arrAt 5 (cfgM m hO).N = ropeOut m c 0 10 (by decide) := by
  refine Dat.arrAt_eq_of_emb _ 5 _ (fun u hu (y : (⟨4, ![1, 256, 10, 128]⟩ : Shape).Idx) => ?_) (fun (i : (⟨4, ![4, 6144, 10, 128]⟩ : Shape).Idx) => ?_)
  · have hp : 0 < u.val := (fl5 u).1 hu
    obtain ⟨Y, -, hX⟩ := h u hu
    have hX' : after 5 u = ropeM m c u 0 10 (by decide) := hX hp
    have e0 : (pcfg0.win (adm m hO) 5).index u 0 = (u.val - 1) / 24 % 4 := (tr5 u).1
    have e1 : (pcfg0.win (adm m hO) 5).index u 1 = (u.val - 1) % 24 := (tr5 u).2.1
    have e2 : (pcfg0.win (adm m hO) 5).index u 2 = 0 := (tr5 u).2.2.1
    have e3 : (pcfg0.win (adm m hO) 5).index u 3 = 0 := (tr5 u).2.2.2
    obtain ⟨z, r, k, l, rfl⟩ : ∃ (z : Fin 1) (r : Fin 256) (k : Fin 10) (l : Fin 128), y = ix4 z r k l := ⟨y 0, y 1, y 2, y 3, eq_ix4 y⟩
    obtain rfl : z = 0 := Subsingleton.elim _ _
    refine (show _ = after 5 u (ix4 0 r k l) from rfl).trans ?_
    rw [hX']
    refine (ropeOut_at m c u hp _ _ _ r k l).trans (congrArg (ropeOut m c 0 10 (by decide)) ?_)
    symm
    blk_ext
    · exact e0
    · exact at_block e1
    · exact at_origin e2
    · exact at_origin e3
  · have hb : (i 0).val < 4 := (i 0).isLt
    have hs : (i 1).val < 6144 := (i 1).isLt
    have hu : 24 * (i 0).val + (i 1).val / 256 + 1 < 97 := by omega
    obtain ⟨u, hu⟩ : ∃ u : Fin grid0.N, u.val = 24 * (i 0).val + (i 1).val / 256 + 1 := ⟨⟨_, hu⟩, rfl⟩
    have e0 : (pcfg0.win (adm m hO) 5).index u 0 = (u.val - 1) / 24 % 4 := (tr5 u).1
    have e1 : (pcfg0.win (adm m hO) 5).index u 1 = (u.val - 1) % 24 := (tr5 u).2.1
    have e2 : (pcfg0.win (adm m hO) 5).index u 2 = 0 := (tr5 u).2.2.1
    have e3 : (pcfg0.win (adm m hO) 5).index u 3 = 0 := (tr5 u).2.2.2
    refine ⟨u, (fl5 _).2 (by omega), ?_⟩
    have e : (((cfgM m hO).win 5).blk u).view.emb (ix4 0 (⟨(i 1).val % 256, Nat.mod_lt _ (by decide)⟩ : Fin 256) (i 2) (i 3)) = i := by
      blk_ext
      · exact e0.trans (by omega)
      · exact (at_block e1).trans (show 256 * ((u.val - 1) % 24) + (i 1).val % 256 = (i 1).val by omega)
      · exact at_origin e2
      · exact at_origin e3
    exact e ▸ View.emb_mem_set _ _

/-- The key heads' array. -/
theorem arr6 (h : ∀ u, ((cfgM m hO).win 6).flush u = true → (rdat m hO c).Leaves 6 u (after 6 u)) :
    ((rdat m hO c).withAfter after).arrAt 6 (cfgM m hO).N = ropeOut m c 10 2 (by decide) := by
  refine Dat.arrAt_eq_of_emb _ 6 _ (fun u hu (y : (⟨4, ![1, 256, 2, 128]⟩ : Shape).Idx) => ?_) (fun (i : (⟨4, ![4, 6144, 2, 128]⟩ : Shape).Idx) => ?_)
  · have hp : 0 < u.val := (fl6 u).1 hu
    obtain ⟨Y, -, hX⟩ := h u hu
    have hX' : after 6 u = ropeM m c u 10 2 (by decide) := hX hp
    have e0 : (pcfg0.win (adm m hO) 6).index u 0 = (u.val - 1) / 24 % 4 := (tr6 u).1
    have e1 : (pcfg0.win (adm m hO) 6).index u 1 = (u.val - 1) % 24 := (tr6 u).2.1
    have e2 : (pcfg0.win (adm m hO) 6).index u 2 = 0 := (tr6 u).2.2.1
    have e3 : (pcfg0.win (adm m hO) 6).index u 3 = 0 := (tr6 u).2.2.2
    obtain ⟨z, r, k, l, rfl⟩ : ∃ (z : Fin 1) (r : Fin 256) (k : Fin 2) (l : Fin 128), y = ix4 z r k l := ⟨y 0, y 1, y 2, y 3, eq_ix4 y⟩
    obtain rfl : z = 0 := Subsingleton.elim _ _
    refine (show _ = after 6 u (ix4 0 r k l) from rfl).trans ?_
    rw [hX']
    refine (ropeOut_at m c u hp _ _ _ r k l).trans (congrArg (ropeOut m c 10 2 (by decide)) ?_)
    symm
    blk_ext
    · exact e0
    · exact at_block e1
    · exact at_origin e2
    · exact at_origin e3
  · have hb : (i 0).val < 4 := (i 0).isLt
    have hs : (i 1).val < 6144 := (i 1).isLt
    have hu : 24 * (i 0).val + (i 1).val / 256 + 1 < 97 := by omega
    obtain ⟨u, hu⟩ : ∃ u : Fin grid0.N, u.val = 24 * (i 0).val + (i 1).val / 256 + 1 := ⟨⟨_, hu⟩, rfl⟩
    have e0 : (pcfg0.win (adm m hO) 6).index u 0 = (u.val - 1) / 24 % 4 := (tr6 u).1
    have e1 : (pcfg0.win (adm m hO) 6).index u 1 = (u.val - 1) % 24 := (tr6 u).2.1
    have e2 : (pcfg0.win (adm m hO) 6).index u 2 = 0 := (tr6 u).2.2.1
    have e3 : (pcfg0.win (adm m hO) 6).index u 3 = 0 := (tr6 u).2.2.2
    refine ⟨u, (fl6 _).2 (by omega), ?_⟩
    have e : (((cfgM m hO).win 6).blk u).view.emb (ix4 0 (⟨(i 1).val % 256, Nat.mod_lt _ (by decide)⟩ : Fin 256) (i 2) (i 3)) = i := by
      blk_ext
      · exact e0.trans (by omega)
      · exact (at_block e1).trans (show 256 * ((u.val - 1) % 24) + (i 1).val % 256 = (i 1).val by omega)
      · exact at_origin e2
      · exact at_origin e3
    exact e ▸ View.emb_mem_set _ _

/-- The value heads' array. -/
theorem arr7 (h : ∀ u, ((cfgM m hO).win 7).flush u = true → (rdat m hO c).Leaves 7 u (after 7 u)) :
    ((rdat m hO c).withAfter after).arrAt 7 (cfgM m hO).N = plainOut m c 12 2 (by decide) := by
  refine Dat.arrAt_eq_of_emb _ 7 _ (fun u hu (y : (⟨4, ![1, 256, 2, 128]⟩ : Shape).Idx) => ?_) (fun (i : (⟨4, ![4, 6144, 2, 128]⟩ : Shape).Idx) => ?_)
  · have hp : 0 < u.val := (fl7 u).1 hu
    obtain ⟨Y, -, hX⟩ := h u hu
    have hX' : after 7 u = plainM m c u 12 2 (by decide) := hX hp
    have e0 : (pcfg0.win (adm m hO) 7).index u 0 = (u.val - 1) / 24 % 4 := (tr7 u).1
    have e1 : (pcfg0.win (adm m hO) 7).index u 1 = (u.val - 1) % 24 := (tr7 u).2.1
    have e2 : (pcfg0.win (adm m hO) 7).index u 2 = 0 := (tr7 u).2.2.1
    have e3 : (pcfg0.win (adm m hO) 7).index u 3 = 0 := (tr7 u).2.2.2
    obtain ⟨z, r, k, l, rfl⟩ : ∃ (z : Fin 1) (r : Fin 256) (k : Fin 2) (l : Fin 128), y = ix4 z r k l := ⟨y 0, y 1, y 2, y 3, eq_ix4 y⟩
    obtain rfl : z = 0 := Subsingleton.elim _ _
    refine (show _ = after 7 u (ix4 0 r k l) from rfl).trans ?_
    rw [hX']
    refine (plainOut_at m c u _ _ _ r k l).trans (congrArg (plainOut m c 12 2 (by decide)) ?_)
    symm
    blk_ext
    · exact e0
    · exact at_block e1
    · exact at_origin e2
    · exact at_origin e3
  · have hb : (i 0).val < 4 := (i 0).isLt
    have hs : (i 1).val < 6144 := (i 1).isLt
    have hu : 24 * (i 0).val + (i 1).val / 256 + 1 < 97 := by omega
    obtain ⟨u, hu⟩ : ∃ u : Fin grid0.N, u.val = 24 * (i 0).val + (i 1).val / 256 + 1 := ⟨⟨_, hu⟩, rfl⟩
    have e0 : (pcfg0.win (adm m hO) 7).index u 0 = (u.val - 1) / 24 % 4 := (tr7 u).1
    have e1 : (pcfg0.win (adm m hO) 7).index u 1 = (u.val - 1) % 24 := (tr7 u).2.1
    have e2 : (pcfg0.win (adm m hO) 7).index u 2 = 0 := (tr7 u).2.2.1
    have e3 : (pcfg0.win (adm m hO) 7).index u 3 = 0 := (tr7 u).2.2.2
    refine ⟨u, (fl7 _).2 (by omega), ?_⟩
    have e : (((cfgM m hO).win 7).blk u).view.emb (ix4 0 (⟨(i 1).val % 256, Nat.mod_lt _ (by decide)⟩ : Fin 256) (i 2) (i 3)) = i := by
      blk_ext
      · exact e0.trans (by omega)
      · exact (at_block e1).trans (show 256 * ((u.val - 1) % 24) + (i 1).val % 256 = (i 1).val by omega)
      · exact at_origin e2
      · exact at_origin e3
    exact e ▸ View.emb_mem_set _ _

/-- The codes' array. -/
theorem arr8 (h : ∀ u, ((cfgM m hO).win 8).flush u = true → (rdat m hO c).Leaves 8 u (after 8 u)) :
    ((rdat m hO c).withAfter after).arrAt 8 (cfgM m hO).N = codesOut m c := by
  refine Dat.arrAt_eq_of_emb _ 8 _ (fun u hu (y : (⟨3, ![1, 256, 5120]⟩ : Shape).Idx) => ?_) (fun (i : (⟨3, ![4, 6144, 5120]⟩ : Shape).Idx) => ?_)
  · obtain ⟨Y, -, hX⟩ := h u hu
    have hX' : after 8 u = codesM m c (min u.val 95) := hX
    have e0 : (pcfg0.win (adm m hO) 8).index u 0 = min u.val 95 / 24 % 4 := (tr8 u).1
    have e1 : (pcfg0.win (adm m hO) 8).index u 1 = min u.val 95 % 24 := (tr8 u).2.1
    have e2 : (pcfg0.win (adm m hO) 8).index u 2 = 0 := (tr8 u).2.2
    obtain ⟨z, r, l, rfl⟩ : ∃ (z : Fin 1) (r : Fin 256) (l : Fin 5120), y = ix3 z r l := ⟨y 0, y 1, y 2, eq_ix3 y⟩
    obtain rfl : z = 0 := Subsingleton.elim _ _
    refine (show _ = after 8 u (ix3 0 r l) from rfl).trans ?_
    rw [hX']
    refine (codesOut_at m c _ r l).trans (congrArg (codesOut m c) ?_)
    symm
    blk_ext
    · exact e0
    · exact at_block e1
    · exact at_origin e2
  · have hb : (i 0).val < 4 := (i 0).isLt
    have hs : (i 1).val < 6144 := (i 1).isLt
    obtain ⟨u, h95, hk⟩ : ∃ u : Fin grid0.N, u.val ≠ 95 ∧ min u.val 95 = 24 * (i 0).val + (i 1).val / 256 := by
      by_cases h : 24 * (i 0).val + (i 1).val / 256 = 95
      · exact ⟨⟨96, by decide⟩, by decide, by rw [h]; rfl⟩
      · have hu : 24 * (i 0).val + (i 1).val / 256 < 97 := by omega
        exact ⟨⟨_, hu⟩, h, by show min (24 * (i 0).val + (i 1).val / 256) 95 = _; omega⟩
    have e0 : (pcfg0.win (adm m hO) 8).index u 0 = min u.val 95 / 24 % 4 := (tr8 u).1
    have e1 : (pcfg0.win (adm m hO) 8).index u 1 = min u.val 95 % 24 := (tr8 u).2.1
    have e2 : (pcfg0.win (adm m hO) 8).index u 2 = 0 := (tr8 u).2.2
    refine ⟨u, (fl8 u).2 h95, ?_⟩
    have e : (((cfgM m hO).win 8).blk u).view.emb (ix3 0 (⟨(i 1).val % 256, Nat.mod_lt _ (by decide)⟩ : Fin 256) (i 2)) = i := by
      blk_ext
      · exact e0.trans (by omega)
      · exact (at_block e1).trans (show 256 * (min u.val 95 % 24) + (i 1).val % 256 = (i 1).val by omega)
      · exact at_origin e2
    exact e ▸ View.emb_mem_set _ _

/-- The scales' array. -/
theorem arr9 (h : ∀ u, ((cfgM m hO).win 9).flush u = true → (rdat m hO c).Leaves 9 u (after 9 u)) :
    ((rdat m hO c).withAfter after).arrAt 9 (cfgM m hO).N = scalesOut m c := by
  refine Dat.arrAt_eq_of_emb _ 9 _ (fun u hu (y : (⟨3, ![1, 256, 40]⟩ : Shape).Idx) => ?_) (fun (i : (⟨3, ![4, 6144, 40]⟩ : Shape).Idx) => ?_)
  · obtain ⟨Y, -, hX⟩ := h u hu
    have hX' : after 9 u = scalesM m c (min u.val 95) := hX
    have e0 : (pcfg0.win (adm m hO) 9).index u 0 = min u.val 95 / 24 % 4 := (tr9 u).1
    have e1 : (pcfg0.win (adm m hO) 9).index u 1 = min u.val 95 % 24 := (tr9 u).2.1
    have e2 : (pcfg0.win (adm m hO) 9).index u 2 = 0 := (tr9 u).2.2
    obtain ⟨z, r, l, rfl⟩ : ∃ (z : Fin 1) (r : Fin 256) (l : Fin 40), y = ix3 z r l := ⟨y 0, y 1, y 2, eq_ix3 y⟩
    obtain rfl : z = 0 := Subsingleton.elim _ _
    refine (show _ = after 9 u (ix3 0 r l) from rfl).trans ?_
    rw [hX']
    refine (scalesOut_at m c _ r l).trans (congrArg (scalesOut m c) ?_)
    symm
    blk_ext
    · exact e0
    · exact at_block e1
    · exact at_origin e2
  · have hb : (i 0).val < 4 := (i 0).isLt
    have hs : (i 1).val < 6144 := (i 1).isLt
    obtain ⟨u, h95, hk⟩ : ∃ u : Fin grid0.N, u.val ≠ 95 ∧ min u.val 95 = 24 * (i 0).val + (i 1).val / 256 := by
      by_cases h : 24 * (i 0).val + (i 1).val / 256 = 95
      · exact ⟨⟨96, by decide⟩, by decide, by rw [h]; rfl⟩
      · have hu : 24 * (i 0).val + (i 1).val / 256 < 97 := by omega
        exact ⟨⟨_, hu⟩, h, by show min (24 * (i 0).val + (i 1).val / 256) 95 = _; omega⟩
    have e0 : (pcfg0.win (adm m hO) 9).index u 0 = min u.val 95 / 24 % 4 := (tr9 u).1
    have e1 : (pcfg0.win (adm m hO) 9).index u 1 = min u.val 95 % 24 := (tr9 u).2.1
    have e2 : (pcfg0.win (adm m hO) 9).index u 2 = 0 := (tr9 u).2.2
    refine ⟨u, (fl9 u).2 h95, ?_⟩
    have e : (((cfgM m hO).win 9).blk u).view.emb (ix3 0 (⟨(i 1).val % 256, Nat.mod_lt _ (by decide)⟩ : Fin 256) (i 2)) = i := by
      blk_ext
      · exact e0.trans (by omega)
      · exact (at_block e1).trans (show 256 * (min u.val 95 % 24) + (i 1).val % 256 = (i 1).val by omega)
      · exact at_origin e2
    exact e ▸ View.emb_mem_set _ _

/-! ## The run -/

include hO in
/-- Every run of the kernel ends with its results as above and its arguments unchanged. -/
theorem values : θ_run defs (onTc (τ := τ) (main (F := Ideal))) ⟨m, fun _ => 0, ρ⟩ (fun r => ∀ c : Dev nD,
      r.2.mem ((c.tc : Thread nD τ).loc main_v3_0) = ropeOut m c 0 10 (by decide)
      ∧ r.2.mem ((c.tc : Thread nD τ).loc main_v3_1) = ropeOut m c 10 2 (by decide)
      ∧ r.2.mem ((c.tc : Thread nD τ).loc main_v3_2) = plainOut m c 12 2 (by decide)
      ∧ r.2.mem ((c.tc : Thread nD τ).loc main_v3_3) = codesOut m c
      ∧ r.2.mem ((c.tc : Thread nD τ).loc main_v3_4) = scalesOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono ?_ (θ_run_and (rrun m ρ hO) (frame_of m ρ hO (rdat m hO) (rdat_A m hO) (rrun m ρ hO)))
  rintro r ⟨h, hfr⟩ c
  obtain ⟨after, hL, hA⟩ := Pipeline.RDat.FramePost.exists_exact h c
  exact ⟨(hA 5).trans (arr5 m hO c after (hL 5)), (hA 6).trans (arr6 m hO c after (hL 6)), (hA 7).trans (arr7 m hO c after (hL 7)),
    (hA 8).trans (arr8 m hO c after (hL 8)), (hA 9).trans (arr9 m hO c after (hL 9)), hfr c⟩

/-! ## The host's lines -/

/-- The norm weights as the region finds them. -/
theorem vecW_eq (d : Fin 5120) : vecW m c d = m ((c.tc : Thread nD τ).loc main_arg1) (ix1 d) := by
  unfold vecW V
  after_reads_simp
  pointwise

/-- The frequencies as the region finds them. -/
theorem freq_eq (l : Fin 128) : V m c main_v0 (ix2 0 l) = Ideal.ofBits .f32 (lit0 l) := by
  unfold V
  after_reads_simp
  pointwise
  exact congrArg (fun k => Ideal.ofBits .f32 (lit0 k)) (Fin.ext (by show (S128.rowMajor (ix1 l)).val = l.val; exact Shape.rowMajor_val_one _))

end Cert.KernelIdeal.Hand

end
-- ==== Proof.RefPre.lean ====
/- What the reference's operations before its cast kernel leave: each result element, from the arguments. The operations come in groups,
   and each group is read from any contents before it. -/
module

public import proofs.«01_k».proof.Proof.Gen.ReferenceIdeal.Frame
public import proofs.«01_k».proof.Proof.Rows
public import Idealize.ShloMosaic.Lib.StableHlo.ReadAt
public import Idealize.ShloMosaic.Lib.Pointwise

@[expose] public section

set_option maxRecDepth 16384

noncomputable section

namespace Cert.ReferenceIdeal.Hand

open Cert.ReferenceIdeal Cert.ReferenceIdeal.Gen Cert.Rows
open Idealize.ShloMosaic Idealize.ShloMosaic.TcCoe
open scoped BigOperators

/-- What a TensorCore buffer holds in the valuation `U`. -/
abbrev at_ (U : Valuation τ sig (Elt Ideal)) (b : Ref sig .tc) := U (Proc.devRef .tc b)

/-- The reference's scale of `y`: the least listed power of two above `y`, and one below the normal numbers. -/
def refScale (y : EReal) : EReal :=
  if Ideal.cmp .olt y (Ideal.ofBits .f32 0x00800000#32) = 1#1 then 1
  else Finset.univ.fold min (Ideal.ofBits .f32 0x7F800000#32) fun k : Fin 252 =>
    if Ideal.cmp .olt y (Ideal.ofBits .f32 (lit0 k)) = 1#1 then Ideal.ofBits .f32 (lit0 k) else Ideal.ofBits .f32 0x7F800000#32

/-! ## Each group of operations, from any contents before it -/

section Groups
variable (U : Valuation τ sig (Elt Ideal))

/-- Row `s` of sequence `b` of the activations. -/
def rowU (b : Fin 4) (s : Fin 6144) (d : Fin 5120) : EReal := at_ U main_arg0 (ix3 b s d)
/-- The norm weights. -/
def vecU (d : Fin 5120) : EReal := at_ U main_arg1 (ix1 d)

/-- An index of the table of powers is its own row-major place. -/
theorem ix1_rowMajor (k : Fin 252) : S252.rowMajor (ix1 k) = k := Fin.ext (Shape.rowMajor_val_one _)

/-- The normalised values, by groups. -/
theorem g0_v15 (b : Fin 4) (s : Fin 6144) (g : Fin 40) (l : Fin 128) :
    at_ (StableHlo.after hostOps0 U) main_v15 (ix4 b s g l) = hAt (rowU U b s) (vecU U) (col g l) := by
  unfold at_
  after_reads_simp
  pointwise
  have e : (⟨g.val * 128 + l.val, by omega⟩ : Fin 5120) = col g l := Fin.ext (by show g.val * 128 + l.val = 128 * g.val + l.val; omega)
  simp only [e]
  rfl

/-- The reduction over the lanes of a group has the shapes that it needs. -/
theorem reduces_lanes : S4x6144x40x128.Reduces [3] S4x6144x40 := by decide

/-- The index of a group's scale with a column put back. -/
theorem lift_ix4 (b : Fin 4) (s : Fin 6144) (g : Fin 40) (k : Fin 128) : reduces_lanes.lift (ix3 b s g) k = ix4 b s g k := by
  funext a
  match a with
  | ⟨0, _⟩ => rfl
  | ⟨1, _⟩ => rfl
  | ⟨2, _⟩ => rfl
  | ⟨3, _⟩ => rfl

/-- The scaled maximum of each group of a vector. -/
theorem amax_read (Y : FVec Ideal S4x6144x40x128 .f32) (b : Fin 4) (s : Fin 6144) (g : Fin 40) :
    mulf (Host.reduce FloatOps.maximumf (Host.absf Y) (constant S_ .f32 0xFF800000#32) reducesTo_S4x6144x40x128_S4x6144x40_d3 h_S_)
        (broadcastInDim S4x6144x40 ![] bcast_S_S4x6144x40 (constant S_ .f32 0x3B124925#32)) (ix3 b s g)
      = yOf fun l => Y (ix4 b s g l) := by
  have h1 := Host.reduce_eq_fold_single (u := S_) FloatOps.maximumf (Host.absf Y) (constant (F := Ideal) S_ .f32 0xFF800000#32)
    reducesTo_S4x6144x40x128_S4x6144x40_d3 reduces_lanes h_S_ (ix3 b s g)
  have hf : (Host.absf Y ∘ reduces_lanes.lift (ix3 b s g)) = fun k : Fin 128 => (max (Y (ix4 b s g k)) (-(Y (ix4 b s g k))) : EReal) :=
    funext fun k => congrArg (Host.absf Y) (lift_ix4 b s g k)
  rw [hf] at h1
  rw [mulf_apply, h1]
  rfl

/-- The scaled maximum of each group. -/
theorem g0_v19 (b : Fin 4) (s : Fin 6144) (g : Fin 40) :
    at_ (StableHlo.after hostOps0 U) main_v19 (ix3 b s g) = yAt (rowU U b s) (vecU U) g := by
  have h : at_ (StableHlo.after hostOps0 U) main_v19
      = mulf (F := Ideal) (φ := .f32)
          (Host.reduce FloatOps.maximumf (Host.absf (F := Ideal) (φ := .f32) (at_ (StableHlo.after hostOps0 U) main_v15))
            (constant S_ .f32 0xFF800000#32) reducesTo_S4x6144x40x128_S4x6144x40_d3 h_S_)
          (broadcastInDim S4x6144x40 ![] bcast_S_S4x6144x40 (constant S_ .f32 0x3B124925#32)) := by
    unfold at_
    after_reads_simp
  rw [h]
  exact (amax_read _ b s g).trans (congrArg yOf (funext fun l => g0_v15 U b s g l))

/-- The comparisons with the listed powers of two. -/
theorem g0_v24 (b : Fin 4) (s : Fin 6144) (g : Fin 40) (k : Fin 252) :
    at_ (StableHlo.after hostOps0 U) main_v24 (ix4 b s g k)
      = Ideal.cmp .olt (yAt (rowU U b s) (vecU U) g) (Ideal.ofBits .f32 (lit0 k)) := by
  have h : at_ (StableHlo.after hostOps0 U) main_v24
      = cmpf (F := Ideal) (φ := .f32) .olt
          (broadcastInDim S4x6144x40x252 ![0, 1, 2, 3] bcast_S4x6144x40x1_S4x6144x40x252_0_1_2_3
            (broadcastInDim S4x6144x40x1 ![0, 1, 2] bcast_S4x6144x40_S4x6144x40x1_0_1_2 (at_ (StableHlo.after hostOps0 U) main_v19)))
          (broadcastInDim S4x6144x40x252 ![0, 1, 2, 3] bcast_S1x1x1x252_S4x6144x40x252_0_1_2_3
            (broadcastInDim S1x1x1x252 ![3] bcast_S252_S1x1x1x252_3 fun i => FloatOps.ofBits .f32 (lit0 (S252.rowMajor i)))) := by
    unfold at_
    after_reads_simp
    rfl
  have h' := g0_v19 U b s g
  rw [h]
  generalize at_ (StableHlo.after hostOps0 U) main_v19 = Y at h' ⊢
  rw [← h']
  pointwise
  rw [ix1_rowMajor]

/-- The table of powers of two, entry by entry. -/
theorem g0_cst (k : Fin 252) : at_ (StableHlo.after hostOps0 U) main_cst (ix1 k) = Ideal.ofBits .f32 (lit0 k) := by
  unfold at_
  after_reads_simp
  pointwise
  rw [ix1_rowMajor]

/-- The constant infinity. -/
theorem g0_cst6 : at_ (StableHlo.after hostOps0 U) main_cst_6 ix0 = Ideal.ofBits .f32 0x7F800000#32 := by
  unfold at_
  after_reads_simp
  pointwise

/-- Each power of two if it is above the group's value, and infinity if not. -/
theorem g1_v25 (b : Fin 4) (s : Fin 6144) (g : Fin 40) (k : Fin 252) :
    at_ (StableHlo.after hostOps0_1 U) main_v25 (ix4 b s g k)
      = if at_ U main_v24 (ix4 b s g k) = 1#1 then at_ U main_cst (ix1 k) else at_ U main_cst_6 ix0 := by
  unfold at_
  after_reads_at
  rfl

/-- The least of them. -/
theorem g2_v26 (b : Fin 4) (s : Fin 6144) (g : Fin 40) :
    at_ (StableHlo.after hostOps0_2 U) main_v26 (ix3 b s g)
      = Finset.univ.fold min (Ideal.ofBits .f32 0x7F800000#32) fun k : Fin 252 => (at_ U main_v25 (ix4 b s g k) : EReal) := by
  unfold at_
  after_reads_at

/-- Whether the group's value is below the normal numbers. -/
theorem g2_v28 (b : Fin 4) (s : Fin 6144) (g : Fin 40) :
    at_ (StableHlo.after hostOps0_2 U) main_v28 (ix3 b s g)
      = Ideal.cmp .olt (at_ U main_v19 (ix3 b s g)) (Ideal.ofBits .f32 0x00800000#32) := by
  unfold at_
  after_reads_at

/-- The constant one. -/
theorem g2_cst9 : at_ (StableHlo.after hostOps0_2 U) main_cst_9 ix0 = (1 : EReal) := by
  unfold at_
  after_reads_at

/-- The scale: one below the normal numbers, and else the least power above. -/
theorem g3_v29 (b : Fin 4) (s : Fin 6144) (g : Fin 40) :
    at_ (StableHlo.after hostOps0_3 U) main_v29 (ix3 b s g)
      = if at_ U main_v28 (ix3 b s g) = 1#1 then at_ U main_cst_9 ix0 else at_ U main_v26 (ix3 b s g) := by
  unfold at_
  after_reads_at
  rfl

/-- The normalised value times the reciprocal of its group's scale. -/
theorem g4_v34 (b : Fin 4) (s : Fin 6144) (g : Fin 40) (l : Fin 128) :
    at_ (StableHlo.after hostOps0_4 U) main_v34 (ix4 b s g l)
      = @HMul.hMul EReal EReal EReal _ (at_ U main_v15 (ix4 b s g l)) (Ideal.div 1 (at_ U main_v29 (ix3 b s g))) := by
  unfold at_
  after_reads_at

/-- The lower bound of the clip. -/
theorem g4_cst11 : at_ (StableHlo.after hostOps0_4 U) main_cst_11 ix0 = Ideal.ofBits .f32 0xC3E00000#32 := by
  unfold at_
  after_reads_at

/-- The upper bound of the clip. -/
theorem g4_cst12 : at_ (StableHlo.after hostOps0_4 U) main_cst_12 ix0 = Ideal.ofBits .f32 0x43E00000#32 := by
  unfold at_
  after_reads_at

/-- The clipped value. -/
theorem g5_v35 (b : Fin 4) (s : Fin 6144) (g : Fin 40) (l : Fin 128) :
    at_ (StableHlo.after hostOps0_5 U) main_v35 (ix4 b s g l)
      = (min (at_ U main_cst_12 ix0 : EReal) (max (at_ U main_cst_11 ix0 : EReal) (at_ U main_v34 (ix4 b s g l) : EReal)) : EReal) := by
  unfold at_
  after_reads_at
  rfl

/-- The codes, one row of columns again. -/
theorem g6_v37 (b : Fin 4) (s : Fin 6144) (d : Fin 5120) :
    @Eq EReal (at_ (StableHlo.after hostOps0_6 U) main_v37 (ix3 b s d)) (at_ U main_v35 (ix4 b s (grp d) ⟨d.val % 128, Nat.mod_lt _ (by decide)⟩)) := by
  unfold at_
  after_reads_at
  rfl

/-- Part 1 of the host's lines leaves `v19` alone. -/
theorem k1_v19 : at_ (StableHlo.after hostOps0_1 U) main_v19 = at_ U main_v19 := by unfold at_; after_reads_simp
/-- Part 1 of the host's lines leaves `v15` alone. -/
theorem k1_v15 : at_ (StableHlo.after hostOps0_1 U) main_v15 = at_ U main_v15 := by unfold at_; after_reads_simp
/-- Part 2 of the host's lines leaves `v15` alone. -/
theorem k2_v15 : at_ (StableHlo.after hostOps0_2 U) main_v15 = at_ U main_v15 := by unfold at_; after_reads_simp
/-- Part 3 of the host's lines leaves `v15` alone. -/
theorem k3_v15 : at_ (StableHlo.after hostOps0_3 U) main_v15 = at_ U main_v15 := by unfold at_; after_reads_simp
/-- Part 4 of the host's lines leaves `v29` alone. -/
theorem k4_v29 : at_ (StableHlo.after hostOps0_4 U) main_v29 = at_ U main_v29 := by unfold at_; after_reads_simp
/-- Part 5 of the host's lines leaves `v29` alone. -/
theorem k5_v29 : at_ (StableHlo.after hostOps0_5 U) main_v29 = at_ U main_v29 := by unfold at_; after_reads_simp
/-- Part 6 of the host's lines leaves `v29` alone. -/
theorem k6_v29 : at_ (StableHlo.after hostOps0_6 U) main_v29 = at_ U main_v29 := by unfold at_; after_reads_simp

/-- The scale after the first four groups. -/
theorem scale_u (b : Fin 4) (s : Fin 6144) (g : Fin 40) :
    at_ (StableHlo.after hostOps0_3 (StableHlo.after hostOps0_2 (StableHlo.after hostOps0_1 (StableHlo.after hostOps0 U)))) main_v29 (ix3 b s g)
      = refScale (yAt (rowU U b s) (vecU U) g) := by
  rw [g3_v29, g2_v28, g2_cst9, g2_v26, k1_v19, g0_v19]
  unfold refScale
  have hf : ∀ k : Fin 252, at_ (StableHlo.after hostOps0_1 (StableHlo.after hostOps0 U)) main_v25 (ix4 b s g k)
      = if Ideal.cmp .olt (yAt (rowU U b s) (vecU U) g) (Ideal.ofBits .f32 (lit0 k)) = 1#1 then Ideal.ofBits .f32 (lit0 k)
        else Ideal.ofBits .f32 0x7F800000#32 := fun k => by rw [g1_v25, g0_v24, g0_cst, g0_cst6]
  exact congrArg (fun z : EReal => if Ideal.cmp .olt (yAt (rowU U b s) (vecU U) g) (Ideal.ofBits .f32 0x00800000#32) = 1#1 then (1 : EReal) else z)
    (congrArg (fun f : Fin 252 → EReal => Finset.univ.fold min (Ideal.ofBits .f32 0x7F800000#32) f) (funext hf))

end Groups

variable (m : (ℓ : Loc nD τ sig) → Buf (Elt Ideal) ℓ) (c : Dev nD)

/-- Row `s` of sequence `b` of the activations. -/
def rowX (b : Fin 4) (s : Fin 6144) (d : Fin 5120) : EReal := m ((c : Thread nD τ).loc main_arg0) (ix3 b s d)
/-- The norm weights. -/
def vecW (d : Fin 5120) : EReal := m ((c : Thread nD τ).loc main_arg1) (ix1 d)

/-- The groups one after the other. -/
theorem V_groups (b : Ref sig .tc) : V m c b
    = at_ (StableHlo.after hostOps0_6 (StableHlo.after hostOps0_5 (StableHlo.after hostOps0_4 (StableHlo.after hostOps0_3
        (StableHlo.after hostOps0_2 (StableHlo.after hostOps0_1 (StableHlo.after hostOps0 fun b => m (c, b)))))))) b := by
  unfold V V0 at_
  simp only [List.flatten_cons, List.flatten_nil, List.append_nil, StableHlo.after_append]

/-- The reference's scales. -/
theorem v29_eq (b : Fin 4) (s : Fin 6144) (g : Fin 40) :
    V m c main_v29 (ix3 b s g) = refScale (yAt (rowX m c b s) (vecW m c) g) := by
  rw [V_groups, k6_v29, k5_v29, k4_v29, scale_u]
  rfl

/-- The reference's codes. -/
theorem v37_eq (b : Fin 4) (s : Fin 6144) (d : Fin 5120) :
    @Eq EReal (V m c main_v37 (ix3 b s d)) (min (Ideal.ofBits .f32 0x43E00000#32) (max (Ideal.ofBits .f32 0xC3E00000#32)
      (hAt (rowX m c b s) (vecW m c) d * Ideal.div 1 (refScale (yAt (rowX m c b s) (vecW m c) (grp d)))))) := by
  rw [V_groups]
  refine (g6_v37 _ b s d).trans ?_
  rw [g5_v35, g4_cst11, g4_cst12, g4_v34, k3_v15, k2_v15, k1_v15, g0_v15, scale_u]
  have e : col (grp d) ⟨d.val % 128, Nat.mod_lt _ (by decide)⟩ = d := Fin.ext (by show 128 * (d.val / 128) + d.val % 128 = d.val; omega)
  rw [e]
  rfl

end Cert.ReferenceIdeal.Hand
-- ==== Proof.RefTail.lean ====
/- What the reference's operations after its cast kernel leave: each result element, from the contents before them. -/
module

public import proofs.«01_k».proof.Proof.RefPre

@[expose] public section

set_option maxRecDepth 16384

noncomputable section

namespace Cert.ReferenceIdeal.Hand

open Cert.ReferenceIdeal Cert.ReferenceIdeal.Gen Cert.Rows
open Idealize.ShloMosaic Idealize.ShloMosaic.TcCoe
open scoped BigOperators

/-- The half-split rotation of the 128 values `y` of one head by the 64 angles with cosines `C` and sines `S`. -/
def rotR (y : Fin 128 → EReal) (C S : Fin 64 → EReal) (l : Fin 128) : EReal :=
  if h : l.val < 64 then
    y ⟨l.val, l.isLt⟩ * C ⟨l.val, h⟩ - y ⟨64 + l.val, by omega⟩ * S ⟨l.val, h⟩
  else y ⟨64 + (l.val - 64), by omega⟩ * C ⟨l.val - 64, by omega⟩ + y ⟨l.val - 64, by omega⟩ * S ⟨l.val - 64, by omega⟩

variable (U : Valuation τ sig (Elt Ideal))

/-- The dequantised activations. -/
def xaR (b : Fin 4) (s : Fin 6144) (d : Fin 5120) : EReal :=
  @HMul.hMul EReal EReal EReal _ (at_ U main_v38_0 (ix3 b s d)) (at_ U main_v29 (ix3 b s (grp d)))
/-- The dequantised weights. -/
def waR (d : Fin 5120) (n : Fin 1792) : EReal :=
  @HMul.hMul EReal EReal EReal _ (at_ U main_v38_1 (ix2 d n)) (at_ U main_arg3 (ix2 ⟨d.val / 128, by omega⟩ ⟨n.val / 128, by omega⟩))
/-- The angle of position `s` and frequency `j`. -/
def angR (b : Fin 4) (s : Fin 6144) (j : Fin 64) : EReal :=
  @HMul.hMul EReal EReal EReal _ ((((IntOp.addi (at_ U main_arg4 (ix1 b)) (BitVec.ofNat 32 s.val)).toInt : ℝ)) : EReal) (at_ U main_cst_0 (ix1 j))

/-- The dequantised activations. -/
theorem t_v44 (b : Fin 4) (s : Fin 6144) (d : Fin 5120) : at_ (StableHlo.after hostOps1 U) main_v44 (ix3 b s d) = xaR U b s d := by
  unfold at_
  after_reads_simp
  pointwise
  simp only [show (⟨d.val / 128 * 128 + d.val % 128, by omega⟩ : Fin 5120) = d from Fin.ext (by show d.val / 128 * 128 + d.val % 128 = d.val; omega)]
  rfl

/-- The dequantised weights. -/
theorem t_v50 (d : Fin 5120) (n : Fin 1792) : at_ (StableHlo.after hostOps1 U) main_v50 (ix2 d n) = waR U d n := by
  unfold at_
  after_reads_simp
  pointwise
  simp only [show (⟨d.val / 128 * 128 + d.val % 128, by omega⟩ : Fin 5120) = d from Fin.ext (by show d.val / 128 * 128 + d.val % 128 = d.val; omega),
    show (⟨n.val / 128 * 128 + n.val % 128, by omega⟩ : Fin 1792) = n from Fin.ext (by show n.val / 128 * 128 + n.val % 128 = n.val; omega)]
  rfl

/-- The cosine of the position's angle. -/
theorem t_v69 (b : Fin 4) (s : Fin 6144) (j : Fin 64) :
    at_ (StableHlo.after hostOps1 U) main_v69 (ix4 b s 0 j) = Ideal.cos (angR U b s j) := by
  unfold at_
  after_reads_simp
  pointwise
  rfl

/-- The sine of the position's angle. -/
theorem t_v70 (b : Fin 4) (s : Fin 6144) (j : Fin 64) :
    at_ (StableHlo.after hostOps1 U) main_v70 (ix4 b s 0 j) = Ideal.sin (angR U b s j) := by
  unfold at_
  after_reads_simp
  pointwise
  rfl

/-- One head's products, read at an index. -/
theorem dot_readQ (X : FVec Ideal S4x6144x5120 .bf16) (W : FVec Ideal S5120x1792 .bf16) (b : Fin 4) (s : Fin 6144) (h : Fin 10) (l : Fin 128) :
    shapeCast S4x6144x10x128 (Host.dotGeneral dot_S4x6144x5120_S5120x1280_S4x6144x1280_2_0_01_1_n_n none X
        (extractStridedSlice S5120x1280 ![0, 0] W slices_S5120x1792_S5120x1280_0_0) : FVec Ideal S4x6144x1280 .f32) shapeCasts_S4x6144x1280_S4x6144x10x128 (ix4 b s h l)
      = ∑ k : Fin 5120, X (ix3 b s k) * W (ix2 k ⟨h.val * 128 + l.val, by omega⟩) := by
  pointwise

/-- The projection to the heads of q. -/
theorem t_main_v71 (b : Fin 4) (s : Fin 6144) (h : Fin 10) (l : Fin 128) :
    at_ (StableHlo.after hostOps1 U) main_v71 (ix4 b s h l)
      = ∑ k : Fin 5120, xaR U b s k * waR U k ⟨h.val * 128 + l.val, by omega⟩ := by
  have e : at_ (StableHlo.after hostOps1 U) main_v71 = shapeCast S4x6144x10x128 (Host.dotGeneral (φ₁ := .bf16) (φ₂ := .bf16)
        dot_S4x6144x5120_S5120x1280_S4x6144x1280_2_0_01_1_n_n none (at_ (StableHlo.after hostOps1 U) main_v44)
        (extractStridedSlice S5120x1280 ![0, 0] (at_ (StableHlo.after hostOps1 U) main_v50) slices_S5120x1792_S5120x1280_0_0) : FVec Ideal S4x6144x1280 .f32) shapeCasts_S4x6144x1280_S4x6144x10x128 := by
    unfold at_
    after_reads_simp
    rfl
  rw [e]
  refine (dot_readQ _ _ b s h l).trans ?_
  exact Finset.sum_congr rfl fun k _ => congrArg₂ (fun x y : EReal => x * y) (t_v44 U b s k) (t_v50 U k _)

/-- One head's products, read at an index. -/
theorem dot_readK (X : FVec Ideal S4x6144x5120 .bf16) (W : FVec Ideal S5120x1792 .bf16) (b : Fin 4) (s : Fin 6144) (h : Fin 2) (l : Fin 128) :
    shapeCast S4x6144x2x128 (Host.dotGeneral dot_S4x6144x5120_S5120x256_S4x6144x256_2_0_01_1_n_n none X
        (extractStridedSlice S5120x256 ![0, 1280] W slices_S5120x1792_S5120x256_0_1280) : FVec Ideal S4x6144x256 .f32) shapeCasts_S4x6144x256_S4x6144x2x128 (ix4 b s h l)
      = ∑ k : Fin 5120, X (ix3 b s k) * W (ix2 k ⟨1280 + (h.val * 128 + l.val), by omega⟩) := by
  pointwise

/-- The projection to the heads of k. -/
theorem t_main_v85 (b : Fin 4) (s : Fin 6144) (h : Fin 2) (l : Fin 128) :
    at_ (StableHlo.after hostOps1 U) main_v85 (ix4 b s h l)
      = ∑ k : Fin 5120, xaR U b s k * waR U k ⟨1280 + (h.val * 128 + l.val), by omega⟩ := by
  have e : at_ (StableHlo.after hostOps1 U) main_v85 = shapeCast S4x6144x2x128 (Host.dotGeneral (φ₁ := .bf16) (φ₂ := .bf16)
        dot_S4x6144x5120_S5120x256_S4x6144x256_2_0_01_1_n_n none (at_ (StableHlo.after hostOps1 U) main_v44)
        (extractStridedSlice S5120x256 ![0, 1280] (at_ (StableHlo.after hostOps1 U) main_v50) slices_S5120x1792_S5120x256_0_1280) : FVec Ideal S4x6144x256 .f32) shapeCasts_S4x6144x256_S4x6144x2x128 := by
    unfold at_
    after_reads_simp
    rfl
  rw [e]
  refine (dot_readK _ _ b s h l).trans ?_
  exact Finset.sum_congr rfl fun k _ => congrArg₂ (fun x y : EReal => x * y) (t_v44 U b s k) (t_v50 U k _)

/-- One head's products, read at an index. -/
theorem dot_readV (X : FVec Ideal S4x6144x5120 .bf16) (W : FVec Ideal S5120x1792 .bf16) (b : Fin 4) (s : Fin 6144) (h : Fin 2) (l : Fin 128) :
    shapeCast S4x6144x2x128 (Host.dotGeneral dot_S4x6144x5120_S5120x256_S4x6144x256_2_0_01_1_n_n none X
        (extractStridedSlice S5120x256 ![0, 1536] W slices_S5120x1792_S5120x256_0_1536) : FVec Ideal S4x6144x256 .f32) shapeCasts_S4x6144x256_S4x6144x2x128 (ix4 b s h l)
      = ∑ k : Fin 5120, X (ix3 b s k) * W (ix2 k ⟨1536 + (h.val * 128 + l.val), by omega⟩) := by
  pointwise

/-- The projection to the heads of v. -/
theorem t_main_v99 (b : Fin 4) (s : Fin 6144) (h : Fin 2) (l : Fin 128) :
    at_ (StableHlo.after hostOps1 U) main_v99 (ix4 b s h l)
      = ∑ k : Fin 5120, xaR U b s k * waR U k ⟨1536 + (h.val * 128 + l.val), by omega⟩ := by
  have e : at_ (StableHlo.after hostOps1 U) main_v99 = shapeCast S4x6144x2x128 (Host.dotGeneral (φ₁ := .bf16) (φ₂ := .bf16)
        dot_S4x6144x5120_S5120x256_S4x6144x256_2_0_01_1_n_n none (at_ (StableHlo.after hostOps1 U) main_v44)
        (extractStridedSlice S5120x256 ![0, 1536] (at_ (StableHlo.after hostOps1 U) main_v50) slices_S5120x1792_S5120x256_0_1536) : FVec Ideal S4x6144x256 .f32) shapeCasts_S4x6144x256_S4x6144x2x128 := by
    unfold at_
    after_reads_simp
    rfl
  rw [e]
  refine (dot_readV _ _ b s h l).trans ?_
  exact Finset.sum_congr rfl fun k _ => congrArg₂ (fun x y : EReal => x * y) (t_v44 U b s k) (t_v50 U k _)

/-- The rotation read at an index, 10 heads. -/
theorem rot_read10 (Y : FVec Ideal S4x6144x10x128 .f32) (C S : FVec Ideal S4x6144x1x64 .f32) (b : Fin 4) (s : Fin 6144) (h : Fin 10) (l : Fin 128) :
    concatenate S4x6144x10x128 3
        [⟨S4x6144x10x64, subf (mulf (extractStridedSlice S4x6144x10x64 ![0, 0, 0, 0] Y slices_S4x6144x10x128_S4x6144x10x64_0_0_0_0)
              (broadcastInDim S4x6144x10x64 ![0, 1, 2, 3] bcast_S4x6144x1x64_S4x6144x10x64_0_1_2_3 C))
            (mulf (extractStridedSlice S4x6144x10x64 ![0, 0, 0, 64] Y slices_S4x6144x10x128_S4x6144x10x64_0_0_0_64)
              (broadcastInDim S4x6144x10x64 ![0, 1, 2, 3] bcast_S4x6144x1x64_S4x6144x10x64_0_1_2_3 S))⟩,
         ⟨S4x6144x10x64, addf (mulf (extractStridedSlice S4x6144x10x64 ![0, 0, 0, 64] Y slices_S4x6144x10x128_S4x6144x10x64_0_0_0_64)
              (broadcastInDim S4x6144x10x64 ![0, 1, 2, 3] bcast_S4x6144x1x64_S4x6144x10x64_0_1_2_3 C))
            (mulf (extractStridedSlice S4x6144x10x64 ![0, 0, 0, 0] Y slices_S4x6144x10x128_S4x6144x10x64_0_0_0_0)
              (broadcastInDim S4x6144x10x64 ![0, 1, 2, 3] bcast_S4x6144x1x64_S4x6144x10x64_0_1_2_3 S))⟩]
        concatenates_S4x6144x10x64_S4x6144x10x64_S4x6144x10x128_d3 (ix4 b s h l)
      = rotR (fun l => Y (ix4 b s h l)) (fun j => C (ix4 b s 0 j)) (fun j => S (ix4 b s 0 j)) l := by
  pointwise
  rfl

/-- The rotated heads, 10 of them. -/
theorem t_main_v84 (b : Fin 4) (s : Fin 6144) (h : Fin 10) (l : Fin 128) :
    at_ (StableHlo.after hostOps1 U) main_v84 (ix4 b s h l)
      = rotR (fun l => at_ (StableHlo.after hostOps1 U) main_v71 (ix4 b s h l)) (fun j => at_ (StableHlo.after hostOps1 U) main_v69 (ix4 b s 0 j))
          (fun j => at_ (StableHlo.after hostOps1 U) main_v70 (ix4 b s 0 j)) l := by
  refine Eq.trans ?_ (rot_read10 (at_ (StableHlo.after hostOps1 U) main_v71) (at_ (StableHlo.after hostOps1 U) main_v69)
    (at_ (StableHlo.after hostOps1 U) main_v70) b s h l)
  refine congrFun ?_ (ix4 b s h l)
  unfold at_
  after_reads_simp
  rfl

/-- The rotation read at an index, 2 heads. -/
theorem rot_read2 (Y : FVec Ideal S4x6144x2x128 .f32) (C S : FVec Ideal S4x6144x1x64 .f32) (b : Fin 4) (s : Fin 6144) (h : Fin 2) (l : Fin 128) :
    concatenate S4x6144x2x128 3
        [⟨S4x6144x2x64, subf (mulf (extractStridedSlice S4x6144x2x64 ![0, 0, 0, 0] Y slices_S4x6144x2x128_S4x6144x2x64_0_0_0_0)
              (broadcastInDim S4x6144x2x64 ![0, 1, 2, 3] bcast_S4x6144x1x64_S4x6144x2x64_0_1_2_3 C))
            (mulf (extractStridedSlice S4x6144x2x64 ![0, 0, 0, 64] Y slices_S4x6144x2x128_S4x6144x2x64_0_0_0_64)
              (broadcastInDim S4x6144x2x64 ![0, 1, 2, 3] bcast_S4x6144x1x64_S4x6144x2x64_0_1_2_3 S))⟩,
         ⟨S4x6144x2x64, addf (mulf (extractStridedSlice S4x6144x2x64 ![0, 0, 0, 64] Y slices_S4x6144x2x128_S4x6144x2x64_0_0_0_64)
              (broadcastInDim S4x6144x2x64 ![0, 1, 2, 3] bcast_S4x6144x1x64_S4x6144x2x64_0_1_2_3 C))
            (mulf (extractStridedSlice S4x6144x2x64 ![0, 0, 0, 0] Y slices_S4x6144x2x128_S4x6144x2x64_0_0_0_0)
              (broadcastInDim S4x6144x2x64 ![0, 1, 2, 3] bcast_S4x6144x1x64_S4x6144x2x64_0_1_2_3 S))⟩]
        concatenates_S4x6144x2x64_S4x6144x2x64_S4x6144x2x128_d3 (ix4 b s h l)
      = rotR (fun l => Y (ix4 b s h l)) (fun j => C (ix4 b s 0 j)) (fun j => S (ix4 b s 0 j)) l := by
  pointwise
  rfl

/-- The rotated heads, 2 of them. -/
theorem t_main_v98 (b : Fin 4) (s : Fin 6144) (h : Fin 2) (l : Fin 128) :
    at_ (StableHlo.after hostOps1 U) main_v98 (ix4 b s h l)
      = rotR (fun l => at_ (StableHlo.after hostOps1 U) main_v85 (ix4 b s h l)) (fun j => at_ (StableHlo.after hostOps1 U) main_v69 (ix4 b s 0 j))
          (fun j => at_ (StableHlo.after hostOps1 U) main_v70 (ix4 b s 0 j)) l := by
  refine Eq.trans ?_ (rot_read2 (at_ (StableHlo.after hostOps1 U) main_v85) (at_ (StableHlo.after hostOps1 U) main_v69)
    (at_ (StableHlo.after hostOps1 U) main_v70) b s h l)
  refine congrFun ?_ (ix4 b s h l)
  unfold at_
  after_reads_simp
  rfl

/-- The first result is the rotated q: its cast changes nothing. -/
theorem t_main_v100 : at_ (StableHlo.after hostOps1 U) main_v100 = at_ (StableHlo.after hostOps1 U) main_v84 := by
  unfold at_
  after_reads_simp
  rfl

/-- The second result is the rotated k: its cast changes nothing. -/
theorem t_main_v101 : at_ (StableHlo.after hostOps1 U) main_v101 = at_ (StableHlo.after hostOps1 U) main_v98 := by
  unfold at_
  after_reads_simp
  rfl

/-- The third result is v: its cast changes nothing. -/
theorem t_main_v102 : at_ (StableHlo.after hostOps1 U) main_v102 = at_ (StableHlo.after hostOps1 U) main_v99 := by
  unfold at_
  after_reads_simp
  rfl

end Cert.ReferenceIdeal.Hand
-- ==== Proof.RefVals.lean ====
/- What the reference's cast kernel leaves, and the contents its last operations start from. -/
module

public import proofs.«01_k».proof.Proof.RefTail
public import proofs.«01_k».proof.Proof.Gen.ReferenceIdeal.Frame
public import Idealize.ShloMosaic.Lib.StableHlo.RunRead
public import Idealize.ShloMosaic.Lib.Pipeline.ValueKit
public import Idealize.ShloMosaic.Lib.Pipeline.ValueKit.Geometry
public import Idealize.ShloMosaic.Lib.Pipeline.ValueKit.Point

@[expose] public section

set_option maxRecDepth 16384

noncomputable section

namespace Cert.ReferenceIdeal.Hand

open Cert.ReferenceIdeal Cert.ReferenceIdeal.Gen Cert.Rows
open Idealize.ShloMosaic Idealize.ShloMosaic.TcCoe Idealize.ShloMosaic.Tactic
open Idealize.ShloMosaic.Pipeline (Dat Cfg Window)

variable (m : (ℓ : Loc nD τ sig) → Buf (Elt Ideal) ℓ) (ρ : Dev nD → PrngReg) (c : Dev nD)

/-- An index in the first block. -/
theorem at_origin {i n y : Nat} (hi : i = 0) : i * n + y = y := by rw [hi, Nat.zero_mul, Nat.zero_add]

/-- Each window of the cast kernel is its whole array. -/
theorem emb0 (t : Fin cfg0.N) (y : S4x6144x5120.Idx) : ((cfg0.win 0).blk t).view.emb y = y := by
  blk_ext
  all_goals exact at_origin rfl
/-- The one block of the weights to be cast is the whole array. -/
theorem emb1 (t : Fin cfg0.N) (y : S5120x1792.Idx) : ((cfg0.win 1).blk t).view.emb y = y := by
  blk_ext
  all_goals exact at_origin rfl
/-- The one block of the cast codes is the whole array. -/
theorem emb2 (t : Fin cfg0.N) (y : S4x6144x5120.Idx) : ((cfg0.win 2).blk t).view.emb y = y := by
  blk_ext
  all_goals exact at_origin rfl
/-- The one block of the cast weights is the whole array. -/
theorem emb3 (t : Fin cfg0.N) (y : S5120x1792.Idx) : ((cfg0.win 3).blk t).view.emb y = y := by
  blk_ext
  all_goals exact at_origin rfl

/-- The region of the codes is the whole buffer. -/
theorem r00_emb (y : S4x6144x5120.Idx) : r0_0.emb y = y := by
  funext a; apply Fin.ext; fin_cases a <;> simp [Rect.emb, r0_0, Rect.unit]
/-- The region of the weights is the whole buffer. -/
theorem r01_emb (y : S5120x1792.Idx) : r0_1.emb y = y := by
  funext a; apply Fin.ext; fin_cases a <;> simp [Rect.emb, r0_1, Rect.unit]

/-- What the body leaves is what it reads, the casts being exact here. -/
theorem out2_eq (x0 : Vec Ideal S4x6144x5120 .fp8e4m3) (x1) (y : S4x6144x5120.Idx) : @Eq EReal (out0_2 x0 x1 y) (x0 y) := by
  unfold out0_2
  conv_lhs => rw [← r00_emb y]
  rw [View.canon_cons_emb]
  unfold k0_pay1
  rw [shapeCast_self]
  show x0 (r0_0.emb y) = x0 y
  rw [r00_emb]
/-- The cast of the weights changes no value. -/
theorem out3_eq (x0) (x1 : Vec Ideal S5120x1792 .fp8e4m3) (y : S5120x1792.Idx) : @Eq EReal (out0_3 (F := Ideal) x0 x1 y) (x1 y) := by
  unfold out0_3
  conv_lhs => rw [← r01_emb y]
  rw [View.canon_cons_emb]
  unfold k0_pay2
  show x1 (r0_1.emb y) = x1 y
  rw [r01_emb]

/-- The cast kernel's only point. -/
def p0 : Fin cfg0.N := ⟨0, by decide⟩

/-- The widened codes: the array after the run, from what the body leaves. -/
theorem arr2_of (G : S4x6144x5120.Idx → EReal) (hG : ∀ u y, @Eq EReal (out0_2 (iblk m c 0 u) (iblk m c 1 u) y) (G y)) :
    (dats m 0 c).arrAt 2 cfg0.N = G := by
  refine Dat.arrAt_eq_of_emb _ 2 _ (fun u hu (y : S4x6144x5120.Idx) => ?_) (fun (i : S4x6144x5120.Idx) => ⟨p0, by decide, ?_⟩)
  · have k := hG u y
    rw [after0_2]
    generalize out0_2 (iblk m c 0 u) (iblk m c 1 u) = Z at k ⊢
    have e := emb2 u y
    refine Eq.trans ?_ (k.trans (congrArg G e.symm))
    rfl
  · have e := emb2 p0 i
    exact e ▸ View.emb_mem_set _ _
/-- The block of codes that is read is the array of codes. -/
theorem iblk2 (u : Fin cfg0.N) (y : S4x6144x5120.Idx) : @Eq EReal (iblk m c 0 u y) (V m c main_v37 y) := by
  have e := emb0 u y
  unfold iblk
  generalize V m c = W
  exact congrArg (fun z => (W main_v37 z : EReal)) e
/-- The cast codes are the codes. -/
theorem arr2 : (dats m 0 c).arrAt 2 cfg0.N = (fun i => V m c main_v37 i : S4x6144x5120.Idx → EReal) :=
  arr2_of m c _ fun u y => (out2_eq (iblk m c 0 u) (iblk m c 1 u) y).trans (iblk2 m c u y)
/-- The widened weights: the array after the run, from what the body leaves. -/
theorem arr3_of (G : S5120x1792.Idx → EReal) (hG : ∀ u y, @Eq EReal (out0_3 (iblk m c 0 u) (iblk m c 1 u) y) (G y)) :
    (dats m 0 c).arrAt 3 cfg0.N = G := by
  refine Dat.arrAt_eq_of_emb _ 3 _ (fun u hu (y : S5120x1792.Idx) => ?_) (fun (i : S5120x1792.Idx) => ⟨p0, by decide, ?_⟩)
  · have k := hG u y
    rw [after0_3]
    generalize out0_3 (iblk m c 0 u) (iblk m c 1 u) = Z at k ⊢
    have e := emb3 u y
    refine Eq.trans ?_ (k.trans (congrArg G e.symm))
    rfl
  · have e := emb3 p0 i
    exact e ▸ View.emb_mem_set _ _
/-- The block of weights that is read is the argument. -/
theorem iblk3 (u : Fin cfg0.N) (y : S5120x1792.Idx) : @Eq EReal (iblk m c 1 u y) (V m c main_arg2 y) := by
  have e := emb1 u y
  unfold iblk
  generalize V m c = W
  exact congrArg (fun z => (W main_arg2 z : EReal)) e
/-- The cast weights are the argument. -/
theorem arr3 : (dats m 0 c).arrAt 3 cfg0.N = (fun i => V m c main_arg2 i : S5120x1792.Idx → EReal) :=
  arr3_of m c _ fun u y => (out3_eq (iblk m c 0 u) (iblk m c 1 u) y).trans (iblk3 m c u y)

/-- The contents after the cast kernel. -/
def U : Valuation τ sig (Elt Ideal) := Pipeline.withArrays spec0 c (V0 m c) fun w => (dats m 0 c).arrAt w cfg0.N

/-- The windows of the casts lie over different arrays. -/
theorem arr_inj : Function.Injective (Pipeline.arrRef spec0) := by decide

/-- After the casts the first output holds the codes. -/
theorem U_v38_0 (i : S4x6144x5120.Idx) : @Eq EReal (at_ (U m c) main_v38_0 i) (V m c main_v37 i) :=
  (congrFun ((Pipeline.withArrays_arr spec0 arr_inj c (V0 m c) (fun w => (dats m 0 c).arrAt w cfg0.N) 2).trans (arr2 m c)) i)
/-- After the casts the second output holds the weights. -/
theorem U_v38_1 (i : S5120x1792.Idx) : @Eq EReal (at_ (U m c) main_v38_1 i) (m ((c : Thread nD τ).loc main_arg2) i) :=
  (congrFun ((Pipeline.withArrays_arr spec0 arr_inj c (V0 m c) (fun w => (dats m 0 c).arrAt w cfg0.N) 3).trans (arr3 m c)) i).trans
    (congrFun (V_main_arg2 m c) i)
/-- The casts leave the scales alone. -/
theorem U_v29 : at_ (U m c) main_v29 = V m c main_v29 :=
  Pipeline.withArrays_of_ne _ c (V0 m c) _ main_v29 (by exact (by decide : ∀ w, Pipeline.arrRef spec0 w ≠ main_v29))
/-- The casts leave the weights' scales alone. -/
theorem U_arg3 : at_ (U m c) main_arg3 = m ((c : Thread nD τ).loc main_arg3) :=
  (Pipeline.withArrays_of_ne _ c (V0 m c) _ main_arg3 (by exact (by decide : ∀ w, Pipeline.arrRef spec0 w ≠ main_arg3))).trans (V_main_arg3 m c)
/-- The casts leave the position offsets alone. -/
theorem U_arg4 : at_ (U m c) main_arg4 = m ((c : Thread nD τ).loc main_arg4) :=
  (Pipeline.withArrays_of_ne _ c (V0 m c) _ main_arg4 (by exact (by decide : ∀ w, Pipeline.arrRef spec0 w ≠ main_arg4))).trans (V_main_arg4 m c)
/-- The casts leave the table of inverse frequencies alone. -/
theorem U_cst (j : Fin 64) : at_ (U m c) main_cst_0 (ix1 j) = Ideal.ofBits .f32 (lit1 j) := by
  refine (congrFun (Pipeline.withArrays_of_ne _ c (V0 m c) _ main_cst_0 (by exact (by decide : ∀ w, Pipeline.arrRef spec0 w ≠ main_cst_0))) (ix1 j)).trans ?_
  unfold V0
  simp only [List.flatten]
  after_reads_simp
  pointwise
  exact congrArg (fun k => Ideal.ofBits .f32 (lit1 k)) (Fin.ext (by show (S64.rowMajor (ix1 j)).val = j.val; exact Shape.rowMajor_val_one _))

/-- The last operations do not write the scales. -/
theorem tail_v29 (W : Valuation τ sig (Elt Ideal)) : at_ (StableHlo.after hostOps1 W) main_v29 = at_ W main_v29 := by
  unfold at_
  after_reads_simp

end Cert.ReferenceIdeal.Hand

end
-- ==== Proof.RopeEq.lean ====
/- The kernel's rotation, whose angle is a tile's base angle plus a row's angle, is the rotation by the position's angle. -/
module

public import proofs.«01_k».proof.Proof.Rope
public import proofs.«01_k».proof.Proof.RefTail
public import proofs.«01_k».proof.Proof.KernelIdealHeads

@[expose] public section

set_option maxRecDepth 16384

noncomputable section

namespace Cert.Rope

open Cert.ReferenceIdeal.Hand (rotR)
open Idealize.ShloMosaic

/-- The sign of a lane: minus one in the lower half, one in the upper half. -/
theorem sgn_eq (l : Fin 128) : sgn l = (((if l.val < 64 then -1 else 1 : ℝ)) : EReal) := by
  have e1 : Ideal.ofBits .f32 0xBF800000#32 = ((-1 : ℝ) : EReal) := by
    show Ideal.ieee 8 23 (0xBF800000#32 : BitVec 32) = _
    unfold Ideal.ieee
    rw [show ((0xBF800000#32 : BitVec 32).extractLsb' 23 8).toNat = 127 by decide, show ((0xBF800000#32 : BitVec 32).extractLsb' 0 23).toNat = 0 by decide, show ((0xBF800000#32 : BitVec 32).extractLsb' 31 1) = 1#1 by decide]
    norm_num
  have e2 : Ideal.ofBits .f32 0x3F800000#32 = ((1 : ℝ) : EReal) := by
    show Ideal.ieee 8 23 (0x3F800000#32 : BitVec 32) = _
    unfold Ideal.ieee
    rw [show ((0x3F800000#32 : BitVec 32).extractLsb' 23 8).toNat = 127 by decide, show ((0x3F800000#32 : BitVec 32).extractLsb' 0 23).toNat = 0 by decide, show ((0x3F800000#32 : BitVec 32).extractLsb' 31 1) = 0#1 by decide]
    norm_num
  unfold sgn
  by_cases h : l.val < 64
  · simp only [h, if_true]; exact e1
  · simp only [h, if_false]; first | exact e2 | simp

/-- A word whose exponent field is not all ones is a real number. -/
theorem ofBits_real (b : BitVec 32) (h : (b.extractLsb' 23 8).toNat ≠ 255) : ∃ r : ℝ, Ideal.ofBits .f32 b = ((r : ℝ) : EReal) := by
  show ∃ r : ℝ, Ideal.ieee 8 23 b = _
  unfold Ideal.ieee
  simp only [show (2 ^ 8 - 1 : ℕ) = 255 by norm_num, h, if_false]
  split_ifs <;> exact ⟨_, rfl⟩

/-- The cosine and the signed sine of a sum of two real angles. -/
theorem cosK_eq (a b : ℝ) : cosK ((Real.cos a : ℝ) : EReal) ((Real.sin a : ℝ) : EReal) ((Real.cos b : ℝ) : EReal) ((Real.sin b : ℝ) : EReal)
    = ((Real.cos (a + b) : ℝ) : EReal) := by
  unfold cosK
  rw [Real.cos_add, EReal.coe_sub, EReal.coe_mul, EReal.coe_mul]
/-- The kernel's sine, made of a tile's angle and a row's, is the signed sine of the sum. -/
theorem sinK_eq (a b t : ℝ) : sinK ((Real.cos a : ℝ) : EReal) ((Real.sin a : ℝ) : EReal) (t : EReal) ((Real.cos b : ℝ) : EReal) ((Real.sin b : ℝ) : EReal)
    = ((t * Real.sin (a + b) : ℝ) : EReal) := by
  unfold sinK
  rw [Real.sin_add, ← EReal.coe_mul, ← EReal.coe_mul, ← EReal.coe_mul, ← EReal.coe_mul, ← EReal.coe_add]
  congr 1; ring

/-- The kernel's rotation by a tile's angle and a row's is the reference's rotation by the sum of the two. -/
theorem rotK_eq (y : Fin 128 → EReal) (p r : ℝ) (g : Fin 128 → ℝ) (f : Fin 64 → ℝ)
    (hg : ∀ l : Fin 128, g l = f ⟨l.val % 64, Nat.mod_lt _ (by decide)⟩) (l : Fin 128) :
    rotK y (fun l => cosK ((Real.cos (p * g l) : ℝ) : EReal) ((Real.sin (p * g l) : ℝ) : EReal) ((Real.cos (r * g l) : ℝ) : EReal) ((Real.sin (r * g l) : ℝ) : EReal))
      (fun l => sinK ((Real.cos (p * g l) : ℝ) : EReal) ((Real.sin (p * g l) : ℝ) : EReal) (sgn l) ((Real.cos (r * g l) : ℝ) : EReal) ((Real.sin (r * g l) : ℝ) : EReal)) l
      = rotR y (fun j => ((Real.cos ((p + r) * f j) : ℝ) : EReal)) (fun j => ((Real.sin ((p + r) * f j) : ℝ) : EReal)) l := by
  unfold rotK rotR
  simp only [cosK_eq, sgn_eq, sinK_eq, ← add_mul, hg]
  by_cases h : l.val < 64
  · rw [dif_pos h, if_pos h]
    rw [show swap l = ⟨64 + l.val, by omega⟩ from Fin.ext (by show (l.val + 64) % 128 = 64 + l.val; omega)]
    simp only [show l.val % 64 = l.val by omega]
    rw [show ∀ z : ℝ, -1 * z = -z from fun z => by ring, EReal.coe_neg, mul_neg, ← sub_eq_add_neg]
  · rw [dif_neg h, if_neg h]
    rw [show swap l = ⟨l.val - 64, by omega⟩ from Fin.ext (by show (l.val + 64) % 128 = l.val - 64; omega)]
    simp only [show l.val % 64 = l.val - 64 by omega, show (⟨64 + (l.val - 64), by omega⟩ : Fin 128) = l from Fin.ext (by show 64 + (l.val - 64) = l.val; omega), one_mul]

/-- The same, from the tile's position, the row, the frequencies and the position's angle as the two programs hold them. -/
theorem rope_abs (y : Fin 128 → EReal) (P R : EReal) (F : Fin 128 → EReal) (A : Fin 64 → EReal) (p r q : ℝ) (f : Fin 64 → ℝ)
    (hP : P = ((p : ℝ) : EReal)) (hR : R = ((r : ℝ) : EReal))
    (hF : ∀ l : Fin 128, F l = ((f ⟨l.val % 64, Nat.mod_lt _ (by decide)⟩ : ℝ) : EReal)) (hq : p + r = q) (hA : ∀ j, A j = ((q * f j : ℝ) : EReal)) (l : Fin 128) :
    rotK y (fun l => cosK (Ideal.cos (P * F l)) (Ideal.sin (P * F l)) (Ideal.cos (R * F l)) (Ideal.sin (R * F l)))
      (fun l => sinK (Ideal.cos (P * F l)) (Ideal.sin (P * F l)) (sgn l) (Ideal.cos (R * F l)) (Ideal.sin (R * F l))) l
      = rotR y (fun j => Ideal.cos (A j)) (fun j => Ideal.sin (A j)) l := by
  subst hP hR hq
  obtain rfl : A = fun j => (((p + r) * f j : ℝ) : EReal) := funext hA
  obtain rfl : F = fun l : Fin 128 => ((f ⟨l.val % 64, Nat.mod_lt _ (by decide)⟩ : ℝ) : EReal) := funext hF
  simp only [← EReal.coe_mul]
  exact rotK_eq y p r (fun l => f ⟨l.val % 64, Nat.mod_lt _ (by decide)⟩) f (fun _ => rfl) l

/-- A tile's first row: the tile of grid point `24 b + q + 1` starts `256 q` rows on. -/
theorem tile_word (k : Fin 96) : Scalar.muli (Scalar.remsi (Scalar.subi (BitVec.ofNat 32 (k.val + 1)) 1#32) 24#32) 256#32 = BitVec.ofNat 32 (k.val % 24 * 256) := by
  revert k; decide +kernel

/-- A position plus a row number below 6144, with no overflow. -/
theorem toInt_add_row (v : BitVec 32) (hv : v.toInt ≤ 2147477504) (n : ℕ) (hn : n < 6144) : (v + BitVec.ofNat 32 n).toInt = v.toInt + n := by
  have h1 := BitVec.toInt_lt (x := v)
  have h2 := BitVec.le_toInt (x := v)
  rw [BitVec.toInt_add, BitVec.toInt_ofNat']
  simp only [Int.bmod_def]
  norm_num at *
  split_ifs <;> omega

/-- The tile's base position as a real number. -/
theorem baseOf_eq (v : BitVec 32) (hv : v.toInt ≤ 2147477504) (b : Fin 4) (s : Fin 6144) :
    Cert.KernelIdeal.Hand.baseOf (BitVec.ofNat 32 (24 * b.val + s.val / 256 + 1)) v = (((v.toInt : ℝ) + ((s.val / 256 * 256 : ℕ) : ℝ) : ℝ) : EReal) := by
  have hk := tile_word ⟨24 * b.val + s.val / 256, by omega⟩
  unfold Cert.KernelIdeal.Hand.baseOf
  rw [hk, show (24 * b.val + s.val / 256) % 24 = s.val / 256 by omega]
  show (((v + BitVec.ofNat 32 (s.val / 256 * 256)).toInt : ℝ) : EReal) = _
  rw [toInt_add_row v hv _ (by omega)]
  push_cast
  rfl

/-- A row's number inside its tile as a real number. -/
theorem row_eq (r : ℕ) (hr : r < 256) : (FloatOps.sitofp .f32 (BitVec.ofNat 32 r) : Ideal .f32) = (((r : ℕ) : ℝ) : EReal) := by
  show (((BitVec.ofNat 32 r).toInt : ℝ) : EReal) = _
  rw [BitVec.toInt_ofNat', Int.bmod_def]
  norm_num
  rw [if_pos (by omega)]
  have : ((r : ℤ) % 4294967296) = r := by omega
  rw [this]; norm_cast

end Cert.Rope

end
-- ==== Proof.Scale.lean ====
/- The power-of-two scale: the kernel's search over exponent words finds the exponent of a value, and the scale it makes is the least power
   of two above the value. -/
module

public import proofs.«01_k».proof.Proof.Rows
public import Idealize.ShloMosaic.PureOps.Ideal.Laws

@[expose] public section

set_option maxRecDepth 16384

noncomputable section

namespace Cert.Rows

open Idealize.ShloMosaic

/-- The word of exponent `E` with no fraction. -/
def word (E : Nat) : BitVec 32 := BitVec.ofNat 32 (E * 8388608)

/-- What that word denotes. -/
def P (E : Nat) : EReal := Ideal.ofBits .f32 (word E)

/-- The fields of an exponent word. -/
theorem word_fields : ∀ k : Fin 256, ((word k.val).extractLsb' 31 1 == 1#1) = false ∧ ((word k.val).extractLsb' 23 8).toNat = k.val
    ∧ ((word k.val).extractLsb' 0 23).toNat = 0 := by decide +kernel

/-- An exponent word denotes a power of two. -/
theorem P_eq (k : Nat) (h1 : 1 ≤ k) (h2 : k ≤ 254) : P k = (((2 : ℝ) ^ ((k : ℤ) - 127) : ℝ) : EReal) := by
  obtain ⟨f1, f2, f3⟩ := word_fields ⟨k, by omega⟩
  show Ideal.ieee 8 23 (word k) = _
  unfold Ideal.ieee
  simp only at f1 f2 f3
  simp only [show 8 + 23 = 31 from rfl, f1, f2, f3]
  rw [if_neg (by omega : ¬ k = 2 ^ 8 - 1), if_neg (by omega : ¬ k = 0)]
  congr 1
  have e : ((k : ℤ) - (2 ^ (8 - 1) - 1) - ((23 : ℕ) : ℤ)) = ((k : ℤ) - 127) + (-23) := by norm_num; ring
  rw [e, zpow_add₀ (by norm_num : (2 : ℝ) ≠ 0)]
  norm_num
  ring

/-- The word of exponent 255 denotes infinity. -/
theorem P_top : P 255 = ⊤ := by
  obtain ⟨f1, f2, f3⟩ := word_fields ⟨255, by omega⟩
  show Ideal.ieee 8 23 (word 255) = _
  unfold Ideal.ieee
  simp only at f1 f2 f3
  simp only [show 8 + 23 = 31 from rfl, f1, f2, f3]
  simp

/-- The powers grow with the exponent. -/
theorem P_mono (k l : Nat) (h1 : 1 ≤ k) (h : k ≤ l) (h2 : l ≤ 255) : P k ≤ P l := by
  by_cases hl : l = 255
  · rw [hl, P_top]; exact le_top
  rw [P_eq k h1 (by omega), P_eq l (by omega) (by omega)]
  exact EReal.coe_le_coe_iff.mpr (zpow_le_zpow_right₀ (by norm_num) (by omega))

/-- `t` is the exponent of `y`: zero below the normal numbers. -/
def Expo (y : EReal) (t : Nat) : Prop := t ≤ 252 ∧ (t = 0 ∨ P t ≤ y) ∧ y < P (t + 1)

/-- Every value below the power of exponent 253 has an exponent. -/
theorem expo_exists (y : EReal) (n : Nat) (hn : n ≤ 252) (h : y < P (n + 1)) : ∃ t, Expo y t := by
  induction n with
  | zero => exact ⟨0, by omega, Or.inl rfl, h⟩
  | succ n ih =>
    by_cases hy : y < P (n + 1)
    · exact ih (by omega) hy
    · exact ⟨n + 1, hn, Or.inr (not_lt.mp hy), h⟩

/-- A power of two is at most the value exactly if its exponent is at most the value's. -/
theorem expo_le {y : EReal} {t : Nat} (ht : Expo y t) (k : Nat) (h1 : 1 ≤ k) (h2 : k ≤ 255) : P k ≤ y ↔ k ≤ t := by
  obtain ⟨h0, ha, hb⟩ := ht
  constructor
  · intro h
    by_contra hc
    exact absurd (lt_of_le_of_lt h hb) (not_lt.mpr (P_mono (t + 1) k (by omega) (by omega) h2))
  · intro h
    rcases ha with ha | ha
    · omega
    · exact le_trans (P_mono k t h1 h (by omega)) ha

/-- One step of the search at exponents: bit `j`, the higher bits being those of `t`. -/
theorem word_step : ∀ t : Fin 256, ∀ j : Fin 8,
    (word (t.val / 2 ^ (j.val + 1) * 2 ^ (j.val + 1)) ||| word (2 ^ j.val)) = word (t.val / 2 ^ (j.val + 1) * 2 ^ (j.val + 1) + 2 ^ j.val)
    ∧ 1 ≤ t.val / 2 ^ (j.val + 1) * 2 ^ (j.val + 1) + 2 ^ j.val ∧ t.val / 2 ^ (j.val + 1) * 2 ^ (j.val + 1) + 2 ^ j.val ≤ 255
    ∧ (if t.val / 2 ^ (j.val + 1) * 2 ^ (j.val + 1) + 2 ^ j.val ≤ t.val then t.val / 2 ^ (j.val + 1) * 2 ^ (j.val + 1) + 2 ^ j.val
        else t.val / 2 ^ (j.val + 1) * 2 ^ (j.val + 1)) = t.val / 2 ^ j.val * 2 ^ j.val := by decide +kernel

/-- A step of the search keeps the bits that the exponent has so far. -/
theorem step_eq {y : EReal} {t : Nat} (ht : Expo y t) (j : Fin 8) :
    step y (word (2 ^ j.val)) (word (t / 2 ^ (j.val + 1) * 2 ^ (j.val + 1))) = word (t / 2 ^ j.val * 2 ^ j.val) := by
  obtain ⟨e1, e2, e3, e4⟩ := word_step ⟨t, by have := ht.1; omega⟩ j
  simp only at e1 e2 e3 e4
  unfold step
  rw [e1, ← e4]
  have hc : (Ideal.cmp .oge y (Ideal.ofBits .f32 (word (t / 2 ^ (j.val + 1) * 2 ^ (j.val + 1) + 2 ^ j.val))) = 1#1)
      ↔ t / 2 ^ (j.val + 1) * 2 ^ (j.val + 1) + 2 ^ j.val ≤ t := by
    rw [← expo_le ht _ e2 e3]
    unfold Ideal.cmp
    by_cases hp : P (t / 2 ^ (j.val + 1) * 2 ^ (j.val + 1) + 2 ^ j.val) ≤ y
    · have : Ideal.ofBits .f32 (word (t / 2 ^ (j.val + 1) * 2 ^ (j.val + 1) + 2 ^ j.val)) ≤ y := hp
      simp [this, hp]
    · have : ¬ Ideal.ofBits .f32 (word (t / 2 ^ (j.val + 1) * 2 ^ (j.val + 1) + 2 ^ j.val)) ≤ y := hp
      simp [this, hp]
  by_cases h : t / 2 ^ (j.val + 1) * 2 ^ (j.val + 1) + 2 ^ j.val ≤ t
  · rw [if_pos (hc.mpr h), if_pos h]
  · rw [if_neg (fun q => h (hc.mp q)), if_neg h]

/-- The search finds the exponent. -/
theorem expBits_eq {y : EReal} {t : Nat} (ht : Expo y t) : expBits y = word t := by
  have h0 : (0#32 : BitVec 32) = word (t / 2 ^ (7 + 1) * 2 ^ (7 + 1)) := by
    have : t / 2 ^ (7 + 1) = 0 := Nat.div_eq_of_lt (by have := ht.1; norm_num; omega)
    rw [this]; rfl
  unfold expBits
  have s7 : step y 1073741824#32 0#32 = word (t / 2 ^ 7 * 2 ^ 7) := by
    rw [h0]
    have e := step_eq ht 7
    rwa [show word (2 ^ (7 : Fin 8).val) = 1073741824#32 from by decide] at e
  have s6 : step y 536870912#32 (word (t / 2 ^ 7 * 2 ^ 7)) = word (t / 2 ^ 6 * 2 ^ 6) := by
    have e := step_eq ht 6
    rwa [show word (2 ^ (6 : Fin 8).val) = 536870912#32 from by decide] at e
  have s5 : step y 268435456#32 (word (t / 2 ^ 6 * 2 ^ 6)) = word (t / 2 ^ 5 * 2 ^ 5) := by
    have e := step_eq ht 5
    rwa [show word (2 ^ (5 : Fin 8).val) = 268435456#32 from by decide] at e
  have s4 : step y 134217728#32 (word (t / 2 ^ 5 * 2 ^ 5)) = word (t / 2 ^ 4 * 2 ^ 4) := by
    have e := step_eq ht 4
    rwa [show word (2 ^ (4 : Fin 8).val) = 134217728#32 from by decide] at e
  have s3 : step y 67108864#32 (word (t / 2 ^ 4 * 2 ^ 4)) = word (t / 2 ^ 3 * 2 ^ 3) := by
    have e := step_eq ht 3
    rwa [show word (2 ^ (3 : Fin 8).val) = 67108864#32 from by decide] at e
  have s2 : step y 33554432#32 (word (t / 2 ^ 3 * 2 ^ 3)) = word (t / 2 ^ 2 * 2 ^ 2) := by
    have e := step_eq ht 2
    rwa [show word (2 ^ (2 : Fin 8).val) = 33554432#32 from by decide] at e
  have s1 : step y 16777216#32 (word (t / 2 ^ 2 * 2 ^ 2)) = word (t / 2 ^ 1 * 2 ^ 1) := by
    have e := step_eq ht 1
    rwa [show word (2 ^ (1 : Fin 8).val) = 16777216#32 from by decide] at e
  have s0 : step y 8388608#32 (word (t / 2 ^ 1 * 2 ^ 1)) = word (t / 2 ^ 0 * 2 ^ 0) := by
    have e := step_eq ht 0
    rwa [show word (2 ^ (0 : Fin 8).val) = 8388608#32 from by decide] at e
  rw [s7, s6, s5, s4, s3, s2, s1, s0]
  simp

/-- The float word of one reads as 1. -/
theorem ofBits_one : Ideal.ofBits .f32 1065353216#32 = 1 := by
  have : P 127 = 1 := by rw [P_eq 127 (by omega) (by omega)]; norm_num
  exact this

/-- The words the scale and its reciprocal take. -/
theorem word_ops : ∀ t : Fin 253, (IntOp.cmpi .eq (word t.val) 0#32 = 1#1 ↔ t.val = 0)
    ∧ IntOp.addi (word t.val) 8388608#32 = word (t.val + 1) ∧ IntOp.subi 2122317824#32 (word t.val) = word (253 - t.val) := by decide +kernel

/-- The kernel's scale: one at exponent zero, and else the next power of two. -/
theorem scaleOf_eq {y : EReal} {t : Nat} (ht : Expo y t) : scaleOf y = if t = 0 then 1 else P (t + 1) := by
  obtain ⟨e1, e2, e3⟩ := word_ops ⟨t, by have := ht.1; omega⟩
  simp only at e1 e2 e3
  unfold scaleOf
  rw [expBits_eq ht, e2]
  by_cases h : t = 0
  · rw [if_pos (e1.mpr h), if_pos h]; exact ofBits_one
  · rw [if_neg (fun q => h (e1.mp q)), if_neg h]; rfl

/-- The kernel's reciprocal is one over its scale. -/
theorem invOf_eq {y : EReal} {t : Nat} (ht : Expo y t) : invOf y = Ideal.div 1 (scaleOf y) := by
  rw [scaleOf_eq ht]
  obtain ⟨e1, e2, e3⟩ := word_ops ⟨t, by have := ht.1; omega⟩
  simp only at e1 e2 e3
  unfold invOf
  rw [expBits_eq ht, e3]
  have h0 := ht.1
  by_cases h : t = 0
  · rw [if_pos (e1.mpr h), if_pos h, ofBits_one]
    unfold Ideal.div
    rw [if_neg (by norm_num)]
    simp
  · rw [if_neg (fun q => h (e1.mp q)), if_neg h]
    show P (253 - t) = _
    rw [P_eq (253 - t) (by omega) (by omega), P_eq (t + 1) (by omega) (by omega)]
    have hp : (0 : ℝ) < (2 : ℝ) ^ (((t + 1 : ℕ) : ℤ) - 127) := by positivity
    unfold Ideal.div
    rw [if_neg (by exact_mod_cast hp.ne'), one_mul, ← EReal.coe_inv, ← zpow_neg]
    congr 2
    push_cast [Nat.cast_sub (by omega : t ≤ 253)]
    ring

/-- The least listed power of two above `y`, where the list holds the exponents 2 to 253, and one below the normal numbers: the kernel's
    scale. -/
theorem least_power {y : EReal} {t : Nat} (ht : Expo y t) (lit : Fin 252 → BitVec 32) (hl : ∀ k, lit k = word (k.val + 2)) :
    (if Ideal.cmp .olt y (Ideal.ofBits .f32 0x00800000#32) = 1#1 then 1
     else Finset.univ.fold min (Ideal.ofBits .f32 0x7F800000#32) fun k : Fin 252 =>
       if Ideal.cmp .olt y (Ideal.ofBits .f32 (lit k)) = 1#1 then Ideal.ofBits .f32 (lit k) else Ideal.ofBits .f32 0x7F800000#32) = scaleOf y := by
  have hlt : ∀ z : EReal, Ideal.cmp .olt y z = 1#1 ↔ y < z := by
    intro z
    unfold Ideal.cmp
    by_cases h : y < z <;> simp [h]
  have htop : Ideal.ofBits .f32 0x7F800000#32 = ⊤ := P_top
  have h1 : Ideal.ofBits .f32 0x00800000#32 = P 1 := rfl
  rw [scaleOf_eq ht, htop]
  simp only [hlt, hl, h1]
  obtain ⟨h0, ha, hb⟩ := id ht
  by_cases h : t = 0
  · subst h
    rw [if_pos hb, if_pos rfl]
  · rw [if_neg h]
    have hy : ¬ y < P 1 := not_lt.mpr ((expo_le ht 1 le_rfl (by omega)).mpr (by omega))
    rw [if_neg hy]
    apply le_antisymm
    · rw [Finset.fold_min_le]
      refine Or.inr ⟨⟨t - 1, by omega⟩, Finset.mem_univ _, ?_⟩
      have e : t - 1 + 2 = t + 1 := by omega
      show (if y < P (t - 1 + 2) then P (t - 1 + 2) else ⊤) ≤ _
      rw [e, if_pos hb]
    · rw [Finset.le_fold_min]
      refine ⟨le_top, fun k _ => ?_⟩
      show P (t + 1) ≤ if y < P (k.val + 2) then P (k.val + 2) else ⊤
      by_cases hk : y < P (k.val + 2)
      · rw [if_pos hk]
        have hn : ¬ (k.val + 2 ≤ t) := fun q => absurd hk (not_lt.mpr ((expo_le ht _ (by omega) (by omega)).mpr q))
        exact P_mono _ _ (by omega) (by omega) (by omega)
      · rw [if_neg hk]; exact le_top

end Cert.Rows

end
-- ==== Proof.Bound.lean ====
/- The bound that keeps every group's scale a power of two below the greatest one: a normalised value without its weight is at most 72 in
   magnitude, whatever the row, so that a finite norm weight bounds the quantity that makes the scale. -/
module

public import proofs.«01_k».proof.Proof.Scale

@[expose] public section

set_option maxRecDepth 16384

noncomputable section

namespace Cert.Rows

open Idealize.ShloMosaic
open scoped BigOperators

/-- The float word of the row length reads as the real 5120. -/
theorem ofBits_5120 : Ideal.ofBits .f32 0x45A00000#32 = ((5120 : ℝ) : EReal) := by
  show Ideal.ieee 8 23 0x45A00000#32 = _
  unfold Ideal.ieee
  simp only [show ((0x45A00000#32 : BitVec 32).extractLsb' (8 + 23) 1 == 1#1) = false from by decide,
    show ((0x45A00000#32 : BitVec 32).extractLsb' 23 8).toNat = 139 from by decide,
    show ((0x45A00000#32 : BitVec 32).extractLsb' 0 23).toNat = 2097152 from by decide]
  norm_num

/-- The word of the small constant of the norm reads as a positive real. -/
theorem ofBits_eps : ∃ e : ℝ, 0 < e ∧ Ideal.ofBits .f32 0x358637BD#32 = (e : EReal) := by
  refine ⟨(8388608 + 407485 : ℝ) * (2 : ℝ) ^ (-43 : ℤ), by positivity, ?_⟩
  show Ideal.ieee 8 23 0x358637BD#32 = _
  unfold Ideal.ieee
  simp only [show ((0x358637BD#32 : BitVec 32).extractLsb' (8 + 23) 1 == 1#1) = false from by decide,
    show ((0x358637BD#32 : BitVec 32).extractLsb' 23 8).toNat = 107 from by decide,
    show ((0x358637BD#32 : BitVec 32).extractLsb' 0 23).toNat = 407485 from by decide]
  norm_num

/-- The word of the rounded 1/448 reads as this exact fraction. -/
theorem ofBits_inv448 : Ideal.ofBits .f32 0x3B124925#32 = (((9586981 : ℝ) / 2 ^ 32 : ℝ) : EReal) := by
  show Ideal.ieee 8 23 0x3B124925#32 = _
  unfold Ideal.ieee
  simp only [show ((0x3B124925#32 : BitVec 32).extractLsb' (8 + 23) 1 == 1#1) = false from by decide,
    show ((0x3B124925#32 : BitVec 32).extractLsb' 23 8).toNat = 118 from by decide,
    show ((0x3B124925#32 : BitVec 32).extractLsb' 0 23).toNat = 1198373 from by decide]
  norm_num

/-- The word of the greatest finite bfloat16 reads as this real. -/
theorem ofBits_wmax : Ideal.ofBits .f32 0x7F7F0000#32 = ((16711680 * 2 ^ 104 : ℝ) : EReal) := by
  show Ideal.ieee 8 23 0x7F7F0000#32 = _
  unfold Ideal.ieee
  simp only [show ((0x7F7F0000#32 : BitVec 32).extractLsb' (8 + 23) 1 == 1#1) = false from by decide,
    show ((0x7F7F0000#32 : BitVec 32).extractLsb' 23 8).toNat = 254 from by decide,
    show ((0x7F7F0000#32 : BitVec 32).extractLsb' 0 23).toNat = 8323072 from by decide]
  norm_num

/-- A square is never negative, for infinite values too. -/
theorem sq_nonneg' (x : EReal) : 0 ≤ x * x := by
  induction x with
  | bot => simp
  | top => simp
  | coe r => exact_mod_cast mul_self_nonneg r

/-- A row's value times its reciprocal root mean square is a real number of magnitude at most 72. -/
theorem rms_bound (x : Fin 5120 → EReal) (d : Fin 5120) : ∃ a : ℝ, x d * rms x = (a : EReal) ∧ |a| ≤ 72 := by
  obtain ⟨e, he, hE⟩ := ofBits_eps
  by_cases hx : ∃ k, x k * x k = ⊤
  · obtain ⟨k, hk⟩ := hx
    have hs : ∑ k, x k * x k = ⊤ := top_le_iff.mp (hk ▸ Finset.single_le_sum (f := fun k => x k * x k) (fun i _ => sq_nonneg' (x i)) (Finset.mem_univ k))
    refine ⟨0, ?_, by norm_num⟩
    have hr : rms x = 0 := by
      unfold rms
      rw [hs, ofBits_5120, hE]
      have hd : Ideal.div ⊤ ((5120 : ℝ) : EReal) = ⊤ := by
        unfold Ideal.div
        rw [if_neg (by norm_num), ← EReal.coe_inv]
        exact EReal.top_mul_coe_of_pos (by norm_num)
      rw [hd, EReal.top_add_coe]
      rfl
    rw [hr, mul_zero]; rfl
  · have hf : ∀ k, ∃ r : ℝ, x k = r := by
      intro k
      induction h : x k with
      | bot => exact absurd ⟨k, by rw [h]; simp⟩ hx
      | top => exact absurd ⟨k, by rw [h]; simp⟩ hx
      | coe r => exact ⟨r, rfl⟩
    choose f hf using hf
    have hs : ∑ k, x k * x k = ((∑ k, f k * f k : ℝ) : EReal) := by
      generalize (Finset.univ : Finset (Fin 5120)) = s
      induction s using Finset.induction_on with
      | empty => simp
      | insert a s ha ih => rw [Finset.sum_insert ha, Finset.sum_insert ha, ih, hf a, EReal.coe_add, EReal.coe_mul]
    have hn : (0 : ℝ) ≤ ∑ k, f k * f k := Finset.sum_nonneg fun k _ => mul_self_nonneg _
    have hle : f d * f d ≤ ∑ k, f k * f k := Finset.single_le_sum (f := fun k => f k * f k) (fun k _ => mul_self_nonneg _) (Finset.mem_univ d)
    generalize (∑ k, f k * f k : ℝ) = S at hs hn hle
    have hq : 0 < S / 5120 + e := by positivity
    have hr : rms x = (((Real.sqrt (S / 5120 + e))⁻¹ : ℝ) : EReal) := by
      unfold rms
      rw [hs, ofBits_5120, hE]
      have hd : Ideal.div ((S : ℝ) : EReal) ((5120 : ℝ) : EReal) = ((S / 5120 : ℝ) : EReal) := by
        unfold Ideal.div
        rw [if_neg (by norm_num), ← EReal.coe_inv, ← EReal.coe_mul]; rfl
      rw [hd, ← EReal.coe_add]
      show (if S / 5120 + e < 0 then (⊥ : EReal) else if S / 5120 + e = 0 then ⊤ else (((Real.sqrt (S / 5120 + e))⁻¹ : ℝ) : EReal)) = _
      rw [if_neg (not_lt.mpr hq.le), if_neg hq.ne']
    refine ⟨f d * (Real.sqrt (S / 5120 + e))⁻¹, by rw [hr, hf d, EReal.coe_mul], ?_⟩
    apply abs_le_of_sq_le_sq _ (by norm_num)
    rw [mul_pow, inv_pow, Real.sq_sqrt hq.le, ← div_eq_mul_inv, div_le_iff₀ hq]
    nlinarith

/-- With finite norm weights the quantity that makes a group's scale is below two to the power 126. -/
theorem y_bound (x w : Fin 5120 → EReal) (hw : ∀ d, max (w d) (-(w d)) ≤ Ideal.ofBits .f32 0x7F7F0000#32) (g : Fin 40) :
    yAt x w g < P 253 := by
  have hh : ∀ d, max (hAt x w d) (-(hAt x w d)) ≤ ((72 * (16711680 * 2 ^ 104) : ℝ) : EReal) := by
    intro d
    obtain ⟨a, ha, hb⟩ := rms_bound x d
    have h1 := hw d
    rw [ofBits_wmax] at h1
    unfold hAt normed
    rw [ha]
    generalize w d = u at h1
    induction u with
    | bot => exact absurd h1 (not_le.mpr (lt_of_lt_of_le (EReal.coe_lt_top _) (le_max_right _ _)))
    | top => exact absurd h1 (not_le.mpr (lt_of_lt_of_le (EReal.coe_lt_top _) (le_max_left _ _)))
    | coe r =>
      rw [← EReal.coe_neg, max_le_iff, EReal.coe_le_coe_iff, EReal.coe_le_coe_iff] at h1
      have hr : |r| ≤ 16711680 * 2 ^ 104 := abs_le.mpr ⟨by linarith [h1.2], h1.1⟩
      have hm : |a * r| ≤ 72 * (16711680 * 2 ^ 104) := by
        rw [abs_mul]; exact mul_le_mul hb hr (abs_nonneg _) (by norm_num)
      rw [← EReal.coe_mul, ← EReal.coe_neg, max_le_iff, EReal.coe_le_coe_iff, EReal.coe_le_coe_iff]
      exact ⟨(abs_le.mp hm).2, by linarith [(abs_le.mp hm).1]⟩
  have hbot : Ideal.ofBits .f32 0xFF800000#32 = ⊥ := by simp [Ideal.ofBits, Ideal.ieee]
  have hA : amaxOf (fun l => hAt x w (col g l)) ≤ ((72 * (16711680 * 2 ^ 104) : ℝ) : EReal) := by
    unfold amaxOf
    rw [Finset.fold_max_le, hbot]
    exact ⟨bot_le, fun l _ => hh (col g l)⟩
  have hc : (0 : EReal) ≤ (((9586981 : ℝ) / 2 ^ 32 : ℝ) : EReal) := by exact_mod_cast (by positivity : (0 : ℝ) ≤ 9586981 / 2 ^ 32)
  unfold yAt yOf
  rw [ofBits_inv448]
  refine lt_of_le_of_lt (mul_le_mul_of_nonneg_right hA hc) ?_
  rw [P_eq 253 (by omega) (by omega), ← EReal.coe_mul, EReal.coe_lt_coe_iff]
  norm_num

/-- Every group's scale quantity has an exponent. -/
theorem y_expo (x w : Fin 5120 → EReal) (hw : ∀ d, max (w d) (-(w d)) ≤ Ideal.ofBits .f32 0x7F7F0000#32) (g : Fin 40) :
    ∃ t, Expo (yAt x w g) t := expo_exists _ 252 le_rfl (y_bound x w hw g)

end Cert.Rows

end
-- ==== Proof.Equal.lean ====
/- The kernel's results and the reference's are the same, element by element. -/
module

public import proofs.«01_k».proof.Proof.KernelIdealOut
public import proofs.«01_k».proof.Proof.RefVals
public import proofs.«01_k».proof.Proof.RopeEq
public import proofs.«01_k».proof.Proof.Bound

@[expose] public section

set_option maxRecDepth 16384

noncomputable section

namespace Cert.Equal

open Cert.Rows Cert.Rope
open Idealize.ShloMosaic Idealize.ShloMosaic.TcCoe

/-- The kernel's memory and the reference's. -/
abbrev KMem := (ℓ : Loc Cert.KernelIdeal.nD Cert.KernelIdeal.τ Cert.KernelIdeal.sig) → Buf (Elt Ideal) ℓ
/-- The reference's memory over the extended reals. -/
abbrev RMem := (ℓ : Loc Cert.ReferenceIdeal.nD Cert.ReferenceIdeal.τ Cert.ReferenceIdeal.sig) → Buf (Elt Ideal) ℓ
/-- An array of the kernel's memory, and one of the reference's. -/
abbrev kM (m : KMem) (c : Dev Cert.KernelIdeal.nD) (b : Ref Cert.KernelIdeal.sig .tc) := m ((c : Thread Cert.KernelIdeal.nD Cert.KernelIdeal.τ).loc b)
/-- What the reference's memory holds at a buffer of a device. -/
abbrev rM (m : RMem) (c : Dev Cert.ReferenceIdeal.nD) (b : Ref Cert.ReferenceIdeal.sig .tc) := m ((c : Thread Cert.ReferenceIdeal.nD Cert.ReferenceIdeal.τ).loc b)

/-- The two memories hold the same arguments, the norm weights are finite and no position overflows. -/
structure Same (m : KMem) (m' : RMem) (c : Dev 1) : Prop where
  a0 : rM m' c Cert.ReferenceIdeal.main_arg0 = kM m c Cert.KernelIdeal.main_arg0
  a1 : rM m' c Cert.ReferenceIdeal.main_arg1 = kM m c Cert.KernelIdeal.main_arg1
  a2 : rM m' c Cert.ReferenceIdeal.main_arg2 = kM m c Cert.KernelIdeal.main_arg2
  a3 : rM m' c Cert.ReferenceIdeal.main_arg3 = kM m c Cert.KernelIdeal.main_arg3
  a4 : rM m' c Cert.ReferenceIdeal.main_arg4 = kM m c Cert.KernelIdeal.main_arg4
  w : ∀ d : Fin 5120, max (Cert.ReferenceIdeal.Hand.vecW m' c d) (-(Cert.ReferenceIdeal.Hand.vecW m' c d)) ≤ Ideal.ofBits .f32 0x7F7F0000#32
  p : ∀ b : Fin 4, (show BitVec 32 from rM m' c Cert.ReferenceIdeal.main_arg4 (ix1 b)).toInt ≤ 2147477504

/-- The table of powers of two. -/
theorem lit0_eq : ∀ k : Fin 252, Cert.ReferenceIdeal.lit0 k = word (k.val + 2) := by decide +kernel
/-- The two tables of frequencies agree, and hold real numbers. -/
theorem freq_tables : ∀ l : Fin 128, Cert.KernelIdeal.lit0 l = Cert.ReferenceIdeal.lit1 ⟨l.val % 64, Nat.mod_lt _ (by decide)⟩ := by decide +kernel
/-- No entry of the table of inverse frequencies is infinite or NaN. -/
theorem freq_fields : ∀ j : Fin 64, ((Cert.ReferenceIdeal.lit1 j).extractLsb' 23 8).toNat ≠ 255 := by decide +kernel

/-- Rotations of equal heads by equal angles are equal. -/
theorem rotR_congr {y y' : Fin 128 → EReal} {C C' S S' : Fin 64 → EReal} (h1 : ∀ l, y l = y' l) (h2 : ∀ j, C j = C' j) (h3 : ∀ j, S j = S' j) (l : Fin 128) :
    Cert.ReferenceIdeal.Hand.rotR y C S l = Cert.ReferenceIdeal.Hand.rotR y' C' S' l := by
  rw [funext h1, funext h2, funext h3]

/-- The reference's scale is the kernel's. -/
theorem refScale_eq {y : EReal} {t : Nat} (ht : Expo y t) : Cert.ReferenceIdeal.Hand.refScale y = scaleOf y :=
  least_power ht _ lit0_eq

variable {m : KMem} {m' : RMem} {c : Dev 1} (h : Same m m' c)
include h

/-- The two programs read the same rows of activations. -/
theorem rowX_eq (b : Fin 4) (s : Fin 6144) : Cert.KernelIdeal.Hand.rowX m c b s = Cert.ReferenceIdeal.Hand.rowX m' c b s := by
  funext d
  exact (congrFun (Cert.KernelIdeal.Hand.V_main_arg0 m c) (ix3 b s d)).trans (congrFun h.a0 (ix3 b s d)).symm

/-- The two programs read the same norm weights. -/
theorem vecW_eq : Cert.KernelIdeal.Hand.vecW m c = Cert.ReferenceIdeal.Hand.vecW m' c := by
  funext d
  exact (Cert.KernelIdeal.Hand.vecW_eq m c d).trans (congrFun h.a1 (ix1 d)).symm

/-- The scales. -/
theorem scale_eq (b : Fin 4) (s : Fin 6144) (g : Fin 40) :
    @Eq EReal (Cert.ReferenceIdeal.Gen.V m' c Cert.ReferenceIdeal.main_v29 (ix3 b s g)) (scaleAt (Cert.KernelIdeal.Hand.rowX m c b s) (Cert.KernelIdeal.Hand.vecW m c) g) := by
  obtain ⟨t, ht⟩ := y_expo (Cert.ReferenceIdeal.Hand.rowX m' c b s) (Cert.ReferenceIdeal.Hand.vecW m' c) h.w g
  rw [rowX_eq h, vecW_eq h]
  exact (Cert.ReferenceIdeal.Hand.v29_eq m' c b s g).trans (refScale_eq ht)

/-- The codes. -/
theorem code_eq (b : Fin 4) (s : Fin 6144) (d : Fin 5120) :
    @Eq EReal (Cert.ReferenceIdeal.Gen.V m' c Cert.ReferenceIdeal.main_v37 (ix3 b s d)) (codeAt (Cert.KernelIdeal.Hand.rowX m c b s) (Cert.KernelIdeal.Hand.vecW m c) d) := by
  obtain ⟨t, ht⟩ := y_expo (Cert.ReferenceIdeal.Hand.rowX m' c b s) (Cert.ReferenceIdeal.Hand.vecW m' c) h.w (grp d)
  rw [rowX_eq h, vecW_eq h]
  refine (Cert.ReferenceIdeal.Hand.v37_eq m' c b s d).trans ?_
  unfold codeAt codeOf
  rw [invOf_eq ht, refScale_eq ht]

/-- The dequantised activations. -/
theorem xa_eq (b : Fin 4) (s : Fin 6144) (d : Fin 5120) :
    Cert.ReferenceIdeal.Hand.xaR (Cert.ReferenceIdeal.Hand.U m' c) b s d = xaAt (Cert.KernelIdeal.Hand.rowX m c b s) (Cert.KernelIdeal.Hand.vecW m c) d :=
  congrArg₂ (fun x y : EReal => x * y) ((Cert.ReferenceIdeal.Hand.U_v38_0 m' c (ix3 b s d)).trans (code_eq h b s d))
    ((congrFun (Cert.ReferenceIdeal.Hand.U_v29 m' c) (ix3 b s (grp d))).trans (scale_eq h b s (grp d)))

/-- The dequantised weights. -/
theorem wa_eq (d : Fin 5120) (n : Fin 1792) : @Eq EReal (Cert.ReferenceIdeal.Hand.waR (Cert.ReferenceIdeal.Hand.U m' c) d n) (Cert.KernelIdeal.Hand.waM m c (ix2 d n)) :=
  congrArg₂ (fun x y : EReal => x * y)
    ((Cert.ReferenceIdeal.Hand.U_v38_1 m' c (ix2 d n)).trans ((congrFun h.a2 (ix2 d n)).trans (congrFun (Cert.KernelIdeal.Hand.V_main_arg2 m c) (ix2 d n)).symm))
    ((congrFun (Cert.ReferenceIdeal.Hand.U_arg3 m' c) _).trans ((congrFun h.a3 _).trans (congrFun (Cert.KernelIdeal.Hand.V_main_arg3 m c) _).symm))

/-- A head's product. -/
theorem head_eq (b : Fin 4) (s : Fin 6144) (k : Fin 14) (l : Fin 128) (n : Fin 1792) (hn : n = headCol k l) :
    ∑ d, Cert.ReferenceIdeal.Hand.xaR (Cert.ReferenceIdeal.Hand.U m' c) b s d * Cert.ReferenceIdeal.Hand.waR (Cert.ReferenceIdeal.Hand.U m' c) d n
      = headOf (xaAt (Cert.KernelIdeal.Hand.rowX m c b s) (Cert.KernelIdeal.Hand.vecW m c)) (fun d j => Cert.KernelIdeal.Hand.waM m c (ix2 d j)) k l := by
  subst hn
  unfold headOf dotAt
  exact Finset.sum_congr rfl fun d _ => congrArg₂ (fun x y : EReal => x * y) (xa_eq h b s d) (wa_eq h d _)

/-- The reference's angle of a position. -/
theorem ang_eq (b : Fin 4) (s : Fin 6144) (f : Fin 64 → ℝ) (hf : ∀ j, Ideal.ofBits .f32 (Cert.ReferenceIdeal.lit1 j) = ((f j : ℝ) : EReal)) (j : Fin 64) :
    Cert.ReferenceIdeal.Hand.angR (Cert.ReferenceIdeal.Hand.U m' c) b s j
      = (((((show BitVec 32 from rM m' c Cert.ReferenceIdeal.main_arg4 (ix1 b)).toInt : ℝ) + (s.val : ℝ)) * f j : ℝ) : EReal) := by
  unfold Cert.ReferenceIdeal.Hand.angR
  have e := congrFun (Cert.ReferenceIdeal.Hand.U_arg4 m' c) (ix1 b)
  have e2 := toInt_add_row (show BitVec 32 from rM m' c Cert.ReferenceIdeal.main_arg4 (ix1 b)) (h.p b) s.val s.isLt
  rw [EReal.coe_mul, ← hf j]
  refine congrArg₂ (fun x y : EReal => x * y) ?_ (Cert.ReferenceIdeal.Hand.U_cst m' c j)
  refine (congrArg (fun v : BitVec 32 => (((v + BitVec.ofNat 32 s.val).toInt : ℝ) : EReal)) e).trans ?_
  refine (congrArg (fun z : ℤ => ((z : ℝ) : EReal)) e2).trans ?_
  push_cast
  rfl

/-- A rotated head of the kernel is the reference's rotation of that head. -/
theorem rope_eq (b : Fin 4) (s : Fin 6144) (st n : Nat) (hs : st + n ≤ 14) (k : Fin n) (l : Fin 128) :
    Cert.KernelIdeal.Hand.ropeOut m c st n hs (ix4 b s k l)
      = Cert.ReferenceIdeal.Hand.rotR (headOf (xaAt (Cert.KernelIdeal.Hand.rowX m c b s) (Cert.KernelIdeal.Hand.vecW m c)) (fun d j => Cert.KernelIdeal.Hand.waM m c (ix2 d j)) ⟨st + k.val, by omega⟩)
          (fun j => Ideal.cos (Cert.ReferenceIdeal.Hand.angR (Cert.ReferenceIdeal.Hand.U m' c) b s j))
          (fun j => Ideal.sin (Cert.ReferenceIdeal.Hand.angR (Cert.ReferenceIdeal.Hand.U m' c) b s j)) l := by
  have hf : ∀ j, ∃ r : ℝ, Ideal.ofBits .f32 (Cert.ReferenceIdeal.lit1 j) = ((r : ℝ) : EReal) := fun j => ofBits_real _ (freq_fields j)
  choose f hf using hf
  have hg : ∀ l : Fin 128, @Eq EReal (Cert.KernelIdeal.Hand.V m c Cert.KernelIdeal.main_v0 (ix2 0 l)) ((f ⟨l.val % 64, Nat.mod_lt _ (by decide)⟩ : ℝ) : EReal) := fun l => by
    rw [← hf, ← freq_tables l]; exact Cert.KernelIdeal.Hand.freq_eq m c l
  have hpos : Cert.KernelIdeal.Hand.posBase m b s = ((((show BitVec 32 from rM m' c Cert.ReferenceIdeal.main_arg4 (ix1 b)).toInt : ℝ) + ((s.val / 256 * 256 : ℕ) : ℝ) : ℝ) : EReal) := by
    have e : (Cert.KernelIdeal.Hand.tbM0_0.view.read (Elt Ideal) (Cert.KernelIdeal.Hand.tbl m 0) (ix1 b) : BitVec 32) = rM m' c Cert.ReferenceIdeal.main_arg4 (ix1 b) := by
      obtain rfl : c = 0 := Subsingleton.elim _ _
      exact (congrFun (Cert.KernelIdeal.Hand.V_main_arg4 m 0) (ix1 b)).trans (congrFun h.a4 (ix1 b)).symm
    unfold Cert.KernelIdeal.Hand.posBase
    rw [e]
    exact baseOf_eq _ (h.p b) b s
  unfold Cert.KernelIdeal.Hand.ropeOut ropeOf Cert.KernelIdeal.Hand.cosM Cert.KernelIdeal.Hand.sinM
  have hr : (FloatOps.sitofp .f32 (BitVec.ofNat 32 (s.val % 256)) : Ideal .f32) = (((s.val % 256 : ℕ) : ℝ) : EReal) := row_eq _ (Nat.mod_lt _ (by decide))
  have hsum : ((s.val / 256 * 256 : ℕ) : ℝ) + ((s.val % 256 : ℕ) : ℝ) = (s.val : ℝ) := by
    rw [← Nat.cast_add]; congr 1; omega
  exact rope_abs _ _ _ _ _ _ _ _ f hpos hr hg (by rw [add_assoc, hsum]) (ang_eq h b s f hf) l

/-! ## The results -/

/-- The first result, q: the reference's array is the one that the kernel leaves. -/
theorem v0_eq : Cert.ReferenceIdeal.Hand.at_ (StableHlo.after Cert.ReferenceIdeal.Gen.hostOps1 (Cert.ReferenceIdeal.Hand.U m' c)) Cert.ReferenceIdeal.main_v100 = Cert.KernelIdeal.Hand.ropeOut m c 0 10 (by decide) := by
  rw [Cert.ReferenceIdeal.Hand.t_main_v100]
  funext i
  obtain ⟨b, s, k, l, rfl⟩ : ∃ (b : Fin 4) (s : Fin 6144) (k : Fin 10) (l : Fin 128), i = ix4 b s k l := ⟨i 0, i 1, i 2, i 3, eq_ix4 i⟩
  refine (Cert.ReferenceIdeal.Hand.t_main_v84 _ b s k l).trans (Eq.trans ?_ (rope_eq h b s 0 10 (by decide) k l).symm)
  refine rotR_congr (fun l => ?_) (fun j => Cert.ReferenceIdeal.Hand.t_v69 _ b s j) (fun j => Cert.ReferenceIdeal.Hand.t_v70 _ b s j) l
  exact (Cert.ReferenceIdeal.Hand.t_main_v71 _ b s k l).trans (head_eq h b s _ l _ (Fin.ext (by show k.val * 128 + l.val = 128 * (0 + k.val) + l.val; omega)))

/-- The second result, k: the reference's array is the one that the kernel leaves. -/
theorem v1_eq : Cert.ReferenceIdeal.Hand.at_ (StableHlo.after Cert.ReferenceIdeal.Gen.hostOps1 (Cert.ReferenceIdeal.Hand.U m' c)) Cert.ReferenceIdeal.main_v101 = Cert.KernelIdeal.Hand.ropeOut m c 10 2 (by decide) := by
  rw [Cert.ReferenceIdeal.Hand.t_main_v101]
  funext i
  obtain ⟨b, s, k, l, rfl⟩ : ∃ (b : Fin 4) (s : Fin 6144) (k : Fin 2) (l : Fin 128), i = ix4 b s k l := ⟨i 0, i 1, i 2, i 3, eq_ix4 i⟩
  refine (Cert.ReferenceIdeal.Hand.t_main_v98 _ b s k l).trans (Eq.trans ?_ (rope_eq h b s 10 2 (by decide) k l).symm)
  refine rotR_congr (fun l => ?_) (fun j => Cert.ReferenceIdeal.Hand.t_v69 _ b s j) (fun j => Cert.ReferenceIdeal.Hand.t_v70 _ b s j) l
  exact (Cert.ReferenceIdeal.Hand.t_main_v85 _ b s k l).trans (head_eq h b s _ l _ (Fin.ext (by show 1280 + (k.val * 128 + l.val) = 128 * (10 + k.val) + l.val; omega)))

/-- The third result, v: the reference's array is the one that the kernel leaves. -/
theorem v2_eq : Cert.ReferenceIdeal.Hand.at_ (StableHlo.after Cert.ReferenceIdeal.Gen.hostOps1 (Cert.ReferenceIdeal.Hand.U m' c)) Cert.ReferenceIdeal.main_v102 = Cert.KernelIdeal.Hand.plainOut m c 12 2 (by decide) := by
  rw [Cert.ReferenceIdeal.Hand.t_main_v102]
  funext i
  obtain ⟨b, s, k, l, rfl⟩ : ∃ (b : Fin 4) (s : Fin 6144) (k : Fin 2) (l : Fin 128), i = ix4 b s k l := ⟨i 0, i 1, i 2, i 3, eq_ix4 i⟩
  exact (Cert.ReferenceIdeal.Hand.t_main_v99 _ b s k l).trans (head_eq h b s _ l _ (Fin.ext (by show 1536 + (k.val * 128 + l.val) = 128 * (12 + k.val) + l.val; omega)))

/-- The fourth result, the codes: the reference's array is the one that the kernel leaves. -/
theorem v3_eq : (Cert.ReferenceIdeal.Gen.V m' c Cert.ReferenceIdeal.main_v37 : Cert.ReferenceIdeal.S4x6144x5120.Idx → EReal) = Cert.KernelIdeal.Hand.codesOut m c := by
  funext i
  obtain ⟨b, s, d, rfl⟩ : ∃ (b : Fin 4) (s : Fin 6144) (d : Fin 5120), i = ix3 b s d := ⟨i 0, i 1, i 2, eq_ix3 i⟩
  exact code_eq h b s d

/-- The fifth result, the scales: the reference's array is the one that the kernel leaves. -/
theorem v4_eq : (Cert.ReferenceIdeal.Gen.V m' c Cert.ReferenceIdeal.main_v29 : Cert.ReferenceIdeal.S4x6144x40.Idx → EReal) = Cert.KernelIdeal.Hand.scalesOut m c := by
  funext i
  obtain ⟨b, s, g, rfl⟩ : ∃ (b : Fin 4) (s : Fin 6144) (g : Fin 40), i = ix3 b s g := ⟨i 0, i 1, i 2, eq_ix3 i⟩
  exact scale_eq h b s g

end Cert.Equal

end
-- ==== Proof.RefRun.lean ====
/- The reference's results after its run. -/
module

public import proofs.«01_k».proof.Proof.RefVals

@[expose] public section

set_option maxRecDepth 16384

noncomputable section

namespace Cert.ReferenceIdeal.Hand

open Cert.ReferenceIdeal Cert.ReferenceIdeal.Gen Cert.Rows
open Idealize.ShloMosaic Idealize.ShloMosaic.TcCoe Idealize.ShloMosaic.Tactic

variable (m : (ℓ : Loc nD τ sig) → Buf (Elt Ideal) ℓ) (ρ : Dev nD → PrngReg)

/-- The contents after the run of what the last operations write or keep. -/
theorem tail_eq (c : Dev nD) (b : Ref sig .tc) :
    Pipeline.afterTail₀ cfgs (dats m) 0 (V0 m) [hostOps1] c b = at_ (StableHlo.after hostOps1 (U m c)) b := rfl

/-- The reference runs and leaves its results and its arguments. -/
theorem values : θ_run defs (onTc (τ := τ) (main (F := Ideal))) ⟨m, fun _ => 0, ρ⟩ (fun r => ∀ c : Dev nD,
      r.2.mem ((c.tc : Thread nD τ).loc main_v100) = at_ (StableHlo.after hostOps1 (U m c)) main_v100
      ∧ r.2.mem ((c.tc : Thread nD τ).loc main_v101) = at_ (StableHlo.after hostOps1 (U m c)) main_v101
      ∧ r.2.mem ((c.tc : Thread nD τ).loc main_v102) = at_ (StableHlo.after hostOps1 (U m c)) main_v102
      ∧ r.2.mem ((c.tc : Thread nD τ).loc main_v37) = V m c main_v37
      ∧ r.2.mem ((c.tc : Thread nD τ).loc main_v29) = V m c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono ?_ (θ_run_and (run_main m ρ) (unchanged m ρ))
  rintro r ⟨h, hfr⟩ c
  exact ⟨((h c).2 main_v100 (Pipeline.mem_restRefs_of main_v100 (by decide) (by decide))).trans (tail_eq m c _),
    ((h c).2 main_v101 (Pipeline.mem_restRefs_of main_v101 (by decide) (by decide))).trans (tail_eq m c _),
    ((h c).2 main_v102 (Pipeline.mem_restRefs_of main_v102 (by decide) (by decide))).trans (tail_eq m c _),
    ((h c).1 0).trans (((dats m 0 c).arrAt_in 0 rfl _).trans (A_eq m c 0)),
    ((h c).2 main_v29 (Pipeline.mem_restRefs_of main_v29 (by decide) (by decide))).trans ((tail_eq m c _).trans ((tail_v29 _).trans (U_v29 m c))),
    hfr c⟩

end Cert.ReferenceIdeal.Hand

end
-- ==== Proof.PreOf.lean ====
/- What the precondition says of the arguments. -/
module

public import proofs.«01_k».proof.Defs
public import proofs.«01_k».proof.Proof.Bound
public import Idealize.ShloMosaic.Lib.ReduceAll
public import Idealize.ShloMosaic.Lib.Pointwise
public import Idealize.ShloMosaic.Lib.ValueIdx

@[expose] public section

set_option maxRecDepth 16384

noncomputable section

namespace Cert.PreOf

open Idealize.ShloMosaic Cert.Pre_in_range
open Idealize.ShloMosaic.Tactic

variable [hF : Facts] (a0 : FVec Ideal S4x6144x5120 .bf16) (w : FVec Ideal S5120 .bf16) (a2 : FVec Ideal S5120x1792 .fp8e4m3) (a3 : FVec Ideal S40x14 .f32) (p : IVec S4 32)

/-- The precondition says that the norm weights are finite and that no position overflows. -/
theorem parts (h : fn (F := Ideal) a0 w a2 a3 p = fun _ => 1#1) :
    (∀ d : Fin 5120, max (w (ix1 d) : EReal) (-(w (ix1 d) : EReal)) ≤ Ideal.ofBits .f32 0x7F7F0000#32) ∧ ∀ b : Fin 4, (p (ix1 b)).toInt ≤ 2147477504 := by
  have h0 := congrFun h (fun a => a.elim0)
  have h1 : Host.reduce IntOp.andi (cmpf .ole (Host.absf (extf .f32 w Facts.bitsLt_bf16_f32)) (broadcastInDim S5120 ![] Facts.bcast_S_S5120 (constant (F := Ideal) S_ .f32 0x7F7F0000#32))) (constantI S_ 1 1#1) Facts.reducesTo_S5120_S_d0 Facts.h_S_ (fun a => a.elim0) = 1#1
      ∧ Host.reduce IntOp.andi (cmpi .sle p (broadcastInDim S4 ![] Facts.bcast_S_S4 (constantI S_ 32 2147477504#32))) (constantI S_ 1 1#1) Facts.reducesTo_S4_S_d0 Facts.h_S_ (fun a => a.elim0) = 1#1 := by
    have h2 : ∀ x y : BitVec 1, IntOp.andi x y = 1#1 → x = 1#1 ∧ y = 1#1 := by decide
    exact h2 _ _ h0
  obtain ⟨h1, h2⟩ := h1
  constructor
  · intro d
    have k := Host.reduce_andi_all _ _ _ _ _ h1 (ix1 d)
    have k' : Ideal.cmp .ole (max (w (ix1 d) : EReal) (-(w (ix1 d) : EReal))) (Ideal.ofBits .f32 0x7F7F0000#32) = 1#1 := k
    by_contra hc
    simp [Ideal.cmp, hc] at k'
  · intro b
    have k := Host.reduce_andi_all _ _ _ _ _ h2 (ix1 b)
    have k' : IntOp.cmpi .sle (p (ix1 b)) 2147477504#32 = 1#1 := k
    by_contra hc
    have : (p (ix1 b)).sle 2147477504#32 = false := by
      rw [BitVec.sle_eq_decide]
      have e : (2147477504#32 : BitVec 32).toInt = 2147477504 := by decide
      rw [e]; simpa using hc
    simp [IntOp.cmpi, this] at k'

end Cert.PreOf

end
-- ==== Proof.lean ====
module

public import proofs.«01_k».proof.Defs
public import proofs.«01_k».proof.Proof.KernelFrame
public import proofs.«01_k».proof.Proof.KernelIdealFrame
public import proofs.«01_k».proof.Proof.Gen.ReferenceIdeal.Frame
public import proofs.«01_k».proof.Proof.Equal
public import proofs.«01_k».proof.Proof.RefRun
public import proofs.«01_k».proof.Proof.PreOf

@[expose] public section

set_option maxRecDepth 16384

noncomputable section

namespace Cert.Proof

open Idealize.ShloMosaic Idealize.SL.Sem

/-- The kernel and the reference end with equal results. -/
theorem algebraic (hP : Cert.Pre_in_range.Facts) :
    Cert.algebraic_KernelIdeal_ReferenceIdeal_pre_in_range (hKernelIdeal := Cert.KernelIdeal.Gen.facts) (hReferenceIdeal := Cert.ReferenceIdeal.Gen.facts) (hPre_in_range := hP) := by
  intro m g m' g' hpre hargs
  have hs : ∀ c, Cert.Equal.Same m m' c := fun c =>
    have hp := Cert.PreOf.parts (hF := hP) _ _ _ _ _ (hpre c)
    { a0 := (hargs c).1, a1 := (hargs c).2.1, a2 := (hargs c).2.2.1, a3 := (hargs c).2.2.2.1, a4 := (hargs c).2.2.2.2
      w := fun d => by
        have e : Cert.ReferenceIdeal.Hand.vecW m' c d = _ := congrFun (hargs c).2.1 (ix1 d)
        rw [e]; exact hp.1 d
      p := fun b => by
        have e : (Cert.Equal.rM m' c Cert.ReferenceIdeal.main_arg4 (ix1 b) : BitVec 32) = _ := congrFun (hargs c).2.2.2.2 (ix1 b)
        rw [e]; exact hp.2 b }
  refine ⟨_, _, _, _, _, Cert.KernelIdeal.Hand.values m g trivial, ?_⟩
  refine (θ_run _ _ _).mono ?_ (Cert.ReferenceIdeal.Hand.values m' g')
  intro r h c
  obtain ⟨h0, h1, h2, h3, h4, ha⟩ := h c
  exact ⟨h0.trans (Cert.Equal.v0_eq (hs c)), h1.trans (Cert.Equal.v1_eq (hs c)), h2.trans (Cert.Equal.v2_eq (hs c)),
    h3.trans (Cert.Equal.v3_eq (hs c)), h4.trans (Cert.Equal.v4_eq (hs c)), ha⟩

/-- The shapes of the precondition's program are in order. -/
theorem preFacts : Cert.Pre_in_range.Facts where
  bitsLt_bf16_f32 := by decide
  bcast_S_S5120 := by decide
  reducesTo_S5120_S_d0 := by decide
  h_S_ := by decide
  bcast_S_S4 := by decide
  reducesTo_S4_S_d0 := by decide

/-- Everything the certificate claims. -/
theorem claim : Cert.Claim :=
  ⟨Cert.Kernel.Gen.facts, Cert.KernelIdeal.Gen.facts, Cert.ReferenceIdeal.Gen.facts, preFacts,
    fun m ρ _ => Cert.Kernel.Hand.frame m ρ trivial,
    fun m ρ _ => Cert.KernelIdeal.Hand.frame m ρ trivial,
    fun m ρ _ => Cert.KernelIdeal.Hand.frame m ρ trivial,
    fun m ρ _ => Cert.ReferenceIdeal.Gen.frame m ρ,
    fun m ρ _ => Cert.ReferenceIdeal.Gen.frame m ρ,
    trivial,
    algebraic preFacts⟩

end Cert.Proof

end
